-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_in [hPre_finite_in : Cert.Pre_finite_in.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_in [hPre_finite_in : Cert.Pre_finite_in.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_tokens [hPre_finite_tokens : Cert.Pre_finite_tokens.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_tokens.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_tokens [hPre_finite_tokens : Cert.Pre_finite_tokens.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_tokens.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_in [hKernel5Ideal : Cert.Kernel5Ideal.Facts] [hPre_finite_in : Cert.Pre_finite_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_in m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_in [hReference5Ideal : Cert.Reference5Ideal.Facts] [hPre_finite_in : Cert.Pre_finite_in.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_in m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_tokens [hKernel8Ideal : Cert.Kernel8Ideal.Facts] [hPre_finite_tokens : Cert.Pre_finite_tokens.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_tokens m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_tokens [hReference8Ideal : Cert.Reference8Ideal.Facts] [hPre_finite_tokens : Cert.Pre_finite_tokens.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_tokens m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_2)) (v2 : (c : Dev Cert.Kernel4Ideal.nD) → Buf (Elt Ideal) ((c.tc : Thread Cert.Kernel4Ideal.nD Cert.Kernel4Ideal.τ).loc Cert.Kernel4Ideal.main_v6_3)) (v3 : (c : Dev Cert.Kernel4Ideal.nD) → Buf (Elt Ideal) ((c.tc : Thread Cert.Kernel4Ideal.nD Cert.Kernel4Ideal.τ).loc Cert.Kernel4Ideal.main_v6_4)) (v4 : (c : Dev Cert.Kernel4Ideal.nD) → Buf (Elt Ideal) ((c.tc : Thread Cert.Kernel4Ideal.nD Cert.Kernel4Ideal.τ).loc Cert.Kernel4Ideal.main_v6_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_2) = v1 c
          ∧ r.2.mem ((c.tc : Thread Cert.Kernel4Ideal.nD Cert.Kernel4Ideal.τ).loc Cert.Kernel4Ideal.main_v6_3) = v2 c
          ∧ r.2.mem ((c.tc : Thread Cert.Kernel4Ideal.nD Cert.Kernel4Ideal.τ).loc Cert.Kernel4Ideal.main_v6_4) = v3 c
          ∧ r.2.mem ((c.tc : Thread Cert.Kernel4Ideal.nD Cert.Kernel4Ideal.τ).loc Cert.Kernel4Ideal.main_v6_5) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v50) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_in [hKernel5Ideal : Cert.Kernel5Ideal.Facts] [hReference5Ideal : Cert.Reference5Ideal.Facts] [hPre_finite_in : Cert.Pre_finite_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_in m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v49_0)) (v1 : (c : Dev Cert.Kernel7Ideal.nD) → Buf (Elt Ideal) ((c.tc : Thread Cert.Kernel7Ideal.nD Cert.Kernel7Ideal.τ).loc Cert.Kernel7Ideal.main_v49_2)) (v2 : (c : Dev Cert.Kernel7Ideal.nD) → Buf (Elt Ideal) ((c.tc : Thread Cert.Kernel7Ideal.nD Cert.Kernel7Ideal.τ).loc Cert.Kernel7Ideal.main_v49_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v49_0) = v0 c
          ∧ r.2.mem ((c.tc : Thread Cert.Kernel7Ideal.nD Cert.Kernel7Ideal.τ).loc Cert.Kernel7Ideal.main_v49_2) = v1 c
          ∧ r.2.mem ((c.tc : Thread Cert.Kernel7Ideal.nD Cert.Kernel7Ideal.τ).loc Cert.Kernel7Ideal.main_v49_3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v174) = v0 c
          ∧ r.2.mem ((c.tc : Thread Cert.Reference7Ideal.nD Cert.Reference7Ideal.τ).loc Cert.Reference7Ideal.main_v175) = v1 c
          ∧ r.2.mem ((c.tc : Thread Cert.Reference7Ideal.nD Cert.Reference7Ideal.τ).loc Cert.Reference7Ideal.main_v173) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_tokens [hKernel8Ideal : Cert.Kernel8Ideal.Facts] [hReference8Ideal : Cert.Reference8Ideal.Facts] [hPre_finite_tokens : Cert.Pre_finite_tokens.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_tokens m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v49_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v49_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v88) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_finite_in : Cert.Pre_finite_in.Facts) (hPre_finite_tokens : Cert.Pre_finite_tokens.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_in (hKernel5Ideal := hKernel5Ideal) (hPre_finite_in := hPre_finite_in)
    ∧ quiescent_Reference5Ideal (hReference5Ideal := hReference5Ideal)
    ∧ quiescent_Reference5Ideal_pre_finite_in (hReference5Ideal := hReference5Ideal) (hPre_finite_in := hPre_finite_in)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_tokens (hKernel8Ideal := hKernel8Ideal) (hPre_finite_tokens := hPre_finite_tokens)
    ∧ quiescent_Reference8Ideal (hReference8Ideal := hReference8Ideal)
    ∧ quiescent_Reference8Ideal_pre_finite_tokens (hReference8Ideal := hReference8Ideal) (hPre_finite_tokens := hPre_finite_tokens)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_in (hKernel5Ideal := hKernel5Ideal) (hReference5Ideal := hReference5Ideal) (hPre_finite_in := hPre_finite_in)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_tokens (hKernel8Ideal := hKernel8Ideal) (hReference8Ideal := hReference8Ideal) (hPre_finite_tokens := hPre_finite_tokens)
-- ==== Pre_finite_in.lean ====
abbrev S32x256x1024 : Shape := ⟨3, ![32, 256, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S_ : Shape := ⟨0, ![]⟩

class Facts : Prop where
  bcast_S_S32x256x1024 : S_.BroadcastsInDim S32x256x1024 (![] : Fin 0 → Fin S32x256x1024.rank)
  reducesTo_S32x256x1024_S_d0_1_2 : S32x256x1024.ReducesTo [0, 1, 2] S_
  h_S_ : 0 < S_.numel
  bcast_S_S8x6x1024 : S_.BroadcastsInDim S8x6x1024 (![] : Fin 0 → Fin S8x6x1024.rank)
  reducesTo_S8x6x1024_S_d0_1_2 : S8x6x1024.ReducesTo [0, 1, 2] S_
  bcast_S_S1024 : S_.BroadcastsInDim S1024 (![] : Fin 0 → Fin S1024.rank)
  reducesTo_S1024_S_d0 : S1024.ReducesTo [0] S_
  bcast_S_S1024x5664 : S_.BroadcastsInDim S1024x5664 (![] : Fin 0 → Fin S1024x5664.rank)
  reducesTo_S1024x5664_S_d0_1 : S1024x5664.ReducesTo [0, 1] S_
  bcast_S_S5x1536 : S_.BroadcastsInDim S5x1536 (![] : Fin 0 → Fin S5x1536.rank)
  reducesTo_S5x1536_S_d0_1 : S5x1536.ReducesTo [0, 1] S_

variable [Facts]

def fn_part1 {F : FTy → Type} [FloatOps F] (main_arg4 : FVec F S5x1536 .f32) (main_v13 : IVec S_ 1) (main_v16 : IVec S1024x5664 1) : IVec S_ 1 :=
  let main_c_5 : IVec S_ 1 := constantI S_ 1 1#1
  let main_v17 : IVec S_ 1 := (fun x v => Host.reduce IntOp.andi x v reducesTo_S1024x5664_S_d0_1 h_S_) main_v16 main_c_5
  let main_v18 : IVec S_ 1 := andi main_v13 main_v17
  let main_v19 : FVec F S5x1536 .f32 := Host.absf main_arg4
  let main_cst_6 : FVec F S_ .f32 := constant S_ .f32 0x7F800000#32
  let main_v20 : FVec F S5x1536 .f32 := broadcastInDim S5x1536 ![] bcast_S_S5x1536 main_cst_6
  let main_v21 : IVec S5x1536 1 := cmpf .olt main_v19 main_v20
  let main_c_7 : IVec S_ 1 := constantI S_ 1 1#1
  let main_v22 : IVec S_ 1 := (fun x v => Host.reduce IntOp.andi x v reducesTo_S5x1536_S_d0_1 h_S_) main_v21 main_c_7
  let main_v23 : IVec S_ 1 := andi main_v18 main_v22
  main_v23

def fn {F : FTy → Type} [FloatOps F] (main_arg0 : FVec F S32x256x1024 .f32) (main_arg1 : FVec F S8x6x1024 .f32) (main_arg2 : FVec F S1024 .f32) (main_arg3 : FVec F S1024x5664 .f32) (main_arg4 : FVec F S5x1536 .f32) : IVec S_ 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_c : IVec S_ 1 := constantI S_ 1 1#1
  let main_v3 : IVec S_ 1 := (fun x v => Host.reduce IntOp.andi x v reducesTo_S32x256x1024_S_d0_1_2 h_S_) main_v2 main_c
  let main_v4 : FVec F S8x6x1024 .f32 := Host.absf main_arg1
  let main_cst_0 : FVec F S_ .f32 := constant S_ .f32 0x7F800000#32
  let main_v5 : FVec F S8x6x1024 .f32 := broadcastInDim S8x6x1024 ![] bcast_S_S8x6x1024 main_cst_0
  let main_v6 : IVec S8x6x1024 1 := cmpf .olt main_v4 main_v5
  let main_c_1 : IVec S_ 1 := constantI S_ 1 1#1
  let main_v7 : IVec S_ 1 := (fun x v => Host.reduce IntOp.andi x v reducesTo_S8x6x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5664 .f32 := Host.absf main_arg3
  let main_cst_4 : FVec F S_ .f32 := constant S_ .f32 0x7F800000#32
  let main_v15 : FVec F S1024x5664 .f32 := broadcastInDim S1024x5664 ![] bcast_S_S1024x5664 main_cst_4
  let main_v16 : IVec S1024x5664 1 := cmpf .olt main_v14 main_v15
  fn_part1 (F := F) main_arg4 main_v13 main_v16
-- ==== Pre_finite_qk.lean ====
abbrev S32x256x8x64 : Shape := ⟨4, ![32, 256, 8, 64]⟩
abbrev S_ : Shape := ⟨0, ![]⟩

class Facts : Prop where
  bcast_S_S32x256x8x64 : S_.BroadcastsInDim S32x256x8x64 (![] : Fin 0 → Fin S32x256x8x64.rank)
  reducesTo_S32x256x8x64_S_d0_1_2_3 : S32x256x8x64.ReducesTo [0, 1, 2, 3] S_
  h_S_ : 0 < S_.numel

variable [Facts]

def fn {F : FTy → Type} [FloatOps F] (main_arg0 : FVec F S32x256x8x64 .f32) (main_arg1 : FVec F S32x256x8x64 .f32) (main_arg2 : FVec F S32x256x8x64 .f32) : IVec S_ 1 :=
  let main_v0 : FVec F S32x256x8x64 .f32 := Host.absf main_arg0
  let main_cst : FVec F S_ .f32 := constant S_ .f32 0x7F800000#32
  let main_v1 : FVec F S32x256x8x64 .f32 := broadcastInDim S32x256x8x64 ![] bcast_S_S32x256x8x64 main_cst
  let main_v2 : IVec S32x256x8x64 1 := cmpf .olt main_v0 main_v1
  let main_c : IVec S_ 1 := constantI S_ 1 1#1
  let main_v3 : IVec S_ 1 := (fun x v => Host.reduce IntOp.andi x v reducesTo_S32x256x8x64_S_d0_1_2_3 h_S_) main_v2 main_c
  let main_v4 : FVec F S32x256x8x64 .f32 := Host.absf main_arg1
  let main_cst_0 : FVec F S_ .f32 := constant S_ .f32 0x7F800000#32
  let main_v5 : FVec F S32x256x8x64 .f32 := broadcastInDim S32x256x8x64 ![] bcast_S_S32x256x8x64 main_cst_0
  let main_v6 : IVec S32x256x8x64 1 := cmpf .olt main_v4 main_v5
  let main_c_1 : IVec S_ 1 := constantI S_ 1 1#1
  let main_v7 : IVec S_ 1 := (fun x v => Host.reduce IntOp.andi x v reducesTo_S32x256x8x64_S_d0_1_2_3 h_S_) main_v6 main_c_1
  let main_v8 : IVec S_ 1 := andi main_v3 main_v7
  main_v8
-- ==== Pre_finite_tokens.lean ====
abbrev S4x1024x1024 : Shape := ⟨3, ![4, 1024, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S8x6x1024 : S_.BroadcastsInDim S8x6x1024 (![] : Fin 0 → Fin S8x6x1024.rank)
  reducesTo_S8x6x1024_S_d0_1_2 : S8x6x1024.ReducesTo [0, 1, 2] S_
  bcast_S_S1024 : S_.BroadcastsInDim S1024 (![] : Fin 0 → Fin S1024.rank)
  reducesTo_S1024_S_d0 : S1024.ReducesTo [0] S_
  bcast_S_S1024x5664 : S_.BroadcastsInDim S1024x5664 (![] : Fin 0 → Fin S1024x5664.rank)
  reducesTo_S1024x5664_S_d0_1 : S1024x5664.ReducesTo [0, 1] S_
  bcast_S_S5x1536 : S_.BroadcastsInDim S5x1536 (![] : Fin 0 → Fin S5x1536.rank)
  reducesTo_S5x1536_S_d0_1 : S5x1536.ReducesTo [0, 1] S_

variable [Facts]

def fn_part1 {F : FTy → Type} [FloatOps F] (main_arg4 : FVec F S5x1536 .f32) (main_v13 : IVec S_ 1) (main_v16 : IVec S1024x5664 1) : IVec S_ 1 :=
  let main_c_5 : IVec S_ 1 := constantI S_ 1 1#1
  let main_v17 : IVec S_ 1 := (fun x v => Host.reduce IntOp.andi x v reducesTo_S1024x5664_S_d0_1 h_S_) main_v16 main_c_5
  let main_v18 : IVec S_ 1 := andi main_v13 main_v17
  let main_v19 : FVec F S5x1536 .f32 := Host.absf main_arg4
  let main_cst_6 : FVec F S_ .f32 := constant S_ .f32 0x7F800000#32
  let main_v20 : FVec F S5x1536 .f32 := broadcastInDim S5x1536 ![] bcast_S_S5x1536 main_cst_6
  let main_v21 : IVec S5x1536 1 := cmpf .olt main_v19 main_v20
  let main_c_7 : IVec S_ 1 := constantI S_ 1 1#1
  let main_v22 : IVec S_ 1 := (fun x v => Host.reduce IntOp.andi x v reducesTo_S5x1536_S_d0_1 h_S_) main_v21 main_c_7
  let main_v23 : IVec S_ 1 := andi main_v18 main_v22
  main_v23

def fn {F : FTy → Type} [FloatOps F] (main_arg0 : FVec F S4x1024x1024 .f32) (main_arg1 : FVec F S8x6x1024 .f32) (main_arg2 : FVec F S1024 .f32) (main_arg3 : FVec F S1024x5664 .f32) (main_arg4 : FVec F S5x1536 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S8x6x1024 .f32 := Host.absf main_arg1
  let main_cst_0 : FVec F S_ .f32 := constant S_ .f32 0x7F800000#32
  let main_v5 : FVec F S8x6x1024 .f32 := broadcastInDim S8x6x1024 ![] bcast_S_S8x6x1024 main_cst_0
  let main_v6 : IVec S8x6x1024 1 := cmpf .olt main_v4 main_v5
  let main_c_1 : IVec S_ 1 := constantI S_ 1 1#1
  let main_v7 : IVec S_ 1 := (fun x v => Host.reduce IntOp.andi x v reducesTo_S8x6x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5664 .f32 := Host.absf main_arg3
  let main_cst_4 : FVec F S_ .f32 := constant S_ .f32 0x7F800000#32
  let main_v15 : FVec F S1024x5664 .f32 := broadcastInDim S1024x5664 ![] bcast_S_S1024x5664 main_cst_4
  let main_v16 : IVec S1024x5664 1 := cmpf .olt main_v14 main_v15
  fn_part1 (F := F) main_arg4 main_v13 main_v16
-- ==== Kernel.lean ====
abbrev S32x256x8x64 : Shape := ⟨4, ![32, 256, 8, 64]⟩
abbrev S8192x512 : Shape := ⟨2, ![8192, 512]⟩
abbrev S8192x1536 : Shape := ⟨2, ![8192, 1536]⟩
abbrev S1024x512 : Shape := ⟨2, ![1024, 512]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S32x256x8x64, .f32⟩
  | .hbm, ⟨1, _⟩ => ⟨S32x256x8x64, .f32⟩
  | .hbm, ⟨2, _⟩ => ⟨S32x256x8x64, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1536, .f32⟩
  | .hbm, ⟨7, _⟩ => ⟨S8192x1536, .bf16⟩
  | .hbm, ⟨8, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S32x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x256x8x64 : Shape := ⟨4, ![32, 256, 8, 64]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S32x8x64x256 : Shape := ⟨4, ![32, 8, 64, 256]⟩
abbrev S8192x512 : Shape := ⟨2, ![8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S32x256x8x64, .f32⟩
  | .hbm, ⟨1, _⟩ => ⟨S32x256x8x64, .f32⟩
  | .hbm, ⟨2, _⟩ => ⟨S32x256x8x64, .f32⟩
  | .hbm, ⟨3, _⟩ => ⟨S32x8x256x256, .f32⟩
  | .hbm, ⟨4, _⟩ => ⟨S_, .f32⟩
  | .hbm, ⟨5, _⟩ => ⟨S32x8x256x256, .f32⟩
  | .hbm, ⟨6, _⟩ => ⟨S32x8x256x256, .f32⟩
  | .hbm, ⟨7, _⟩ => ⟨S_, .f32⟩
  | .hbm, ⟨8, _⟩ => ⟨S32x8x256, .f32⟩
  | .hbm, ⟨9, _⟩ => ⟨S_, .f32⟩
  | .hbm, ⟨10, _⟩ => ⟨S32x8x256, .f32⟩
  | .hbm, ⟨11, _⟩ => ⟨S32x8x256, .f32⟩
  | .hbm, ⟨12, _⟩ => ⟨S32x8x256x1, .f32⟩
  | .hbm, ⟨13, _⟩ => ⟨S32x8x256x256, .f32⟩
  | .hbm, ⟨14, _⟩ => ⟨S32x8x256x256, .f32⟩
  | .hbm, ⟨15, _⟩ => ⟨S32x8x256x256, .f32⟩
  | .hbm, ⟨16, _⟩ => ⟨S_, .f32⟩
  | .hbm, ⟨17, _⟩ => ⟨S32x8x256, .f32⟩
  | .hbm, ⟨18, _⟩ => ⟨S32x8x256x1, .f32⟩
  | .hbm, ⟨19, _⟩ => ⟨S32x8x256x256, .f32⟩
  | .hbm, ⟨20, _⟩ => ⟨S32x8x256x256, .f32⟩
  | .hbm, ⟨21, _⟩ => ⟨S32x8x64x256, .f32⟩
  | .hbm, ⟨22, _⟩ => ⟨S32x256x8x64, .f32⟩
  | .hbm, ⟨23, _⟩ => ⟨S8192x512, .f32⟩
  | .hbm, ⟨24, _⟩ => ⟨S8192x512, .bf16⟩
  | _, _ => ⟨S32x256x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S32x256x1024 : Shape := ⟨3, ![32, 256, 1024]⟩
abbrev S32x256x8x64 : Shape := ⟨4, ![32, 256, 8, 64]⟩
abbrev S32x256x512 : Shape := ⟨3, ![32, 256, 512]⟩
abbrev S8x6x1024 : Shape := ⟨3, ![8, 6, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S8192x512 : Shape := ⟨2, ![8192, 512]⟩
abbrev S8192x1024 : Shape := ⟨2, ![8192, 1024]⟩
abbrev S8192x2560 : Shape := ⟨2, ![8192, 2560]⟩
abbrev S1x1024 : Shape := ⟨2, ![1, 1024]⟩
abbrev S512x512 : Shape := ⟨2, ![512, 512]⟩
abbrev S512x2560 : Shape := ⟨2, ![512, 2560]⟩
abbrev S1x6x1024 : Shape := ⟨3, ![1, 6, 1024]⟩
abbrev S6x1024 : Shape := ⟨2, ![6, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 34
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S32x256x8x64, .f32⟩
  | .hbm, ⟨2, _⟩ => ⟨S32x256x8x64, .f32⟩
  | .hbm, ⟨3, _⟩ => ⟨S32x256x512, .f32⟩
  | .hbm, ⟨4, _⟩ => ⟨S32x256x1024, .f32⟩
  | .hbm, ⟨5, _⟩ => ⟨S32x256x1024, .f32⟩
  | .hbm, ⟨6, _⟩ => ⟨S8x6x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S8192x512, .f32⟩
  | .hbm, ⟨16, _⟩ => ⟨S8192x1024, .f32⟩
  | .hbm, ⟨17, _⟩ => ⟨S8192x1024, .f32⟩
  | .hbm, ⟨18, _⟩ => ⟨S8192x2560, .f32⟩
  | .hbm, ⟨19, _⟩ => ⟨S8192x2560, .bf16⟩
  | .hbm, ⟨20, _⟩ => ⟨S8192x1024, .f32⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x512, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S512x1024, .bf16⟩
  | .hbm, ⟨29, _⟩ => ⟨S512x1024, .bf16⟩
  | .hbm, ⟨30, _⟩ => ⟨S1024x1024, .bf16⟩
  | .hbm, ⟨31, _⟩ => ⟨S1024x4096, .bf16⟩
  | .hbm, ⟨32, _⟩ => ⟨S4096x1024, .bf16⟩
  | .hbm, ⟨33, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2560, .bf16⟩
  | .local _ .vmem, ⟨7, _⟩ => ⟨S512x2560, .bf16⟩
  | .local _ .vmem, ⟨8, _⟩ => ⟨S1x6x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x4096, .bf16⟩
  | .local _ .vmem, ⟨16, _⟩ => ⟨S4096x1024, .bf16⟩
  | .local _ .vmem, ⟨17, _⟩ => ⟨S512x1024, .f32⟩
  | .local _ .vmem, ⟨18, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32x256x1024 : Shape := ⟨3, ![32, 256, 1024]⟩
abbrev S32x256x8x64 : Shape := ⟨4, ![32, 256, 8, 64]⟩
abbrev S32x256x512 : Shape := ⟨3, ![32, 256, 512]⟩
abbrev S8x6x1024 : Shape := ⟨3, ![8, 6, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S6x1024 : Shape := ⟨2, ![6, 1024]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S32x256x4096 : Shape := ⟨3, ![32, 256, 4096]⟩
abbrev S8192x1024 : Shape := ⟨2, ![8192, 1024]⟩

abbrev nBuf : Space → Nat
  | .hbm => 133
  | .vmem => 0
  | .smem => 0
  | _ => 0

abbrev hbmTy0_0 (i : Nat) : BufTy := match i % 128 with
  | 0 => ⟨S32x256x1024, .f32⟩
  | 1 => ⟨S32x256x8x64, .f32⟩
  | 2 => ⟨S32x256x8x64, .f32⟩
  | 3 => ⟨S32x256x512, .f32⟩
  | 4 => ⟨S32x256x1024, .f32⟩
  | 5 => ⟨S32x256x1024, .f32⟩
  | 6 => ⟨S8x6x1024, .f32⟩
  | 7 => ⟨S1024, .f32⟩
  | 8 => ⟨S1024, .f32⟩
  | 9 => ⟨S1024, .f32⟩
  | 10 => ⟨S512x1024, .f32⟩
  | 11 => ⟨S512x1024, .f32⟩
  | 12 => ⟨S1024x1024, .f32⟩
  | 13 => ⟨S1024x4096, .f32⟩
  | 14 => ⟨S4096x1024, .f32⟩
  | 15 => ⟨S1x6x1024, .f32⟩
  | 16 => ⟨S6x1024, .f32⟩
  | 17 => ⟨S1x6x1024, .f32⟩
  | 18 => ⟨S1x1x1024, .f32⟩
  | 19 => ⟨S1x1024, .f32⟩
  | 20 => ⟨S1x1x1024, .f32⟩
  | 21 => ⟨S1x1024, .f32⟩
  | 22 => ⟨S1x1x1024, .f32⟩
  | 23 => ⟨S1x1024, .f32⟩
  | 24 => ⟨S1x1x1024, .f32⟩
  | 25 => ⟨S1x1024, .f32⟩
  | 26 => ⟨S32x256x512, .f32⟩
  | 27 => ⟨S32x256x512, .f32⟩
  | 28 => ⟨S_, .f32⟩
  | 29 => ⟨S32x256x512, .f32⟩
  | 30 => ⟨S32x256x512, .f32⟩
  | 31 => ⟨S_, .f32⟩
  | 32 => ⟨S32x256x512, .f32⟩
  | 33 => ⟨S32x256x512, .f32⟩
  | 34 => ⟨S32x256x512, .f32⟩
  | 35 => ⟨S32x256x8x64, .f32⟩
  | 36 => ⟨S32x256x8x64, .f32⟩
  | 37 => ⟨S32x256x512, .f32⟩
  | 38 => ⟨S32x256x1024, .f32⟩
  | 39 => ⟨S32x256x512, .f32⟩
  | 40 => ⟨S32x256x1024, .f32⟩
  | 41 => ⟨S32x256x1024, .f32⟩
  | 42 => ⟨S32x256x1024, .f32⟩
  | 43 => ⟨S_, .f32⟩
  | 44 => ⟨S32x256x1024, .f32⟩
  | 45 => ⟨S32x256x1024, .f32⟩
  | 46 => ⟨S_, .f32⟩
  | 47 => ⟨S32x256x1024, .f32⟩
  | 48 => ⟨S32x256x1024, .f32⟩
  | 49 => ⟨S32x256x1024, .f32⟩
  | 50 => ⟨S32x256x1024, .f32⟩
  | 51 => ⟨S32x256x1024, .f32⟩
  | 52 => ⟨S_, .f32⟩
  | 53 => ⟨S32x256x1024, .f32⟩
  | 54 => ⟨S32x256x1024, .f32⟩
  | 55 => ⟨S_, .f32⟩
  | 56 => ⟨S32x256x1024, .f32⟩
  | 57 => ⟨S32x256x1024, .f32⟩
  | 58 => ⟨S32x256x1024, .f32⟩
  | 59 => ⟨S32x256x1024, .f32⟩
  | 60 => ⟨S32x256x1024, .f32⟩
  | 61 => ⟨S32x256x1024, .f32⟩
  | 62 => ⟨S_, .f32⟩
  | 63 => ⟨S32x256, .f32⟩
  | 64 => ⟨S32x256x1, .f32⟩
  | 65 => ⟨S_, .f32⟩
  | 66 => ⟨S32x256x1, .f32⟩
  | 67 => ⟨S32x256x1, .f32⟩
  | 68 => ⟨S_, .f32⟩
  | 69 => ⟨S32x256x1, .f32⟩
  | 70 => ⟨S32x256x1, .f32⟩
  | 71 => ⟨S32x256x1, .f32⟩
  | 72 => ⟨S32x256x1024, .f32⟩
  | 73 => ⟨S32x256x1024, .f32⟩
  | 74 => ⟨S1x1x1024, .f32⟩
  | 75 => ⟨S32x256x1024, .f32⟩
  | 76 => ⟨S32x256x1024, .f32⟩
  | 77 => ⟨S1x1x1024, .f32⟩
  | 78 => ⟨S32x256x1024, .f32⟩
  | 79 => ⟨S32x256x1024, .f32⟩
  | 80 => ⟨S32x256x1024, .f32⟩
  | 81 => ⟨S32x256x1024, .f32⟩
  | 82 => ⟨S_, .f32⟩
  | 83 => ⟨S32x256, .f32⟩
  | 84 => ⟨S32x256x1, .f32⟩
  | 85 => ⟨S_, .f32⟩
  | 86 => ⟨S32x256x1, .f32⟩
  | 87 => ⟨S32x256x1, .f32⟩
  | 88 => ⟨S_, .f32⟩
  | 89 => ⟨S32x256x1, .f32⟩
  | 90 => ⟨S32x256x1, .f32⟩
  | 91 => ⟨S32x256x1, .f32⟩
  | 92 => ⟨S32x256x1024, .f32⟩
  | 93 => ⟨S32x256x1024, .f32⟩
  | 94 => ⟨S1x1x1024, .f32⟩
  | 95 => ⟨S32x256x1024, .f32⟩
  | 96 => ⟨S32x256x1024, .f32⟩
  | 97 => ⟨S_, .f32⟩
  | 98 => ⟨S1x1024, .f32⟩
  | 99 => ⟨S1x1024, .f32⟩
  | 100 => ⟨S1x1x1024, .f32⟩
  | 101 => ⟨S32x256x1024, .f32⟩
  | 102 => ⟨S32x256x1024, .f32⟩
  | 103 => ⟨S1x1x1024, .f32⟩
  | 104 => ⟨S32x256x1024, .f32⟩
  | 105 => ⟨S32x256x1024, .f32⟩
  | 106 => ⟨S32x256x4096, .f32⟩
  | 107 => ⟨S_, .f32⟩
  | 108 => ⟨S32x256x4096, .f32⟩
  | 109 => ⟨S32x256x4096, .f32⟩
  | 110 => ⟨S32x256x4096, .f32⟩
  | 111 => ⟨S32x256x1024, .f32⟩
  | 112 => ⟨S32x256x1024, .f32⟩
  | 113 => ⟨S_, .f32⟩
  | 114 => ⟨S32x256, .f32⟩
  | 115 => ⟨S32x256x1, .f32⟩
  | 116 => ⟨S_, .f32⟩
  | 117 => ⟨S32x256x1, .f32⟩
  | 118 => ⟨S32x256x1, .f32⟩
  | 119 => ⟨S_, .f32⟩
  | 120 => ⟨S32x256x1, .f32⟩
  | 121 => ⟨S32x256x1, .f32⟩
  | 122 => ⟨S32x256x1, .f32⟩
  | 123 => ⟨S32x256x1024, .f32⟩
  | 124 => ⟨S32x256x1024, .f32⟩
  | 125 => ⟨S1x1x1024, .f32⟩
  | 126 => ⟨S32x256x1024, .f32⟩
  | 127 => ⟨S32x256x1024, .f32⟩
  | _ => ⟨S32x256x1024, .f32⟩

abbrev hbmTy0_1 (i : Nat) : BufTy := match i % 128 with
  | 0 => ⟨S1x1x1024, .f32⟩
  | 1 => ⟨S32x256x1024, .f32⟩
  | 2 => ⟨S32x256x1024, .f32⟩
  | 3 => ⟨S32x256x1024, .f32⟩
  | 4 => ⟨S8192x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_cst_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_cst_4 : Ref sig .tc := ⟨.hbm, 65, rfl⟩
abbrev main_v37 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_6 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_cst_8 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call1_cst : Ref sig .tc := ⟨.hbm, 107, rfl⟩
abbrev main_call1_v0 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_10 : Ref sig .tc := ⟨.hbm, 113, rfl⟩
abbrev main_v77 : Ref sig .tc := ⟨.hbm, 114, rfl⟩
abbrev main_v78 : Ref sig .tc := ⟨.hbm, 115, rfl⟩
abbrev main_cst_11 : Ref sig .tc := ⟨.hbm, 116, rfl⟩
abbrev main_v79 : Ref sig .tc := ⟨.hbm, 117, rfl⟩
abbrev main_v80 : Ref sig .tc := ⟨.hbm, 118, rfl⟩
abbrev main_cst_12 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩

abbrev nD : Nat := 1
abbrev τ : Topo := Topo.v7x

variable {F : FTy → Type} [FloatOps F]
-- ==== Kernel3.lean ====
abbrev S4x1024x1024 : Shape := ⟨3, ![4, 1024, 1024]⟩
abbrev S4x1024x8x64 : Shape := ⟨4, ![4, 1024, 8, 64]⟩
abbrev S4x1024x512 : Shape := ⟨3, ![4, 1024, 512]⟩
abbrev S8x6x1024 : Shape := ⟨3, ![8, 6, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S4096x512 : Shape := ⟨2, ![4096, 512]⟩
abbrev S4096x2560 : Shape := ⟨2, ![4096, 2560]⟩
abbrev S1x1024 : Shape := ⟨2, ![1, 1024]⟩
abbrev S512x512 : Shape := ⟨2, ![512, 512]⟩
abbrev S512x2560 : Shape := ⟨2, ![512, 2560]⟩
abbrev S1x6x1024 : Shape := ⟨3, ![1, 6, 1024]⟩
abbrev S6x1024 : Shape := ⟨2, ![6, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 34
  | .vmem => 20
  | .smem => 0
  | _ => 0

abbrev bufTy : (tb : Table) → Fin (tcTables nBuf tb) → BufTy
  | .hbm, ⟨0, _⟩ => ⟨S4x1024x1024, .f32⟩
  | .hbm, ⟨1, _⟩ => ⟨S4x1024x8x64, .f32⟩
  | .hbm, ⟨2, _⟩ => ⟨S4x1024x8x64, .f32⟩
  | .hbm, ⟨3, _⟩ => ⟨S4x1024x512, .f32⟩
  | .hbm, ⟨4, _⟩ => ⟨S4x1024x1024, .f32⟩
  | .hbm, ⟨5, _⟩ => ⟨S4x1024x1024, .f32⟩
  | .hbm, ⟨6, _⟩ => ⟨S8x6x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S4096x512, .f32⟩
  | .hbm, ⟨16, _⟩ => ⟨S4096x1024, .f32⟩
  | .hbm, ⟨17, _⟩ => ⟨S4096x1024, .f32⟩
  | .hbm, ⟨18, _⟩ => ⟨S4096x2560, .f32⟩
  | .hbm, ⟨19, _⟩ => ⟨S4096x2560, .bf16⟩
  | .hbm, ⟨20, _⟩ => ⟨S4096x1024, .f32⟩
  | .hbm, ⟨21, _⟩ => ⟨S4096x512, .f32⟩
  | .hbm, ⟨22, _⟩ => ⟨S4096x512, .bf16⟩
  | .hbm, ⟨23, _⟩ => ⟨S4096x512, .f32⟩
  | .hbm, ⟨24, _⟩ => ⟨S4096x512, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S512x1024, .bf16⟩
  | .hbm, ⟨29, _⟩ => ⟨S512x1024, .bf16⟩
  | .hbm, ⟨30, _⟩ => ⟨S1024x1024, .bf16⟩
  | .hbm, ⟨31, _⟩ => ⟨S1024x4096, .bf16⟩
  | .hbm, ⟨32, _⟩ => ⟨S4096x1024, .bf16⟩
  | .hbm, ⟨33, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2560, .bf16⟩
  | .local _ .vmem, ⟨7, _⟩ => ⟨S512x2560, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x4096, .bf16⟩
  | .local _ .vmem, ⟨17, _⟩ => ⟨S4096x1024, .bf16⟩
  | .local _ .vmem, ⟨18, _⟩ => ⟨S512x1024, .f32⟩
  | .local _ .vmem, ⟨19, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x1024x1024 : Shape := ⟨3, ![4, 1024, 1024]⟩
abbrev S4x1024x8x64 : Shape := ⟨4, ![4, 1024, 8, 64]⟩
abbrev S4x1024x512 : Shape := ⟨3, ![4, 1024, 512]⟩
abbrev S8x6x1024 : Shape := ⟨3, ![8, 6, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S4x6x1024 : Shape := ⟨3, ![4, 6, 1024]⟩
abbrev S4x1x6x1024 : Shape := ⟨4, ![4, 1, 6, 1024]⟩
abbrev S4x1x1x1024 : Shape := ⟨4, ![4, 1, 1, 1024]⟩
abbrev S4x1x1024 : Shape := ⟨3, ![4, 1, 1024]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x1024x4096 : Shape := ⟨3, ![4, 1024, 4096]⟩

abbrev nBuf : Space → Nat
  | .hbm => 128
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x8x64, .f32⟩
  | .hbm, ⟨2, _⟩ => ⟨S4x1024x8x64, .f32⟩
  | .hbm, ⟨3, _⟩ => ⟨S4x1024x512, .f32⟩
  | .hbm, ⟨4, _⟩ => ⟨S4x1024x1024, .f32⟩
  | .hbm, ⟨5, _⟩ => ⟨S4x1024x1024, .f32⟩
  | .hbm, ⟨6, _⟩ => ⟨S8x6x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S4x6x1024, .f32⟩
  | .hbm, ⟨16, _⟩ => ⟨S4x1x6x1024, .f32⟩
  | .hbm, ⟨17, _⟩ => ⟨S4x1x1x1024, .f32⟩
  | .hbm, ⟨18, _⟩ => ⟨S4x1x1024, .f32⟩
  | .hbm, ⟨19, _⟩ => ⟨S4x1x1x1024, .f32⟩
  | .hbm, ⟨20, _⟩ => ⟨S4x1x1024, .f32⟩
  | .hbm, ⟨21, _⟩ => ⟨S4x1x1x1024, .f32⟩
  | .hbm, ⟨22, _⟩ => ⟨S4x1x1024, .f32⟩
  | .hbm, ⟨23, _⟩ => ⟨S4x1x1x1024, .f32⟩
  | .hbm, ⟨24, _⟩ => ⟨S4x1x1024, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S4x1024x8x64, .f32⟩
  | .hbm, ⟨35, _⟩ => ⟨S4x1024x8x64, .f32⟩
  | .hbm, ⟨36, _⟩ => ⟨S4x1024x512, .f32⟩
  | .hbm, ⟨37, _⟩ => ⟨S4x1024x1024, .f32⟩
  | .hbm, ⟨38, _⟩ => ⟨S4x1024x512, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S_, .f32⟩
  | .hbm, ⟨43, _⟩ => ⟨S4x1024x1024, .f32⟩
  | .hbm, ⟨44, _⟩ => ⟨S4x1024x1024, .f32⟩
  | .hbm, ⟨45, _⟩ => ⟨S_, .f32⟩
  | .hbm, ⟨46, _⟩ => ⟨S4x1024x1024, .f32⟩
  | .hbm, ⟨47, _⟩ => ⟨S4x1024x1024, .f32⟩
  | .hbm, ⟨48, _⟩ => ⟨S4x1024x1024, .f32⟩
  | .hbm, ⟨49, _⟩ => ⟨S4x1024x1024, .f32⟩
  | .hbm, ⟨50, _⟩ => ⟨S4x1024x1024, .f32⟩
  | .hbm, ⟨51, _⟩ => ⟨S_, .f32⟩
  | .hbm, ⟨52, _⟩ => ⟨S4x1024x1024, .f32⟩
  | .hbm, ⟨53, _⟩ => ⟨S4x1024x1024, .f32⟩
  | .hbm, ⟨54, _⟩ => ⟨S_, .f32⟩
  | .hbm, ⟨55, _⟩ => ⟨S4x1024x1024, .f32⟩
  | .hbm, ⟨56, _⟩ => ⟨S4x1024x1024, .f32⟩
  | .hbm, ⟨57, _⟩ => ⟨S4x1024x1024, .f32⟩
  | .hbm, ⟨58, _⟩ => ⟨S4x1024x1024, .f32⟩
  | .hbm, ⟨59, _⟩ => ⟨S4x1024x1024, .f32⟩
  | .hbm, ⟨60, _⟩ => ⟨S4x1024x1024, .f32⟩
  | .hbm, ⟨61, _⟩ => ⟨S_, .f32⟩
  | .hbm, ⟨62, _⟩ => ⟨S4x1024, .f32⟩
  | .hbm, ⟨63, _⟩ => ⟨S4x1024x1, .f32⟩
  | .hbm, ⟨64, _⟩ => ⟨S_, .f32⟩
  | .hbm, ⟨65, _⟩ => ⟨S4x1024x1, .f32⟩
  | .hbm, ⟨66, _⟩ => ⟨S4x1024x1, .f32⟩
  | .hbm, ⟨67, _⟩ => ⟨S_, .f32⟩
  | .hbm, ⟨68, _⟩ => ⟨S4x1024x1, .f32⟩
  | .hbm, ⟨69, _⟩ => ⟨S4x1024x1, .f32⟩
  | .hbm, ⟨70, _⟩ => ⟨S4x1024x1, .f32⟩
  | .hbm, ⟨71, _⟩ => ⟨S4x1024x1024, .f32⟩
  | .hbm, ⟨72, _⟩ => ⟨S4x1024x1024, .f32⟩
  | .hbm, ⟨73, _⟩ => ⟨S1x1x1024, .f32⟩
  | .hbm, ⟨74, _⟩ => ⟨S4x1024x1024, .f32⟩
  | .hbm, ⟨75, _⟩ => ⟨S4x1024x1024, .f32⟩
  | .hbm, ⟨76, _⟩ => ⟨S4x1024x1024, .f32⟩
  | .hbm, ⟨77, _⟩ => ⟨S4x1024x1024, .f32⟩
  | .hbm, ⟨78, _⟩ => ⟨S4x1024x1024, .f32⟩
  | .hbm, ⟨79, _⟩ => ⟨S4x1024x1024, .f32⟩
  | .hbm, ⟨80, _⟩ => ⟨S_, .f32⟩
  | .hbm, ⟨81, _⟩ => ⟨S4x1024, .f32⟩
  | .hbm, ⟨82, _⟩ => ⟨S4x1024x1, .f32⟩
  | .hbm, ⟨83, _⟩ => ⟨S_, .f32⟩
  | .hbm, ⟨84, _⟩ => ⟨S4x1024x1, .f32⟩
  | .hbm, ⟨85, _⟩ => ⟨S4x1024x1, .f32⟩
  | .hbm, ⟨86, _⟩ => ⟨S_, .f32⟩
  | .hbm, ⟨87, _⟩ => ⟨S4x1024x1, .f32⟩
  | .hbm, ⟨88, _⟩ => ⟨S4x1024x1, .f32⟩
  | .hbm, ⟨89, _⟩ => ⟨S4x1024x1, .f32⟩
  | .hbm, ⟨90, _⟩ => ⟨S4x1024x1024, .f32⟩
  | .hbm, ⟨91, _⟩ => ⟨S4x1024x1024, .f32⟩
  | .hbm, ⟨92, _⟩ => ⟨S1x1x1024, .f32⟩
  | .hbm, ⟨93, _⟩ => ⟨S4x1024x1024, .f32⟩
  | .hbm, ⟨94, _⟩ => ⟨S4x1024x1024, .f32⟩
  | .hbm, ⟨95, _⟩ => ⟨S_, .f32⟩
  | .hbm, ⟨96, _⟩ => ⟨S4x1x1024, .f32⟩
  | .hbm, ⟨97, _⟩ => ⟨S4x1x1024, .f32⟩
  | .hbm, ⟨98, _⟩ => ⟨S4x1024x1024, .f32⟩
  | .hbm, ⟨99, _⟩ => ⟨S4x1024x1024, .f32⟩
  | .hbm, ⟨100, _⟩ => ⟨S4x1024x1024, .f32⟩
  | .hbm, ⟨101, _⟩ => ⟨S4x1024x1024, .f32⟩
  | .hbm, ⟨102, _⟩ => ⟨S4x1024x4096, .f32⟩
  | .hbm, ⟨103, _⟩ => ⟨S_, .f32⟩
  | .hbm, ⟨104, _⟩ => ⟨S4x1024x4096, .f32⟩
  | .hbm, ⟨105, _⟩ => ⟨S4x1024x4096, .f32⟩
  | .hbm, ⟨106, _⟩ => ⟨S4x1024x4096, .f32⟩
  | .hbm, ⟨107, _⟩ => ⟨S4x1024x1024, .f32⟩
  | .hbm, ⟨108, _⟩ => ⟨S4x1024x1024, .f32⟩
  | .hbm, ⟨109, _⟩ => ⟨S_, .f32⟩
  | .hbm, ⟨110, _⟩ => ⟨S4x1024, .f32⟩
  | .hbm, ⟨111, _⟩ => ⟨S4x1024x1, .f32⟩
  | .hbm, ⟨112, _⟩ => ⟨S_, .f32⟩
  | .hbm, ⟨113, _⟩ => ⟨S4x1024x1, .f32⟩
  | .hbm, ⟨114, _⟩ => ⟨S4x1024x1, .f32⟩
  | .hbm, ⟨115, _⟩ => ⟨S_, .f32⟩
  | .hbm, ⟨116, _⟩ => ⟨S4x1024x1, .f32⟩
  | .hbm, ⟨117, _⟩ => ⟨S4x1024x1, .f32⟩
  | .hbm, ⟨118, _⟩ => ⟨S4x1024x1, .f32⟩
  | .hbm, ⟨119, _⟩ => ⟨S4x1024x1024, .f32⟩
  | .hbm, ⟨120, _⟩ => ⟨S4x1024x1024, .f32⟩
  | .hbm, ⟨121, _⟩ => ⟨S1x1x1024, .f32⟩
  | .hbm, ⟨122, _⟩ => ⟨S4x1024x1024, .f32⟩
  | .hbm, ⟨123, _⟩ => ⟨S4x1024x1024, .f32⟩
  | .hbm, ⟨124, _⟩ => ⟨S4x1024x1024, .f32⟩
  | .hbm, ⟨125, _⟩ => ⟨S4x1024x1024, .f32⟩
  | .hbm, ⟨126, _⟩ => ⟨S4x1024x1024, .f32⟩
  | .hbm, ⟨127, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_3 : Ref sig .tc := ⟨.hbm, 61, rfl⟩
abbrev main_v34 : Ref sig .tc := ⟨.hbm, 62, rfl⟩
abbrev main_v35 : Ref sig .tc := ⟨.hbm, 63, rfl⟩
abbrev main_cst_4 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call1_cst : Ref sig .tc := ⟨.hbm, 103, rfl⟩
abbrev main_call1_v0 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_10 : Ref sig .tc := ⟨.hbm, 109, rfl⟩
abbrev main_v73 : Ref sig .tc := ⟨.hbm, 110, rfl⟩
abbrev main_v74 : Ref sig .tc := ⟨.hbm, 111, rfl⟩
abbrev main_cst_11 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]
-- ==== Kernel4.lean ====
abbrev S32x256x1024 : Shape := ⟨3, ![32, 256, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S_ : Shape := ⟨0, ![]⟩
abbrev S8x1536 : Shape := ⟨2, ![8, 1536]⟩
abbrev S8192x1024 : Shape := ⟨2, ![8192, 1024]⟩
abbrev S1x1024 : Shape := ⟨2, ![1, 1024]⟩
abbrev S1024x32 : Shape := ⟨2, ![1024, 32]⟩
abbrev S1024x128 : Shape := ⟨2, ![1024, 128]⟩
abbrev S8192x1536 : Shape := ⟨2, ![8192, 1536]⟩
abbrev S8192x2560 : Shape := ⟨2, ![8192, 2560]⟩
abbrev S8192x128 : Shape := ⟨2, ![8192, 128]⟩
abbrev S32x1x8x256x64 : Shape := ⟨5, ![32, 1, 8, 256, 64]⟩
abbrev S512x1024 : Shape := ⟨2, ![512, 1024]⟩
abbrev S1x6x1024 : Shape := ⟨3, ![1, 6, 1024]⟩
abbrev S1024x5632 : Shape := ⟨2, ![1024, 5632]⟩
abbrev S512x1536 : Shape := ⟨2, ![512, 1536]⟩
abbrev S512x2560 : Shape := ⟨2, ![512, 2560]⟩
abbrev S512x128 : Shape := ⟨2, ![512, 128]⟩
abbrev S2x1x8x256x64 : Shape := ⟨5, ![2, 1, 8, 256, 64]⟩
abbrev S6x1024 : Shape := ⟨2, ![6, 1024]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S272x1536 : Shape := ⟨2, ![272, 1536]⟩
abbrev S1x1536 : Shape := ⟨2, ![1, 1536]⟩
abbrev S256x64 : Shape := ⟨2, ![256, 64]⟩
abbrev S1x1x1x256x64 : Shape := ⟨5, ![1, 1, 1, 256, 64]⟩
abbrev S1024x1280 : Shape := ⟨2, ![1024, 1280]⟩
abbrev S256x1280 : Shape := ⟨2, ![256, 1280]⟩
abbrev S256x128 : Shape := ⟨2, ![256, 128]⟩
abbrev S256x2688 : Shape := ⟨2, ![256, 2688]⟩
abbrev S256x2560 : Shape := ⟨2, ![256, 2560]⟩
abbrev S256x256 : Shape := ⟨2, ![256, 256]⟩

abbrev nBuf : Space → Nat
  | .hbm => 21
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S1024, .f32⟩
  | .hbm, ⟨3, _⟩ => ⟨S1024x5664, .f32⟩
  | .hbm, ⟨4, _⟩ => ⟨S5x1536, .f32⟩
  | .hbm, ⟨5, _⟩ => ⟨S_, .i32⟩
  | .hbm, ⟨6, _⟩ => ⟨S_, .f32⟩
  | .hbm, ⟨7, _⟩ => ⟨S8x1536, .f32⟩
  | .hbm, ⟨8, _⟩ => ⟨S8192x1024, .f32⟩
  | .hbm, ⟨9, _⟩ => ⟨S1x1024, .f32⟩
  | .hbm, ⟨10, _⟩ => ⟨S1024x5664, .bf16⟩
  | .hbm, ⟨11, _⟩ => ⟨S1024x32, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S8192x1536, .bf16⟩
  | .hbm, ⟨16, _⟩ => ⟨S8192x1536, .bf16⟩
  | .hbm, ⟨17, _⟩ => ⟨S8192x2560, .bf16⟩
  | .hbm, ⟨18, _⟩ => ⟨S8192x128, .f32⟩
  | .hbm, ⟨19, _⟩ => ⟨S32x1x8x256x64, .f32⟩
  | .hbm, ⟨20, _⟩ => ⟨S32x1x8x256x64, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x5632, .bf16⟩
  | .local _ .vmem, ⟨5, _⟩ => ⟨S1024x128, .bf16⟩
  | .local _ .vmem, ⟨6, _⟩ => ⟨S8x1536, .f32⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x2560, .bf16⟩
  | .local _ .vmem, ⟨12, _⟩ => ⟨S512x2560, .bf16⟩
  | .local _ .vmem, ⟨13, _⟩ => ⟨S512x128, .f32⟩
  | .local _ .vmem, ⟨14, _⟩ => ⟨S512x128, .f32⟩
  | .local _ .vmem, ⟨15, _⟩ => ⟨S2x1x8x256x64, .f32⟩
  | .local _ .vmem, ⟨16, _⟩ => ⟨S2x1x8x256x64, .f32⟩
  | .local _ .vmem, ⟨17, _⟩ => ⟨S2x1x8x256x64, .f32⟩
  | .local _ .vmem, ⟨18, _⟩ => ⟨S2x1x8x256x64, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x8x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x8x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32x256x1024 : Shape := ⟨3, ![32, 256, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S1x6x1024 : Shape := ⟨3, ![1, 6, 1024]⟩
abbrev S6x1024 : Shape := ⟨2, ![6, 1024]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S32x256x5664 : Shape := ⟨3, ![32, 256, 5664]⟩
abbrev S32x256x512 : Shape := ⟨3, ![32, 256, 512]⟩
abbrev S32x256x1536 : Shape := ⟨3, ![32, 256, 1536]⟩
abbrev S32x256x16 : Shape := ⟨3, ![32, 256, 16]⟩
abbrev S8192x1536 : Shape := ⟨2, ![8192, 1536]⟩
abbrev S32x256x2560 : Shape := ⟨3, ![32, 256, 2560]⟩
abbrev S8192x2560 : Shape := ⟨2, ![8192, 2560]⟩
abbrev S32x256x96 : Shape := ⟨3, ![32, 256, 96]⟩
abbrev S32x256x128 : Shape := ⟨3, ![32, 256, 128]⟩
abbrev S8192x128 : Shape := ⟨2, ![8192, 128]⟩
abbrev S32x256x8x64 : Shape := ⟨4, ![32, 256, 8, 64]⟩
abbrev S32x8x256x64 : Shape := ⟨4, ![32, 8, 256, 64]⟩
abbrev S32x1x8x256x64 : Shape := ⟨5, ![32, 1, 8, 256, 64]⟩

abbrev nBuf : Space → Nat
  | .hbm => 62
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S1024, .f32⟩
  | .hbm, ⟨3, _⟩ => ⟨S1024x5664, .f32⟩
  | .hbm, ⟨4, _⟩ => ⟨S5x1536, .f32⟩
  | .hbm, ⟨5, _⟩ => ⟨S1x6x1024, .f32⟩
  | .hbm, ⟨6, _⟩ => ⟨S6x1024, .f32⟩
  | .hbm, ⟨7, _⟩ => ⟨S1x6x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x5664, .f32⟩
  | .hbm, ⟨38, _⟩ => ⟨S32x256x512, .f32⟩
  | .hbm, ⟨39, _⟩ => ⟨S32x256x512, .f32⟩
  | .hbm, ⟨40, _⟩ => ⟨S32x256x512, .f32⟩
  | .hbm, ⟨41, _⟩ => ⟨S32x256x1536, .f32⟩
  | .hbm, ⟨42, _⟩ => ⟨S32x256x16, .f32⟩
  | .hbm, ⟨43, _⟩ => ⟨S32x256x16, .f32⟩
  | .hbm, ⟨44, _⟩ => ⟨S32x256x512, .f32⟩
  | .hbm, ⟨45, _⟩ => ⟨S32x256x1024, .f32⟩
  | .hbm, ⟨46, _⟩ => ⟨S32x256x1024, .f32⟩
  | .hbm, ⟨47, _⟩ => ⟨S32x256x1536, .f32⟩
  | .hbm, ⟨48, _⟩ => ⟨S8192x1536, .f32⟩
  | .hbm, ⟨49, _⟩ => ⟨S32x256x2560, .f32⟩
  | .hbm, ⟨50, _⟩ => ⟨S8192x2560, .f32⟩
  | .hbm, ⟨51, _⟩ => ⟨S32x256x96, .f32⟩
  | .hbm, ⟨52, _⟩ => ⟨S32x256x128, .f32⟩
  | .hbm, ⟨53, _⟩ => ⟨S8192x128, .f32⟩
  | .hbm, ⟨54, _⟩ => ⟨S32x256x8x64, .f32⟩
  | .hbm, ⟨55, _⟩ => ⟨S32x8x256x64, .f32⟩
  | .hbm, ⟨56, _⟩ => ⟨S32x1x8x256x64, .f32⟩
  | .hbm, ⟨57, _⟩ => ⟨S32x256x8x64, .f32⟩
  | .hbm, ⟨58, _⟩ => ⟨S32x8x256x64, .f32⟩
  | .hbm, ⟨59, _⟩ => ⟨S32x1x8x256x64, .f32⟩
  | .hbm, ⟨60, _⟩ => ⟨S8192x1536, .bf16⟩
  | .hbm, ⟨61, _⟩ => ⟨S8192x2560, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]
-- ==== Kernel5.lean ====
abbrev S32x256x1024 : Shape := ⟨3, ![32, 256, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S_ : Shape := ⟨0, ![]⟩
abbrev S8x1536 : Shape := ⟨2, ![8, 1536]⟩
abbrev S8192x1024 : Shape := ⟨2, ![8192, 1024]⟩
abbrev S1x1024 : Shape := ⟨2, ![1, 1024]⟩
abbrev S1024x32 : Shape := ⟨2, ![1024, 32]⟩
abbrev S1024x128 : Shape := ⟨2, ![1024, 128]⟩
abbrev S8192x1536 : Shape := ⟨2, ![8192, 1536]⟩
abbrev S8192x2560 : Shape := ⟨2, ![8192, 2560]⟩
abbrev S8192x128 : Shape := ⟨2, ![8192, 128]⟩
abbrev S32x1x8x256x64 : Shape := ⟨5, ![32, 1, 8, 256, 64]⟩
abbrev S512x1024 : Shape := ⟨2, ![512, 1024]⟩
abbrev S1x6x1024 : Shape := ⟨3, ![1, 6, 1024]⟩
abbrev S1024x5632 : Shape := ⟨2, ![1024, 5632]⟩
abbrev S512x1536 : Shape := ⟨2, ![512, 1536]⟩
abbrev S512x2560 : Shape := ⟨2, ![512, 2560]⟩
abbrev S512x128 : Shape := ⟨2, ![512, 128]⟩
abbrev S2x1x8x256x64 : Shape := ⟨5, ![2, 1, 8, 256, 64]⟩
abbrev S6x1024 : Shape := ⟨2, ![6, 1024]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S272x1536 : Shape := ⟨2, ![272, 1536]⟩
abbrev S1x1536 : Shape := ⟨2, ![1, 1536]⟩
abbrev S256x64 : Shape := ⟨2, ![256, 64]⟩
abbrev S1x1x1x256x64 : Shape := ⟨5, ![1, 1, 1, 256, 64]⟩
abbrev S1024x1280 : Shape := ⟨2, ![1024, 1280]⟩
abbrev S256x1280 : Shape := ⟨2, ![256, 1280]⟩
abbrev S256x128 : Shape := ⟨2, ![256, 128]⟩
abbrev S256x2688 : Shape := ⟨2, ![256, 2688]⟩
abbrev S256x2560 : Shape := ⟨2, ![256, 2560]⟩
abbrev S256x256 : Shape := ⟨2, ![256, 256]⟩

abbrev nBuf : Space → Nat
  | .hbm => 21
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S1024, .f32⟩
  | .hbm, ⟨3, _⟩ => ⟨S1024x5664, .f32⟩
  | .hbm, ⟨4, _⟩ => ⟨S5x1536, .f32⟩
  | .hbm, ⟨5, _⟩ => ⟨S_, .i32⟩
  | .hbm, ⟨6, _⟩ => ⟨S_, .f32⟩
  | .hbm, ⟨7, _⟩ => ⟨S8x1536, .f32⟩
  | .hbm, ⟨8, _⟩ => ⟨S8192x1024, .f32⟩
  | .hbm, ⟨9, _⟩ => ⟨S1x1024, .f32⟩
  | .hbm, ⟨10, _⟩ => ⟨S1024x5664, .bf16⟩
  | .hbm, ⟨11, _⟩ => ⟨S1024x32, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S8192x1536, .bf16⟩
  | .hbm, ⟨16, _⟩ => ⟨S8192x1536, .bf16⟩
  | .hbm, ⟨17, _⟩ => ⟨S8192x2560, .bf16⟩
  | .hbm, ⟨18, _⟩ => ⟨S8192x128, .f32⟩
  | .hbm, ⟨19, _⟩ => ⟨S32x1x8x256x64, .f32⟩
  | .hbm, ⟨20, _⟩ => ⟨S32x1x8x256x64, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x5632, .bf16⟩
  | .local _ .vmem, ⟨5, _⟩ => ⟨S1024x128, .bf16⟩
  | .local _ .vmem, ⟨6, _⟩ => ⟨S8x1536, .f32⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x2560, .bf16⟩
  | .local _ .vmem, ⟨12, _⟩ => ⟨S512x2560, .bf16⟩
  | .local _ .vmem, ⟨13, _⟩ => ⟨S512x128, .f32⟩
  | .local _ .vmem, ⟨14, _⟩ => ⟨S512x128, .f32⟩
  | .local _ .vmem, ⟨15, _⟩ => ⟨S2x1x8x256x64, .f32⟩
  | .local _ .vmem, ⟨16, _⟩ => ⟨S2x1x8x256x64, .f32⟩
  | .local _ .vmem, ⟨17, _⟩ => ⟨S2x1x8x256x64, .f32⟩
  | .local _ .vmem, ⟨18, _⟩ => ⟨S2x1x8x256x64, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x8x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x8x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S32x256x1024 : Shape := ⟨3, ![32, 256, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S1x6x1024 : Shape := ⟨3, ![1, 6, 1024]⟩
abbrev S6x1024 : Shape := ⟨2, ![6, 1024]⟩
abbrev S1x1x1024 : Shape := ⟨3, ![1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S32x256x5664 : Shape := ⟨3, ![32, 256, 5664]⟩
abbrev S32x256x1536 : Shape := ⟨3, ![32, 256, 1536]⟩
abbrev S32x260x1536 : Shape := ⟨3, ![32, 260, 1536]⟩
abbrev S1x1536 : Shape := ⟨2, ![1, 1536]⟩
abbrev S1536 : Shape := ⟨1, ![1536]⟩
abbrev S1x1x1536 : Shape := ⟨3, ![1, 1, 1536]⟩
abbrev S32x256x512 : Shape := ⟨3, ![32, 256, 512]⟩
abbrev S32x256x8x64 : Shape := ⟨4, ![32, 256, 8, 64]⟩
abbrev S32x256x8 : Shape := ⟨3, ![32, 256, 8]⟩
abbrev S32x256x8x1 : Shape := ⟨4, ![32, 256, 8, 1]⟩
abbrev S8192x1536 : Shape := ⟨2, ![8192, 1536]⟩

abbrev nBuf : Space → Nat
  | .hbm => 115
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6x1024, .f32⟩
  | .hbm, ⟨2, _⟩ => ⟨S1024, .f32⟩
  | .hbm, ⟨3, _⟩ => ⟨S1024x5664, .f32⟩
  | .hbm, ⟨4, _⟩ => ⟨S5x1536, .f32⟩
  | .hbm, ⟨5, _⟩ => ⟨S1x6x1024, .f32⟩
  | .hbm, ⟨6, _⟩ => ⟨S6x1024, .f32⟩
  | .hbm, ⟨7, _⟩ => ⟨S1x6x1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x5664, .f32⟩
  | .hbm, ⟨38, _⟩ => ⟨S32x256x1536, .f32⟩
  | .hbm, ⟨39, _⟩ => ⟨S_, .i32⟩
  | .hbm, ⟨40, _⟩ => ⟨S_, .f32⟩
  | .hbm, ⟨41, _⟩ => ⟨S32x260x1536, .f32⟩
  | .hbm, ⟨42, _⟩ => ⟨S32x256x1536, .f32⟩
  | .hbm, ⟨43, _⟩ => ⟨S1x1536, .f32⟩
  | .hbm, ⟨44, _⟩ => ⟨S1536, .f32⟩
  | .hbm, ⟨45, _⟩ => ⟨S1x1x1536, .f32⟩
  | .hbm, ⟨46, _⟩ => ⟨S32x256x1536, .f32⟩
  | .hbm, ⟨47, _⟩ => ⟨S32x256x1536, .f32⟩
  | .hbm, ⟨48, _⟩ => ⟨S32x256x1536, .f32⟩
  | .hbm, ⟨49, _⟩ => ⟨S1x1536, .f32⟩
  | .hbm, ⟨50, _⟩ => ⟨S1536, .f32⟩
  | .hbm, ⟨51, _⟩ => ⟨S1x1x1536, .f32⟩
  | .hbm, ⟨52, _⟩ => ⟨S32x256x1536, .f32⟩
  | .hbm, ⟨53, _⟩ => ⟨S32x256x1536, .f32⟩
  | .hbm, ⟨54, _⟩ => ⟨S32x256x1536, .f32⟩
  | .hbm, ⟨55, _⟩ => ⟨S32x256x1536, .f32⟩
  | .hbm, ⟨56, _⟩ => ⟨S1x1536, .f32⟩
  | .hbm, ⟨57, _⟩ => ⟨S1536, .f32⟩
  | .hbm, ⟨58, _⟩ => ⟨S1x1x1536, .f32⟩
  | .hbm, ⟨59, _⟩ => ⟨S32x256x1536, .f32⟩
  | .hbm, ⟨60, _⟩ => ⟨S32x256x1536, .f32⟩
  | .hbm, ⟨61, _⟩ => ⟨S32x256x1536, .f32⟩
  | .hbm, ⟨62, _⟩ => ⟨S32x256x1536, .f32⟩
  | .hbm, ⟨63, _⟩ => ⟨S1x1536, .f32⟩
  | .hbm, ⟨64, _⟩ => ⟨S1536, .f32⟩
  | .hbm, ⟨65, _⟩ => ⟨S1x1x1536, .f32⟩
  | .hbm, ⟨66, _⟩ => ⟨S32x256x1536, .f32⟩
  | .hbm, ⟨67, _⟩ => ⟨S32x256x1536, .f32⟩
  | .hbm, ⟨68, _⟩ => ⟨S32x256x1536, .f32⟩
  | .hbm, ⟨69, _⟩ => ⟨S32x256x1536, .f32⟩
  | .hbm, ⟨70, _⟩ => ⟨S1x1536, .f32⟩
  | .hbm, ⟨71, _⟩ => ⟨S1536, .f32⟩
  | .hbm, ⟨72, _⟩ => ⟨S1x1x1536, .f32⟩
  | .hbm, ⟨73, _⟩ => ⟨S32x256x1536, .f32⟩
  | .hbm, ⟨74, _⟩ => ⟨S32x256x1536, .f32⟩
  | .hbm, ⟨75, _⟩ => ⟨S32x256x1536, .f32⟩
  | .hbm, ⟨76, _⟩ => ⟨S32x256x1536, .f32⟩
  | .hbm, ⟨77, _⟩ => ⟨S32x256x1536, .f32⟩
  | .hbm, ⟨78, _⟩ => ⟨S_, .f32⟩
  | .hbm, ⟨79, _⟩ => ⟨S32x256x1536, .f32⟩
  | .hbm, ⟨80, _⟩ => ⟨S32x256x1536, .f32⟩
  | .hbm, ⟨81, _⟩ => ⟨S_, .f32⟩
  | .hbm, ⟨82, _⟩ => ⟨S32x256x1536, .f32⟩
  | .hbm, ⟨83, _⟩ => ⟨S32x256x1536, .f32⟩
  | .hbm, ⟨84, _⟩ => ⟨S32x256x1536, .f32⟩
  | .hbm, ⟨85, _⟩ => ⟨S32x256x512, .f32⟩
  | .hbm, ⟨86, _⟩ => ⟨S32x256x512, .f32⟩
  | .hbm, ⟨87, _⟩ => ⟨S32x256x512, .f32⟩
  | .hbm, ⟨88, _⟩ => ⟨S32x256x8x64, .f32⟩
  | .hbm, ⟨89, _⟩ => ⟨S32x256x8x64, .f32⟩
  | .hbm, ⟨90, _⟩ => ⟨S_, .f32⟩
  | .hbm, ⟨91, _⟩ => ⟨S32x256x8, .f32⟩
  | .hbm, ⟨92, _⟩ => ⟨S32x256x8x1, .f32⟩
  | .hbm, ⟨93, _⟩ => ⟨S_, .f32⟩
  | .hbm, ⟨94, _⟩ => ⟨S32x256x8x1, .f32⟩
  | .hbm, ⟨95, _⟩ => ⟨S32x256x8x1, .f32⟩
  | .hbm, ⟨96, _⟩ => ⟨S32x256x8x1, .f32⟩
  | .hbm, ⟨97, _⟩ => ⟨S32x256x8x64, .f32⟩
  | .hbm, ⟨98, _⟩ => ⟨S32x256x8x64, .f32⟩
  | .hbm, ⟨99, _⟩ => ⟨S32x256x512, .f32⟩
  | .hbm, ⟨100, _⟩ => ⟨S32x256x8x64, .f32⟩
  | .hbm, ⟨101, _⟩ => ⟨S32x256x8x64, .f32⟩
  | .hbm, ⟨102, _⟩ => ⟨S_, .f32⟩
  | .hbm, ⟨103, _⟩ => ⟨S32x256x8, .f32⟩
  | .hbm, ⟨104, _⟩ => ⟨S32x256x8x1, .f32⟩
  | .hbm, ⟨105, _⟩ => ⟨S_, .f32⟩
  | .hbm, ⟨106, _⟩ => ⟨S32x256x8x1, .f32⟩
  | .hbm, ⟨107, _⟩ => ⟨S32x256x8x1, .f32⟩
  | .hbm, ⟨108, _⟩ => ⟨S32x256x8x1, .f32⟩
  | .hbm, ⟨109, _⟩ => ⟨S32x256x8x64, .f32⟩
  | .hbm, ⟨110, _⟩ => ⟨S32x256x8x64, .f32⟩
  | .hbm, ⟨111, _⟩ => ⟨S32x256x512, .f32⟩
  | .hbm, ⟨112, _⟩ => ⟨S32x256x1536, .f32⟩
  | .hbm, ⟨113, _⟩ => ⟨S8192x1536, .f32⟩
  | .hbm, ⟨114, _⟩ => ⟨S8192x1536, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_3 : Ref sig .tc := ⟨.hbm, 90, rfl⟩
abbrev main_v71 : Ref sig .tc := ⟨.hbm, 91, rfl⟩
abbrev main_v72 : Ref sig .tc := ⟨.hbm, 92, rfl⟩
abbrev main_cst_4 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_5 : Ref sig .tc := ⟨.hbm, 102, rfl⟩
abbrev main_v81 : Ref sig .tc := ⟨.hbm, 103, rfl⟩
abbrev main_v82 : Ref sig .tc := ⟨.hbm, 104, rfl⟩
abbrev main_cst_6 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]
-- ==== Kernel6.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel7.lean ====
abbrev S4x1024x1024 : Shape := ⟨3, ![4, 1024, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S_ : Shape := ⟨0, ![]⟩
abbrev S8x1536 : Shape := ⟨2, ![8, 1536]⟩
abbrev S4096x1024 : Shape := ⟨2, ![4096, 1024]⟩
abbrev S1x1024 : Shape := ⟨2, ![1, 1024]⟩
abbrev S1024x32 : Shape := ⟨2, ![1024, 32]⟩
abbrev S1024x128 : Shape := ⟨2, ![1024, 128]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1x1024x1x64 : Shape := ⟨4, ![1, 1024, 1, 64]⟩
abbrev S1x1024x16x64 : Shape := ⟨4, ![1, 1024, 16, 64]⟩
abbrev S1024x1024 : Shape := ⟨2, ![1024, 1024]⟩
abbrev S4096x1536 : Shape := ⟨2, ![4096, 1536]⟩
abbrev S4096x2560 : Shape := ⟨2, ![4096, 2560]⟩
abbrev S4096x128 : Shape := ⟨2, ![4096, 128]⟩
abbrev S512x1024 : Shape := ⟨2, ![512, 1024]⟩
abbrev S1x6x1024 : Shape := ⟨3, ![1, 6, 1024]⟩
abbrev S1024x5632 : Shape := ⟨2, ![1024, 5632]⟩
abbrev S8x1024 : Shape := ⟨2, ![8, 1024]⟩
abbrev S512x1536 : Shape := ⟨2, ![512, 1536]⟩
abbrev S512x2560 : Shape := ⟨2, ![512, 2560]⟩
abbrev S512x128 : Shape := ⟨2, ![512, 128]⟩
abbrev S6x1024 : Shape := ⟨2, ![6, 1024]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S8 : Shape := ⟨1, ![8]⟩
abbrev S8x1 : Shape := ⟨2, ![8, 1]⟩
abbrev S272x1024 : Shape := ⟨2, ![272, 1024]⟩
abbrev S272x1536 : Shape := ⟨2, ![272, 1536]⟩
abbrev S256x1536 : Shape := ⟨2, ![256, 1536]⟩
abbrev S1x1536 : Shape := ⟨2, ![1, 1536]⟩
abbrev S256x512 : Shape := ⟨2, ![256, 512]⟩
abbrev S1024x1280 : Shape := ⟨2, ![1024, 1280]⟩
abbrev S256x1280 : Shape := ⟨2, ![256, 1280]⟩
abbrev S256x128 : Shape := ⟨2, ![256, 128]⟩
abbrev S256x2688 : Shape := ⟨2, ![256, 2688]⟩
abbrev S256x2560 : Shape := ⟨2, ![256, 2560]⟩
abbrev S256x256 : Shape := ⟨2, ![256, 256]⟩

abbrev nBuf : Space → Nat
  | .hbm => 102
  | .vmem => 24
  | .smem => 0
  | _ => 0

abbrev bufTy : (tb : Table) → Fin (tcTables nBuf tb) → BufTy
  | .hbm, ⟨0, _⟩ => ⟨S4x1024x1024, .f32⟩
  | .hbm, ⟨1, _⟩ => ⟨S8x6x1024, .f32⟩
  | .hbm, ⟨2, _⟩ => ⟨S1024, .f32⟩
  | .hbm, ⟨3, _⟩ => ⟨S1024x5664, .f32⟩
  | .hbm, ⟨4, _⟩ => ⟨S5x1536, .f32⟩
  | .hbm, ⟨5, _⟩ => ⟨S_, .i32⟩
  | .hbm, ⟨6, _⟩ => ⟨S_, .f32⟩
  | .hbm, ⟨7, _⟩ => ⟨S8x1536, .f32⟩
  | .hbm, ⟨8, _⟩ => ⟨S4096x1024, .f32⟩
  | .hbm, ⟨9, _⟩ => ⟨S1x1024, .f32⟩
  | .hbm, ⟨10, _⟩ => ⟨S1024x5664, .bf16⟩
  | .hbm, ⟨11, _⟩ => ⟨S1024x32, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S1024, .i32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S1024, .f32⟩
  | .hbm, ⟨43, _⟩ => ⟨S1024x1, .f32⟩
  | .hbm, ⟨44, _⟩ => ⟨S1x16, .f32⟩
  | .hbm, ⟨45, _⟩ => ⟨S1024x16, .f32⟩
  | .hbm, ⟨46, _⟩ => ⟨S1024x16, .f32⟩
  | .hbm, ⟨47, _⟩ => ⟨S1024x16, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S_, .i1⟩
  | .hbm, ⟨64, _⟩ => ⟨S1024, .i1⟩
  | .hbm, ⟨65, _⟩ => ⟨S1024, .i1⟩
  | .hbm, ⟨66, _⟩ => ⟨S1024, .i1⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024, .f32⟩
  | .hbm, ⟨71, _⟩ => ⟨S1024x1, .f32⟩
  | .hbm, ⟨72, _⟩ => ⟨S1x16, .f32⟩
  | .hbm, ⟨73, _⟩ => ⟨S1024x16, .f32⟩
  | .hbm, ⟨74, _⟩ => ⟨S1024x16, .f32⟩
  | .hbm, ⟨75, _⟩ => ⟨S1024x16, .f32⟩
  | .hbm, ⟨76, _⟩ => ⟨S1024x16, .f32⟩
  | .hbm, ⟨77, _⟩ => ⟨S1024x16, .f32⟩
  | .hbm, ⟨78, _⟩ => ⟨S1024x32, .f32⟩
  | .hbm, ⟨79, _⟩ => ⟨S1024x16, .f32⟩
  | .hbm, ⟨80, _⟩ => ⟨S1024x16, .f32⟩
  | .hbm, ⟨81, _⟩ => ⟨S1024x16, .f32⟩
  | .hbm, ⟨82, _⟩ => ⟨S1024x32, .f32⟩
  | .hbm, ⟨83, _⟩ => ⟨S1024x16, .f32⟩
  | .hbm, ⟨84, _⟩ => ⟨S1024x16, .f32⟩
  | .hbm, ⟨85, _⟩ => ⟨S1024x32, .f32⟩
  | .hbm, ⟨86, _⟩ => ⟨S1024x16, .f32⟩
  | .hbm, ⟨87, _⟩ => ⟨S1024x16, .f32⟩
  | .hbm, ⟨88, _⟩ => ⟨S1024x16, .f32⟩
  | .hbm, ⟨89, _⟩ => ⟨S1024x32, .f32⟩
  | .hbm, ⟨90, _⟩ => ⟨S1024x64, .f32⟩
  | .hbm, ⟨91, _⟩ => ⟨S1024x64, .f32⟩
  | .hbm, ⟨92, _⟩ => ⟨S1x1024x1x64, .f32⟩
  | .hbm, ⟨93, _⟩ => ⟨S1x1024x16x64, .f32⟩
  | .hbm, ⟨94, _⟩ => ⟨S1024x1024, .f32⟩
  | .hbm, ⟨95, _⟩ => ⟨S1x1024x1x64, .f32⟩
  | .hbm, ⟨96, _⟩ => ⟨S1x1024x16x64, .f32⟩
  | .hbm, ⟨97, _⟩ => ⟨S1024x1024, .f32⟩
  | .hbm, ⟨98, _⟩ => ⟨S4096x1536, .bf16⟩
  | .hbm, ⟨99, _⟩ => ⟨S4096x1536, .bf16⟩
  | .hbm, ⟨100, _⟩ => ⟨S4096x2560, .bf16⟩
  | .hbm, ⟨101, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S1024x128, .bf16⟩
  | .local _ .vmem, ⟨7, _⟩ => ⟨S8x1536, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1536, .bf16⟩
  | .local _ .vmem, ⟨17, _⟩ => ⟨S512x1536, .bf16⟩
  | .local _ .vmem, ⟨18, _⟩ => ⟨S512x1536, .bf16⟩
  | .local _ .vmem, ⟨19, _⟩ => ⟨S512x1536, .bf16⟩
  | .local _ .vmem, ⟨20, _⟩ => ⟨S512x2560, .bf16⟩
  | .local _ .vmem, ⟨21, _⟩ => ⟨S512x2560, .bf16⟩
  | .local _ .vmem, ⟨22, _⟩ => ⟨S512x128, .f32⟩
  | .local _ .vmem, ⟨23, _⟩ => ⟨S512x128, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_call3_v0 : Ref sig .tc := ⟨.hbm, 49, rfl⟩
abbrev main_call3_c : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_c_1 : Ref sig .tc := ⟨.hbm, 56, rfl⟩
abbrev main_call3_v5 : Ref sig .tc := ⟨.hbm, 57, rfl⟩
abbrev main_call3_v6 : Ref sig .tc := ⟨.hbm, 58, rfl⟩
abbrev main_call3_c_2 : Ref sig .tc := ⟨.hbm, 59, rfl⟩
abbrev main_call3_v7 : Ref sig .tc := ⟨.hbm, 60, rfl⟩
abbrev main_call3_v8 : Ref sig .tc := ⟨.hbm, 61, rfl⟩
abbrev main_call3_c_3 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_v12 : Ref sig .tc := ⟨.hbm, 66, rfl⟩
abbrev main_call3_v13 : Ref sig .tc := ⟨.hbm, 67, rfl⟩
abbrev main_call3_v14 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49_0 : Ref sig .tc := ⟨.hbm, 98, rfl⟩
abbrev main_v49_1 : Ref sig .tc := ⟨.hbm, 99, rfl⟩
abbrev main_v49_2 : Ref sig .tc := ⟨.hbm, 100, rfl⟩
abbrev main_v49_3 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S4x1024x1024 : Shape := ⟨3, ![4, 1024, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S4x6x1024 : Shape := ⟨3, ![4, 6, 1024]⟩
abbrev S4x1x6x1024 : Shape := ⟨4, ![4, 1, 6, 1024]⟩
abbrev S4x1x1x1024 : Shape := ⟨4, ![4, 1, 1, 1024]⟩
abbrev S4x1x1024 : Shape := ⟨3, ![4, 1, 1024]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x1024x5664 : Shape := ⟨3, ![4, 1024, 5664]⟩
abbrev S4x1024x512 : Shape := ⟨3, ![4, 1024, 512]⟩
abbrev S4x1024x1536 : Shape := ⟨3, ![4, 1024, 1536]⟩
abbrev S4x1024x16 : Shape := ⟨3, ![4, 1024, 16]⟩
abbrev S4x1024x8x64 : Shape := ⟨4, ![4, 1024, 8, 64]⟩
abbrev S4x1024x8x32 : Shape := ⟨4, ![4, 1024, 8, 32]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1x1024x1x16 : Shape := ⟨4, ![1, 1024, 1, 16]⟩
abbrev S4x1024x8x16 : Shape := ⟨4, ![4, 1024, 8, 16]⟩
abbrev S4096x1536 : Shape := ⟨2, ![4096, 1536]⟩
abbrev S4x1024x2560 : Shape := ⟨3, ![4, 1024, 2560]⟩
abbrev S4096x2560 : Shape := ⟨2, ![4096, 2560]⟩
abbrev S4x1024x96 : Shape := ⟨3, ![4, 1024, 96]⟩
abbrev S4x1024x128 : Shape := ⟨3, ![4, 1024, 128]⟩
abbrev S4096x128 : Shape := ⟨2, ![4096, 128]⟩

abbrev nBuf : Space → Nat
  | .hbm => 269
  | .vmem => 0
  | .smem => 0
  | _ => 0

abbrev hbmTy0_0 (i : Nat) : BufTy := match i % 128 with
  | 0 => ⟨S4x1024x1024, .f32⟩
  | 1 => ⟨S8x6x1024, .f32⟩
  | 2 => ⟨S1024, .f32⟩
  | 3 => ⟨S1024x5664, .f32⟩
  | 4 => ⟨S5x1536, .f32⟩
  | 5 => ⟨S4x6x1024, .f32⟩
  | 6 => ⟨S4x1x6x1024, .f32⟩
  | 7 => ⟨S4x1x1x1024, .f32⟩
  | 8 => ⟨S4x1x1024, .f32⟩
  | 9 => ⟨S4x1x1x1024, .f32⟩
  | 10 => ⟨S4x1x1024, .f32⟩
  | 11 => ⟨S4x1024x1024, .f32⟩
  | 12 => ⟨S_, .f32⟩
  | 13 => ⟨S4x1024, .f32⟩
  | 14 => ⟨S4x1024x1, .f32⟩
  | 15 => ⟨S_, .f32⟩
  | 16 => ⟨S4x1024x1, .f32⟩
  | 17 => ⟨S4x1024x1, .f32⟩
  | 18 => ⟨S_, .f32⟩
  | 19 => ⟨S4x1024x1, .f32⟩
  | 20 => ⟨S4x1024x1, .f32⟩
  | 21 => ⟨S4x1024x1, .f32⟩
  | 22 => ⟨S4x1024x1024, .f32⟩
  | 23 => ⟨S4x1024x1024, .f32⟩
  | 24 => ⟨S1x1x1024, .f32⟩
  | 25 => ⟨S4x1024x1024, .f32⟩
  | 26 => ⟨S4x1024x1024, .f32⟩
  | 27 => ⟨S_, .f32⟩
  | 28 => ⟨S4x1x1024, .f32⟩
  | 29 => ⟨S4x1x1024, .f32⟩
  | 30 => ⟨S4x1024x1024, .f32⟩
  | 31 => ⟨S4x1024x1024, .f32⟩
  | 32 => ⟨S4x1024x1024, .f32⟩
  | 33 => ⟨S4x1024x1024, .f32⟩
  | 34 => ⟨S4x1024x5664, .f32⟩
  | 35 => ⟨S4x1024x512, .f32⟩
  | 36 => ⟨S4x1024x512, .f32⟩
  | 37 => ⟨S4x1024x512, .f32⟩
  | 38 => ⟨S4x1024x1536, .f32⟩
  | 39 => ⟨S4x1024x16, .f32⟩
  | 40 => ⟨S4x1024x16, .f32⟩
  | 41 => ⟨S4x1024x512, .f32⟩
  | 42 => ⟨S4x1024x1024, .f32⟩
  | 43 => ⟨S4x1024x1024, .f32⟩
  | 44 => ⟨S4x1024x8x64, .f32⟩
  | 45 => ⟨S1024, .i32⟩
  | 46 => ⟨S4x1024x8x32, .f32⟩
  | 47 => ⟨S_, .i32⟩
  | 48 => ⟨S_, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i1⟩
  | 55 => ⟨S1024, .i32⟩
  | 56 => ⟨S1024, .i32⟩
  | 57 => ⟨S_, .i32⟩
  | 58 => ⟨S1024, .i32⟩
  | 59 => ⟨S1024, .i1⟩
  | 60 => ⟨S1024, .i1⟩
  | 61 => ⟨S_, .i32⟩
  | 62 => ⟨S1024, .i32⟩
  | 63 => ⟨S1024, .i32⟩
  | 64 => ⟨S1024, .i32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S1024, .f32⟩
  | 74 => ⟨S1024x1, .f32⟩
  | 75 => ⟨S1x16, .f32⟩
  | 76 => ⟨S1024x16, .f32⟩
  | 77 => ⟨S1024x16, .f32⟩
  | 78 => ⟨S1024x16, .f32⟩
  | 79 => ⟨S1024x16, .f32⟩
  | 80 => ⟨S1x1024x1x16, .f32⟩
  | 81 => ⟨S1024x16, .f32⟩
  | 82 => ⟨S1x1024x1x16, .f32⟩
  | 83 => ⟨S4x1024x8x16, .f32⟩
  | 84 => ⟨S4x1024x8x16, .f32⟩
  | 85 => ⟨S4x1024x8x16, .f32⟩
  | 86 => ⟨S4x1024x8x16, .f32⟩
  | 87 => ⟨S4x1024x8x16, .f32⟩
  | 88 => ⟨S4x1024x8x16, .f32⟩
  | 89 => ⟨S4x1024x8x16, .f32⟩
  | 90 => ⟨S4x1024x8x16, .f32⟩
  | 91 => ⟨S4x1024x8x16, .f32⟩
  | 92 => ⟨S4x1024x8x16, .f32⟩
  | 93 => ⟨S4x1024x8x16, .f32⟩
  | 94 => ⟨S4x1024x8x16, .f32⟩
  | 95 => ⟨S4x1024x8x32, .f32⟩
  | 96 => ⟨S4x1024x8x32, .f32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S1024, .i32⟩
  | 104 => ⟨S1024, .i32⟩
  | 105 => ⟨S_, .i32⟩
  | 106 => ⟨S1024, .i32⟩
  | 107 => ⟨S1024, .i1⟩
  | 108 => ⟨S_, .i32⟩
  | 109 => ⟨S1024, .i32⟩
  | 110 => ⟨S1024, .i1⟩
  | 111 => ⟨S_, .i32⟩
  | 112 => ⟨S_, .i1⟩
  | 113 => ⟨S1024, .i1⟩
  | 114 => ⟨S1024, .i1⟩
  | 115 => ⟨S1024, .i1⟩
  | 116 => ⟨S1024, .i32⟩
  | 117 => ⟨S1024, .i32⟩
  | 118 => ⟨S1024, .i32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S1024, .f32⟩
  | _ => ⟨S4x1024x1024, .f32⟩

abbrev hbmTy0_1 (i : Nat) : BufTy := match i % 128 with
  | 0 => ⟨S1024x1, .f32⟩
  | 1 => ⟨S1x16, .f32⟩
  | 2 => ⟨S1024x16, .f32⟩
  | 3 => ⟨S1024x16, .f32⟩
  | 4 => ⟨S1024x16, .f32⟩
  | 5 => ⟨S1024x16, .f32⟩
  | 6 => ⟨S1x1024x1x16, .f32⟩
  | 7 => ⟨S1024x16, .f32⟩
  | 8 => ⟨S1x1024x1x16, .f32⟩
  | 9 => ⟨S4x1024x8x16, .f32⟩
  | 10 => ⟨S4x1024x8x16, .f32⟩
  | 11 => ⟨S4x1024x8x16, .f32⟩
  | 12 => ⟨S4x1024x8x16, .f32⟩
  | 13 => ⟨S4x1024x8x16, .f32⟩
  | 14 => ⟨S4x1024x8x16, .f32⟩
  | 15 => ⟨S4x1024x8x16, .f32⟩
  | 16 => ⟨S4x1024x8x16, .f32⟩
  | 17 => ⟨S4x1024x8x16, .f32⟩
  | 18 => ⟨S4x1024x8x16, .f32⟩
  | 19 => ⟨S4x1024x8x16, .f32⟩
  | 20 => ⟨S4x1024x8x16, .f32⟩
  | 21 => ⟨S4x1024x8x32, .f32⟩
  | 22 => ⟨S4x1024x8x64, .f32⟩
  | 23 => ⟨S4x1024x512, .f32⟩
  | 24 => ⟨S4x1024x8x64, .f32⟩
  | 25 => ⟨S1024, .i32⟩
  | 26 => ⟨S4x1024x8x32, .f32⟩
  | 27 => ⟨S_, .i32⟩
  | 28 => ⟨S_, .i32⟩
  | 29 => ⟨S1024, .i32⟩
  | 30 => ⟨S1024, .i32⟩
  | 31 => ⟨S1024, .i32⟩
  | 32 => ⟨S_, .i32⟩
  | 33 => ⟨S1024, .i32⟩
  | 34 => ⟨S1024, .i1⟩
  | 35 => ⟨S1024, .i32⟩
  | 36 => ⟨S1024, .i32⟩
  | 37 => ⟨S_, .i32⟩
  | 38 => ⟨S1024, .i32⟩
  | 39 => ⟨S1024, .i1⟩
  | 40 => ⟨S1024, .i1⟩
  | 41 => ⟨S_, .i32⟩
  | 42 => ⟨S1024, .i32⟩
  | 43 => ⟨S1024, .i32⟩
  | 44 => ⟨S1024, .i32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S1024, .f32⟩
  | 54 => ⟨S1024x1, .f32⟩
  | 55 => ⟨S1x16, .f32⟩
  | 56 => ⟨S1024x16, .f32⟩
  | 57 => ⟨S1024x16, .f32⟩
  | 58 => ⟨S1024x16, .f32⟩
  | 59 => ⟨S1024x16, .f32⟩
  | 60 => ⟨S1x1024x1x16, .f32⟩
  | 61 => ⟨S1024x16, .f32⟩
  | 62 => ⟨S1x1024x1x16, .f32⟩
  | 63 => ⟨S4x1024x8x16, .f32⟩
  | 64 => ⟨S4x1024x8x16, .f32⟩
  | 65 => ⟨S4x1024x8x16, .f32⟩
  | 66 => ⟨S4x1024x8x16, .f32⟩
  | 67 => ⟨S4x1024x8x16, .f32⟩
  | 68 => ⟨S4x1024x8x16, .f32⟩
  | 69 => ⟨S4x1024x8x16, .f32⟩
  | 70 => ⟨S4x1024x8x16, .f32⟩
  | 71 => ⟨S4x1024x8x16, .f32⟩
  | 72 => ⟨S4x1024x8x16, .f32⟩
  | 73 => ⟨S4x1024x8x16, .f32⟩
  | 74 => ⟨S4x1024x8x16, .f32⟩
  | 75 => ⟨S4x1024x8x32, .f32⟩
  | 76 => ⟨S4x1024x8x32, .f32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S1024, .i32⟩
  | 84 => ⟨S1024, .i32⟩
  | 85 => ⟨S_, .i32⟩
  | 86 => ⟨S1024, .i32⟩
  | 87 => ⟨S1024, .i1⟩
  | 88 => ⟨S_, .i32⟩
  | 89 => ⟨S1024, .i32⟩
  | 90 => ⟨S1024, .i1⟩
  | 91 => ⟨S_, .i32⟩
  | 92 => ⟨S_, .i1⟩
  | 93 => ⟨S1024, .i1⟩
  | 94 => ⟨S1024, .i1⟩
  | 95 => ⟨S1024, .i1⟩
  | 96 => ⟨S1024, .i32⟩
  | 97 => ⟨S1024, .i32⟩
  | 98 => ⟨S1024, .i32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S1024, .f32⟩
  | 108 => ⟨S1024x1, .f32⟩
  | 109 => ⟨S1x16, .f32⟩
  | 110 => ⟨S1024x16, .f32⟩
  | 111 => ⟨S1024x16, .f32⟩
  | 112 => ⟨S1024x16, .f32⟩
  | 113 => ⟨S1024x16, .f32⟩
  | 114 => ⟨S1x1024x1x16, .f32⟩
  | 115 => ⟨S1024x16, .f32⟩
  | 116 => ⟨S1x1024x1x16, .f32⟩
  | 117 => ⟨S4x1024x8x16, .f32⟩
  | 118 => ⟨S4x1024x8x16, .f32⟩
  | 119 => ⟨S4x1024x8x16, .f32⟩
  | 120 => ⟨S4x1024x8x16, .f32⟩
  | 121 => ⟨S4x1024x8x16, .f32⟩
  | 122 => ⟨S4x1024x8x16, .f32⟩
  | 123 => ⟨S4x1024x8x16, .f32⟩
  | 124 => ⟨S4x1024x8x16, .f32⟩
  | 125 => ⟨S4x1024x8x16, .f32⟩
  | 126 => ⟨S4x1024x8x16, .f32⟩
  | 127 => ⟨S4x1024x8x16, .f32⟩
  | _ => ⟨S4x1024x1024, .f32⟩

abbrev hbmTy0_2 (i : Nat) : BufTy := match i % 128 with
  | 0 => ⟨S4x1024x8x16, .f32⟩
  | 1 => ⟨S4x1024x8x32, .f32⟩
  | 2 => ⟨S4x1024x8x64, .f32⟩
  | 3 => ⟨S4x1024x512, .f32⟩
  | 4 => ⟨S4x1024x1536, .f32⟩
  | 5 => ⟨S4096x1536, .f32⟩
  | 6 => ⟨S4x1024x2560, .f32⟩
  | 7 => ⟨S4096x2560, .f32⟩
  | 8 => ⟨S4x1024x96, .f32⟩
  | 9 => ⟨S4x1024x128, .f32⟩
  | 10 => ⟨S4096x128, .f32⟩
  | 11 => ⟨S4096x1536, .bf16⟩
  | 12 => ⟨S4096x2560, .bf16⟩
  | _ => ⟨S4x1024x1024, .f32⟩

abbrev hbmTy (i : Nat) : BufTy := match i / 128 with
  | 0 => hbmTy0_0 i
  | 1 => hbmTy0_1 i
  | 2 => hbmTy0_2 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_5 : Ref sig .tc := ⟨.hbm, 97, rfl⟩
abbrev main_call1_v0 : Ref sig .tc := ⟨.hbm, 98, rfl⟩
abbrev main_call1_c : Ref sig .tc := ⟨.hbm, 99, rfl⟩
abbrev main_call1_v1 : Ref sig .tc := ⟨.hbm, 100, rfl⟩
abbrev main_call1_c_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_c_1 : Ref sig .tc := ⟨.hbm, 105, rfl⟩
abbrev main_call1_v5 : Ref sig .tc := ⟨.hbm, 106, rfl⟩
abbrev main_call1_v6 : Ref sig .tc := ⟨.hbm, 107, rfl⟩
abbrev main_call1_c_2 : Ref sig .tc := ⟨.hbm, 108, rfl⟩
abbrev main_call1_v7 : Ref sig .tc := ⟨.hbm, 109, rfl⟩
abbrev main_call1_v8 : Ref sig .tc := ⟨.hbm, 110, rfl⟩
abbrev main_call1_c_3 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_v12 : Ref sig .tc := ⟨.hbm, 115, rfl⟩
abbrev main_call1_v13 : Ref sig .tc := ⟨.hbm, 116, rfl⟩
abbrev main_call1_v14 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_6 : Ref sig .tc := ⟨.hbm, 121, rfl⟩
abbrev main_v72 : Ref sig .tc := ⟨.hbm, 122, rfl⟩
abbrev main_v73 : Ref sig .tc := ⟨.hbm, 123, rfl⟩
abbrev main_cst_7 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_c_8 : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_v5 : Ref sig .tc := ⟨.hbm, 161, rfl⟩
abbrev main_call2_v6 : Ref sig .tc := ⟨.hbm, 162, rfl⟩
abbrev main_call2_v7 : Ref sig .tc := ⟨.hbm, 163, rfl⟩
abbrev main_call2_v8 : Ref sig .tc := ⟨.hbm, 164, rfl⟩
abbrev main_call2_c : Ref sig .tc := ⟨.hbm, 165, rfl⟩
abbrev main_call2_v9 : Ref sig .tc := ⟨.hbm, 166, rfl⟩
abbrev main_call2_v10 : Ref sig .tc := ⟨.hbm, 167, rfl⟩
abbrev main_call2_v11 : Ref sig .tc := ⟨.hbm, 168, rfl⟩
abbrev main_call2_c_0 : Ref sig .tc := ⟨.hbm, 169, rfl⟩
abbrev main_call2_v12 : Ref sig .tc := ⟨.hbm, 170, rfl⟩
abbrev main_call2_v13 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_9 : Ref sig .tc := ⟨.hbm, 175, rfl⟩
abbrev main_v107 : Ref sig .tc := ⟨.hbm, 176, rfl⟩
abbrev main_v108 : Ref sig .tc := ⟨.hbm, 177, rfl⟩
abbrev main_cst_10 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_c_11 : Ref sig .tc := ⟨.hbm, 205, rfl⟩
abbrev main_call3_v0 : Ref sig .tc := ⟨.hbm, 206, rfl⟩
abbrev main_call3_c : Ref sig .tc := ⟨.hbm, 207, rfl⟩
abbrev main_call3_v1 : Ref sig .tc := ⟨.hbm, 208, rfl⟩
abbrev main_call3_c_0 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_call3_c_1 : Ref sig .tc := ⟨.hbm, 213, rfl⟩
abbrev main_call3_v5 : Ref sig .tc := ⟨.hbm, 214, rfl⟩
abbrev main_call3_v6 : Ref sig .tc := ⟨.hbm, 215, rfl⟩
abbrev main_call3_c_2 : Ref sig .tc := ⟨.hbm, 216, rfl⟩
abbrev main_call3_v7 : Ref sig .tc := ⟨.hbm, 217, rfl⟩
abbrev main_call3_v8 : Ref sig .tc := ⟨.hbm, 218, rfl⟩
abbrev main_call3_c_3 : Ref sig .tc := ⟨.hbm, 219, rfl⟩
abbrev main_call3_v9 : Ref sig .tc := ⟨.hbm, 220, rfl⟩
abbrev main_call3_v10 : Ref sig .tc := ⟨.hbm, 221, rfl⟩
abbrev main_call3_v11 : Ref sig .tc := ⟨.hbm, 222, rfl⟩
abbrev main_call3_v12 : Ref sig .tc := ⟨.hbm, 223, rfl⟩
abbrev main_call3_v13 : Ref sig .tc := ⟨.hbm, 224, rfl⟩
abbrev main_call3_v14 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_cst_12 : Ref sig .tc := ⟨.hbm, 229, rfl⟩
abbrev main_v138 : Ref sig .tc := ⟨.hbm, 230, rfl⟩
abbrev main_v139 : Ref sig .tc := ⟨.hbm, 231, rfl⟩
abbrev main_cst_13 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩

abbrev nD : Nat := 1
abbrev τ : Topo := Topo.v7x

variable {F : FTy → Type} [FloatOps F]
-- ==== Kernel8.lean ====
abbrev S4x1024x1024 : Shape := ⟨3, ![4, 1024, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S_ : Shape := ⟨0, ![]⟩
abbrev S8x1536 : Shape := ⟨2, ![8, 1536]⟩
abbrev S4096x1024 : Shape := ⟨2, ![4096, 1024]⟩
abbrev S1x1024 : Shape := ⟨2, ![1, 1024]⟩
abbrev S1024x32 : Shape := ⟨2, ![1024, 32]⟩
abbrev S1024x128 : Shape := ⟨2, ![1024, 128]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1x1024x1x64 : Shape := ⟨4, ![1, 1024, 1, 64]⟩
abbrev S1x1024x16x64 : Shape := ⟨4, ![1, 1024, 16, 64]⟩
abbrev S1024x1024 : Shape := ⟨2, ![1024, 1024]⟩
abbrev S4096x1536 : Shape := ⟨2, ![4096, 1536]⟩
abbrev S4096x2560 : Shape := ⟨2, ![4096, 2560]⟩
abbrev S4096x128 : Shape := ⟨2, ![4096, 128]⟩
abbrev S512x1024 : Shape := ⟨2, ![512, 1024]⟩
abbrev S1x6x1024 : Shape := ⟨3, ![1, 6, 1024]⟩
abbrev S1024x5632 : Shape := ⟨2, ![1024, 5632]⟩
abbrev S8x1024 : Shape := ⟨2, ![8, 1024]⟩
abbrev S512x1536 : Shape := ⟨2, ![512, 1536]⟩
abbrev S512x2560 : Shape := ⟨2, ![512, 2560]⟩
abbrev S512x128 : Shape := ⟨2, ![512, 128]⟩
abbrev S6x1024 : Shape := ⟨2, ![6, 1024]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S8 : Shape := ⟨1, ![8]⟩
abbrev S8x1 : Shape := ⟨2, ![8, 1]⟩
abbrev S272x1024 : Shape := ⟨2, ![272, 1024]⟩
abbrev S272x1536 : Shape := ⟨2, ![272, 1536]⟩
abbrev S256x1536 : Shape := ⟨2, ![256, 1536]⟩
abbrev S1x1536 : Shape := ⟨2, ![1, 1536]⟩
abbrev S256x512 : Shape := ⟨2, ![256, 512]⟩
abbrev S1024x1280 : Shape := ⟨2, ![1024, 1280]⟩
abbrev S256x1280 : Shape := ⟨2, ![256, 1280]⟩
abbrev S256x128 : Shape := ⟨2, ![256, 128]⟩
abbrev S256x2688 : Shape := ⟨2, ![256, 2688]⟩
abbrev S256x2560 : Shape := ⟨2, ![256, 2560]⟩
abbrev S256x256 : Shape := ⟨2, ![256, 256]⟩

abbrev nBuf : Space → Nat
  | .hbm => 102
  | .vmem => 24
  | .smem => 0
  | _ => 0

abbrev bufTy : (tb : Table) → Fin (tcTables nBuf tb) → BufTy
  | .hbm, ⟨0, _⟩ => ⟨S4x1024x1024, .f32⟩
  | .hbm, ⟨1, _⟩ => ⟨S8x6x1024, .f32⟩
  | .hbm, ⟨2, _⟩ => ⟨S1024, .f32⟩
  | .hbm, ⟨3, _⟩ => ⟨S1024x5664, .f32⟩
  | .hbm, ⟨4, _⟩ => ⟨S5x1536, .f32⟩
  | .hbm, ⟨5, _⟩ => ⟨S_, .i32⟩
  | .hbm, ⟨6, _⟩ => ⟨S_, .f32⟩
  | .hbm, ⟨7, _⟩ => ⟨S8x1536, .f32⟩
  | .hbm, ⟨8, _⟩ => ⟨S4096x1024, .f32⟩
  | .hbm, ⟨9, _⟩ => ⟨S1x1024, .f32⟩
  | .hbm, ⟨10, _⟩ => ⟨S1024x5664, .bf16⟩
  | .hbm, ⟨11, _⟩ => ⟨S1024x32, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S1024, .i32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S1024, .f32⟩
  | .hbm, ⟨43, _⟩ => ⟨S1024x1, .f32⟩
  | .hbm, ⟨44, _⟩ => ⟨S1x16, .f32⟩
  | .hbm, ⟨45, _⟩ => ⟨S1024x16, .f32⟩
  | .hbm, ⟨46, _⟩ => ⟨S1024x16, .f32⟩
  | .hbm, ⟨47, _⟩ => ⟨S1024x16, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S_, .i1⟩
  | .hbm, ⟨64, _⟩ => ⟨S1024, .i1⟩
  | .hbm, ⟨65, _⟩ => ⟨S1024, .i1⟩
  | .hbm, ⟨66, _⟩ => ⟨S1024, .i1⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024, .f32⟩
  | .hbm, ⟨71, _⟩ => ⟨S1024x1, .f32⟩
  | .hbm, ⟨72, _⟩ => ⟨S1x16, .f32⟩
  | .hbm, ⟨73, _⟩ => ⟨S1024x16, .f32⟩
  | .hbm, ⟨74, _⟩ => ⟨S1024x16, .f32⟩
  | .hbm, ⟨75, _⟩ => ⟨S1024x16, .f32⟩
  | .hbm, ⟨76, _⟩ => ⟨S1024x16, .f32⟩
  | .hbm, ⟨77, _⟩ => ⟨S1024x16, .f32⟩
  | .hbm, ⟨78, _⟩ => ⟨S1024x32, .f32⟩
  | .hbm, ⟨79, _⟩ => ⟨S1024x16, .f32⟩
  | .hbm, ⟨80, _⟩ => ⟨S1024x16, .f32⟩
  | .hbm, ⟨81, _⟩ => ⟨S1024x16, .f32⟩
  | .hbm, ⟨82, _⟩ => ⟨S1024x32, .f32⟩
  | .hbm, ⟨83, _⟩ => ⟨S1024x16, .f32⟩
  | .hbm, ⟨84, _⟩ => ⟨S1024x16, .f32⟩
  | .hbm, ⟨85, _⟩ => ⟨S1024x32, .f32⟩
  | .hbm, ⟨86, _⟩ => ⟨S1024x16, .f32⟩
  | .hbm, ⟨87, _⟩ => ⟨S1024x16, .f32⟩
  | .hbm, ⟨88, _⟩ => ⟨S1024x16, .f32⟩
  | .hbm, ⟨89, _⟩ => ⟨S1024x32, .f32⟩
  | .hbm, ⟨90, _⟩ => ⟨S1024x64, .f32⟩
  | .hbm, ⟨91, _⟩ => ⟨S1024x64, .f32⟩
  | .hbm, ⟨92, _⟩ => ⟨S1x1024x1x64, .f32⟩
  | .hbm, ⟨93, _⟩ => ⟨S1x1024x16x64, .f32⟩
  | .hbm, ⟨94, _⟩ => ⟨S1024x1024, .f32⟩
  | .hbm, ⟨95, _⟩ => ⟨S1x1024x1x64, .f32⟩
  | .hbm, ⟨96, _⟩ => ⟨S1x1024x16x64, .f32⟩
  | .hbm, ⟨97, _⟩ => ⟨S1024x1024, .f32⟩
  | .hbm, ⟨98, _⟩ => ⟨S4096x1536, .bf16⟩
  | .hbm, ⟨99, _⟩ => ⟨S4096x1536, .bf16⟩
  | .hbm, ⟨100, _⟩ => ⟨S4096x2560, .bf16⟩
  | .hbm, ⟨101, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S1024x128, .bf16⟩
  | .local _ .vmem, ⟨7, _⟩ => ⟨S8x1536, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1536, .bf16⟩
  | .local _ .vmem, ⟨17, _⟩ => ⟨S512x1536, .bf16⟩
  | .local _ .vmem, ⟨18, _⟩ => ⟨S512x1536, .bf16⟩
  | .local _ .vmem, ⟨19, _⟩ => ⟨S512x1536, .bf16⟩
  | .local _ .vmem, ⟨20, _⟩ => ⟨S512x2560, .bf16⟩
  | .local _ .vmem, ⟨21, _⟩ => ⟨S512x2560, .bf16⟩
  | .local _ .vmem, ⟨22, _⟩ => ⟨S512x128, .f32⟩
  | .local _ .vmem, ⟨23, _⟩ => ⟨S512x128, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_call3_v0 : Ref sig .tc := ⟨.hbm, 49, rfl⟩
abbrev main_call3_c : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_c_1 : Ref sig .tc := ⟨.hbm, 56, rfl⟩
abbrev main_call3_v5 : Ref sig .tc := ⟨.hbm, 57, rfl⟩
abbrev main_call3_v6 : Ref sig .tc := ⟨.hbm, 58, rfl⟩
abbrev main_call3_c_2 : Ref sig .tc := ⟨.hbm, 59, rfl⟩
abbrev main_call3_v7 : Ref sig .tc := ⟨.hbm, 60, rfl⟩
abbrev main_call3_v8 : Ref sig .tc := ⟨.hbm, 61, rfl⟩
abbrev main_call3_c_3 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_v12 : Ref sig .tc := ⟨.hbm, 66, rfl⟩
abbrev main_call3_v13 : Ref sig .tc := ⟨.hbm, 67, rfl⟩
abbrev main_call3_v14 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49_0 : Ref sig .tc := ⟨.hbm, 98, rfl⟩
abbrev main_v49_1 : Ref sig .tc := ⟨.hbm, 99, rfl⟩
abbrev main_v49_2 : Ref sig .tc := ⟨.hbm, 100, rfl⟩
abbrev main_v49_3 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S4x1024x1024 : Shape := ⟨3, ![4, 1024, 1024]⟩
abbrev S8x6x1024 : Shape := ⟨3, ![8, 6, 1024]⟩
abbrev S1024 : Shape := ⟨1, ![1024]⟩
abbrev S1024x5664 : Shape := ⟨2, ![1024, 5664]⟩
abbrev S5x1536 : Shape := ⟨2, ![5, 1536]⟩
abbrev S4x6x1024 : Shape := ⟨3, ![4, 6, 1024]⟩
abbrev S4x1x6x1024 : Shape := ⟨4, ![4, 1, 6, 1024]⟩
abbrev S4x1x1x1024 : Shape := ⟨4, ![4, 1, 1, 1024]⟩
abbrev S4x1x1024 : Shape := ⟨3, ![4, 1, 1024]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x1024x5664 : Shape := ⟨3, ![4, 1024, 5664]⟩
abbrev S4x1024x1536 : Shape := ⟨3, ![4, 1024, 1536]⟩
abbrev S4x1028x1536 : Shape := ⟨3, ![4, 1028, 1536]⟩
abbrev S1x1536 : Shape := ⟨2, ![1, 1536]⟩
abbrev S1536 : Shape := ⟨1, ![1536]⟩
abbrev S1x1x1536 : Shape := ⟨3, ![1, 1, 1536]⟩
abbrev S4x1024x512 : Shape := ⟨3, ![4, 1024, 512]⟩
abbrev S4x1024x8x64 : Shape := ⟨4, ![4, 1024, 8, 64]⟩
abbrev S4x1024x8 : Shape := ⟨3, ![4, 1024, 8]⟩
abbrev S4x1024x8x1 : Shape := ⟨4, ![4, 1024, 8, 1]⟩
abbrev S4096x1536 : Shape := ⟨2, ![4096, 1536]⟩

abbrev nBuf : Space → Nat
  | .hbm => 112
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S8x6x1024, .f32⟩
  | .hbm, ⟨2, _⟩ => ⟨S1024, .f32⟩
  | .hbm, ⟨3, _⟩ => ⟨S1024x5664, .f32⟩
  | .hbm, ⟨4, _⟩ => ⟨S5x1536, .f32⟩
  | .hbm, ⟨5, _⟩ => ⟨S4x6x1024, .f32⟩
  | .hbm, ⟨6, _⟩ => ⟨S4x1x6x1024, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S4x1024x1024, .f32⟩
  | .hbm, ⟨12, _⟩ => ⟨S_, .f32⟩
  | .hbm, ⟨13, _⟩ => ⟨S4x1024, .f32⟩
  | .hbm, ⟨14, _⟩ => ⟨S4x1024x1, .f32⟩
  | .hbm, ⟨15, _⟩ => ⟨S_, .f32⟩
  | .hbm, ⟨16, _⟩ => ⟨S4x1024x1, .f32⟩
  | .hbm, ⟨17, _⟩ => ⟨S4x1024x1, .f32⟩
  | .hbm, ⟨18, _⟩ => ⟨S_, .f32⟩
  | .hbm, ⟨19, _⟩ => ⟨S4x1024x1, .f32⟩
  | .hbm, ⟨20, _⟩ => ⟨S4x1024x1, .f32⟩
  | .hbm, ⟨21, _⟩ => ⟨S4x1024x1, .f32⟩
  | .hbm, ⟨22, _⟩ => ⟨S4x1024x1024, .f32⟩
  | .hbm, ⟨23, _⟩ => ⟨S4x1024x1024, .f32⟩
  | .hbm, ⟨24, _⟩ => ⟨S1x1x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x1024x1024, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S4x1024x5664, .f32⟩
  | .hbm, ⟨35, _⟩ => ⟨S4x1024x1536, .f32⟩
  | .hbm, ⟨36, _⟩ => ⟨S_, .i32⟩
  | .hbm, ⟨37, _⟩ => ⟨S_, .f32⟩
  | .hbm, ⟨38, _⟩ => ⟨S4x1028x1536, .f32⟩
  | .hbm, ⟨39, _⟩ => ⟨S4x1024x1536, .f32⟩
  | .hbm, ⟨40, _⟩ => ⟨S1x1536, .f32⟩
  | .hbm, ⟨41, _⟩ => ⟨S1536, .f32⟩
  | .hbm, ⟨42, _⟩ => ⟨S1x1x1536, .f32⟩
  | .hbm, ⟨43, _⟩ => ⟨S4x1024x1536, .f32⟩
  | .hbm, ⟨44, _⟩ => ⟨S4x1024x1536, .f32⟩
  | .hbm, ⟨45, _⟩ => ⟨S4x1024x1536, .f32⟩
  | .hbm, ⟨46, _⟩ => ⟨S1x1536, .f32⟩
  | .hbm, ⟨47, _⟩ => ⟨S1536, .f32⟩
  | .hbm, ⟨48, _⟩ => ⟨S1x1x1536, .f32⟩
  | .hbm, ⟨49, _⟩ => ⟨S4x1024x1536, .f32⟩
  | .hbm, ⟨50, _⟩ => ⟨S4x1024x1536, .f32⟩
  | .hbm, ⟨51, _⟩ => ⟨S4x1024x1536, .f32⟩
  | .hbm, ⟨52, _⟩ => ⟨S4x1024x1536, .f32⟩
  | .hbm, ⟨53, _⟩ => ⟨S1x1536, .f32⟩
  | .hbm, ⟨54, _⟩ => ⟨S1536, .f32⟩
  | .hbm, ⟨55, _⟩ => ⟨S1x1x1536, .f32⟩
  | .hbm, ⟨56, _⟩ => ⟨S4x1024x1536, .f32⟩
  | .hbm, ⟨57, _⟩ => ⟨S4x1024x1536, .f32⟩
  | .hbm, ⟨58, _⟩ => ⟨S4x1024x1536, .f32⟩
  | .hbm, ⟨59, _⟩ => ⟨S4x1024x1536, .f32⟩
  | .hbm, ⟨60, _⟩ => ⟨S1x1536, .f32⟩
  | .hbm, ⟨61, _⟩ => ⟨S1536, .f32⟩
  | .hbm, ⟨62, _⟩ => ⟨S1x1x1536, .f32⟩
  | .hbm, ⟨63, _⟩ => ⟨S4x1024x1536, .f32⟩
  | .hbm, ⟨64, _⟩ => ⟨S4x1024x1536, .f32⟩
  | .hbm, ⟨65, _⟩ => ⟨S4x1024x1536, .f32⟩
  | .hbm, ⟨66, _⟩ => ⟨S4x1024x1536, .f32⟩
  | .hbm, ⟨67, _⟩ => ⟨S1x1536, .f32⟩
  | .hbm, ⟨68, _⟩ => ⟨S1536, .f32⟩
  | .hbm, ⟨69, _⟩ => ⟨S1x1x1536, .f32⟩
  | .hbm, ⟨70, _⟩ => ⟨S4x1024x1536, .f32⟩
  | .hbm, ⟨71, _⟩ => ⟨S4x1024x1536, .f32⟩
  | .hbm, ⟨72, _⟩ => ⟨S4x1024x1536, .f32⟩
  | .hbm, ⟨73, _⟩ => ⟨S4x1024x1536, .f32⟩
  | .hbm, ⟨74, _⟩ => ⟨S4x1024x1536, .f32⟩
  | .hbm, ⟨75, _⟩ => ⟨S_, .f32⟩
  | .hbm, ⟨76, _⟩ => ⟨S4x1024x1536, .f32⟩
  | .hbm, ⟨77, _⟩ => ⟨S4x1024x1536, .f32⟩
  | .hbm, ⟨78, _⟩ => ⟨S_, .f32⟩
  | .hbm, ⟨79, _⟩ => ⟨S4x1024x1536, .f32⟩
  | .hbm, ⟨80, _⟩ => ⟨S4x1024x1536, .f32⟩
  | .hbm, ⟨81, _⟩ => ⟨S4x1024x1536, .f32⟩
  | .hbm, ⟨82, _⟩ => ⟨S4x1024x512, .f32⟩
  | .hbm, ⟨83, _⟩ => ⟨S4x1024x512, .f32⟩
  | .hbm, ⟨84, _⟩ => ⟨S4x1024x512, .f32⟩
  | .hbm, ⟨85, _⟩ => ⟨S4x1024x8x64, .f32⟩
  | .hbm, ⟨86, _⟩ => ⟨S4x1024x8x64, .f32⟩
  | .hbm, ⟨87, _⟩ => ⟨S_, .f32⟩
  | .hbm, ⟨88, _⟩ => ⟨S4x1024x8, .f32⟩
  | .hbm, ⟨89, _⟩ => ⟨S4x1024x8x1, .f32⟩
  | .hbm, ⟨90, _⟩ => ⟨S_, .f32⟩
  | .hbm, ⟨91, _⟩ => ⟨S4x1024x8x1, .f32⟩
  | .hbm, ⟨92, _⟩ => ⟨S4x1024x8x1, .f32⟩
  | .hbm, ⟨93, _⟩ => ⟨S4x1024x8x1, .f32⟩
  | .hbm, ⟨94, _⟩ => ⟨S4x1024x8x64, .f32⟩
  | .hbm, ⟨95, _⟩ => ⟨S4x1024x8x64, .f32⟩
  | .hbm, ⟨96, _⟩ => ⟨S4x1024x512, .f32⟩
  | .hbm, ⟨97, _⟩ => ⟨S4x1024x8x64, .f32⟩
  | .hbm, ⟨98, _⟩ => ⟨S4x1024x8x64, .f32⟩
  | .hbm, ⟨99, _⟩ => ⟨S_, .f32⟩
  | .hbm, ⟨100, _⟩ => ⟨S4x1024x8, .f32⟩
  | .hbm, ⟨101, _⟩ => ⟨S4x1024x8x1, .f32⟩
  | .hbm, ⟨102, _⟩ => ⟨S_, .f32⟩
  | .hbm, ⟨103, _⟩ => ⟨S4x1024x8x1, .f32⟩
  | .hbm, ⟨104, _⟩ => ⟨S4x1024x8x1, .f32⟩
  | .hbm, ⟨105, _⟩ => ⟨S4x1024x8x1, .f32⟩
  | .hbm, ⟨106, _⟩ => ⟨S4x1024x8x64, .f32⟩
  | .hbm, ⟨107, _⟩ => ⟨S4x1024x8x64, .f32⟩
  | .hbm, ⟨108, _⟩ => ⟨S4x1024x512, .f32⟩
  | .hbm, ⟨109, _⟩ => ⟨S4x1024x1536, .f32⟩
  | .hbm, ⟨110, _⟩ => ⟨S4096x1536, .f32⟩
  | .hbm, ⟨111, _⟩ => ⟨S4096x1536, .bf16⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_3 : Ref sig .tc := ⟨.hbm, 87, rfl⟩
abbrev main_v68 : Ref sig .tc := ⟨.hbm, 88, rfl⟩
abbrev main_v69 : Ref sig .tc := ⟨.hbm, 89, rfl⟩
abbrev main_cst_4 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_5 : Ref sig .tc := ⟨.hbm, 99, rfl⟩
abbrev main_v78 : Ref sig .tc := ⟨.hbm, 100, rfl⟩
abbrev main_v79 : Ref sig .tc := ⟨.hbm, 101, rfl⟩
abbrev main_cst_6 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Proof.CtxPair.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- What one pair of heads of one batch entry stores, of its three 256×128 pieces. -/
def pairOut {F : FTy → Type} [FloatOps F] (q k v : Vec F S256x128 .bf16) : FVec F S256x128 .bf16 :=
  let p0 := k0_pay85 (k0_pay53 (iota .tc S1x128 32 [1] iota_S1x128_d1_w32) q k)
  let p1 := k0_pay86 (k0_pay54 (iota .tc S1x128 32 [1] iota_S1x128_d1_w32) q k)
  k0_pay190 (k0_pay120 p0) (k0_pay121 p1)
    (k0_pay154 v (k0_pay51 (iota .tc S1x128 32 [1] iota_S1x128_d1_w32)) p0)
    (k0_pay155 v (k0_pay52 (iota .tc S1x128 32 [1] iota_S1x128_d1_w32)) p1)

/-- The 256×128 piece of a block that holds the entry at row `i`, column `d`. -/
def tile {F : FTy → Type} [FloatOps F] (X : Vec F S1024x512 .bf16) (i : Fin 1024) (d : Fin 512) : Vec F S256x128 .bf16 :=
  fun y => X (ix2 ⟨i / 256 * 256 + (y 0 : ℕ), by have : (y 0 : ℕ) < 256 := (y 0).isLt; omega⟩
    ⟨d / 128 * 128 + (y 1 : ℕ), by have : (y 1 : ℕ) < 128 := (y 1).isLt; omega⟩)

theorem tile_at (x0 x1 x2 : Vec Ideal S1024x512 .bf16) (a b : ℕ) (x : S256x128.Idx) (i : Fin 1024) (d : Fin 512)
    (inb : ∀ k, (![a, b] : Fin 2 → ℕ) k + S256x128.size k ≤ S1024x512.size k)
    (h0 : (i : ℕ) = a + (x 0 : ℕ)) (h1 : (d : ℕ) = b + (x 1 : ℕ)) (ea : a % 256 = 0) (eb : b % 128 = 0) :
    pairOut (F := Ideal) (View.ld x0 (Rect.unit (s := S1024x512) ![a, b] S256x128.size inb))
        (View.ld x1 (Rect.unit (s := S1024x512) ![a, b] S256x128.size inb))
        (View.ld x2 (Rect.unit (s := S1024x512) ![a, b] S256x128.size inb)) x
      = pairOut (F := Ideal) (tile x0 i d) (tile x1 i d) (tile x2 i d) (ix2 ⟨i % 256, by omega⟩ ⟨d % 128, by omega⟩) := by
  have l0 : (x 0 : ℕ) < 256 := (x 0).isLt
  have l1 : (x 1 : ℕ) < 128 := (x 1).isLt
  have e (X : Vec Ideal S1024x512 .bf16) : View.ld X (Rect.unit (s := S1024x512) ![a, b] S256x128.size inb) = tile X i d := by
    funext y
    have m0 : (y 0 : ℕ) < 256 := (y 0).isLt
    have m1 : (y 1 : ℕ) < 128 := (y 1).isLt
    unfold tile
    pointwise
    blk_ext
  have ex : x = ix2 ⟨i % 256, by omega⟩ ⟨d % 128, by omega⟩ := by
    funext k
    match k with
    | ⟨0, _⟩ => exact Fin.ext (show (x 0 : ℕ) = i % 256 by omega)
    | ⟨1, _⟩ => exact Fin.ext (show (x 1 : ℕ) = d % 128 by omega)
  rw [e, e, e, ← ex]

set_option maxHeartbeats 2000000 in
/-- An entry of the output block, by the pair and batch entry it lies in. -/
theorem out_apply (x0 x1 x2 : Vec Ideal S1024x512 .bf16) (i : Fin 1024) (d : Fin 512) :
    out0_3 (F := Ideal) x0 x1 x2 (ix2 i d)
      = pairOut (F := Ideal) (tile x0 i d) (tile x1 i d) (tile x2 i d) (ix2 ⟨i % 256, by omega⟩ ⟨d % 128, by omega⟩) := by
  unfold out0_3
  canon_tiles x h
  all_goals first
    | refine Eq.trans ?_ (tile_at x0 x1 x2 _ _ x i d (by decide) h0 h1 rfl rfl)
    | refine Eq.trans ?_ (tile_at x0 x1 x2 _ _ x i d (by decide) (h0.trans (Nat.zero_add _).symm) h1 rfl rfl)
    | refine Eq.trans ?_ (tile_at x0 x1 x2 _ _ x i d (by decide) h0 (h1.trans (Nat.zero_add _).symm) rfl rfl)
    | refine Eq.trans ?_ (tile_at x0 x1 x2 _ _ x i d (by decide) (h0.trans (Nat.zero_add _).symm) (h1.trans (Nat.zero_add _).symm) rfl rfl)
  all_goals
    unfold pairOut
    unfold_payloads
    simp only [shapeCast_id]

end Cert.KernelIdeal.Attn

end
-- ==== Proof.Soft.lean ====
module

public import Idealize.ShloMosaic.PureOps.Ideal
public import Idealize.ShloMosaic.Lib.Pointwise

@[expose] public section

set_option maxRecDepth 16384

noncomputable section

namespace Cert.Soft

open Idealize.ShloMosaic

theorem eighth_bf16 : Ideal.ofBits .bf16 0x3E00#16 = ((1 / 8 : ℝ) : EReal) := by
  simp [Ideal.ofBits, Ideal.ieee]; exact (EReal.coe_mul _ _).symm.trans (congrArg _ (by norm_num))

theorem eighth_f32 : Ideal.ofBits .f32 0x3E000000#32 = ((1 / 8 : ℝ) : EReal) := by
  simp [Ideal.ofBits, Ideal.ieee]; exact (EReal.coe_mul _ _).symm.trans (congrArg _ (by norm_num))

theorem negInf_f32 : Ideal.ofBits .f32 0xFF800000#32 = ⊥ := by
  simp [Ideal.ofBits, Ideal.ieee]

theorem posInf_f32 : Ideal.ofBits .f32 0x7F800000#32 = ⊤ := by
  simp [Ideal.ofBits, Ideal.ieee]

/-- A finite sum of reals is the sum of their extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a nonnegative real goes through a finite sum of extended reals. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem sum_mul {ι : Type} (s : Finset ι) (c : ℝ) (hc : 0 ≤ c) (f : ι → EReal) :
    (∑ i ∈ s, f i) * (c : EReal) = ∑ i ∈ s, f i * (c : EReal) := by
  rw [mul_comm, mul_sum s c hc]
  exact Finset.sum_congr rfl fun i _ => mul_comm _ _

/-- The greatest of a nonempty family of reals, folded from the bottom, is a real. -/
theorem fold_max_real {n : Nat} [NeZero n] (r : Fin n → ℝ) :
    ∃ M : ℝ, Finset.fold max (⊥ : EReal) (fun j => (r j : EReal)) Finset.univ = (M : EReal) := by
  obtain ⟨j, -, hj⟩ := Finset.exists_max_image Finset.univ r ⟨0, Finset.mem_univ _⟩
  refine ⟨r j, le_antisymm ?_ ?_⟩
  · rw [Finset.fold_max_le]
    exact ⟨bot_le, fun x hx => by exact_mod_cast hj x hx⟩
  · rw [Finset.le_fold_max]
    exact Or.inr ⟨j, Finset.mem_univ _, le_rfl⟩

/-- The weights' sum is a positive real. -/
theorem expsum_real {n : Nat} [NeZero n] (r : Fin n → ℝ) (M : ℝ) :
    ∃ L : ℝ, 0 < L ∧ ∑ j, Ideal.exp ((r j : EReal) - (M : EReal)) = (L : EReal) := by
  refine ⟨∑ j, Real.exp (r j - M), Finset.sum_pos (fun j _ => Real.exp_pos _) ⟨0, Finset.mem_univ _⟩, ?_⟩
  rw [coe_sum]
  exact Finset.sum_congr rfl fun j _ => by rw [← EReal.coe_sub, Ideal.exp_coe]

/-- Dividing the weighted sum by the weights' sum is weighting by the quotients. -/
theorem soft_eq {n : Nat} [NeZero n] (r : Fin n → ℝ) (M : ℝ) (v : Fin n → EReal) :
    Ideal.div (∑ j, Ideal.exp ((r j : EReal) - (M : EReal)) * v j) (∑ j, Ideal.exp ((r j : EReal) - (M : EReal)))
      = ∑ j, v j * Ideal.div (Ideal.exp ((r j : EReal) - (M : EReal))) (∑ j, Ideal.exp ((r j : EReal) - (M : EReal))) := by
  obtain ⟨L, hL, e⟩ := expsum_real r M
  rw [e, Ideal.div_coe hL.ne', sum_mul _ _ (by positivity)]
  refine Finset.sum_congr rfl fun j _ => ?_
  rw [Ideal.div_coe hL.ne', mul_comm (Ideal.exp _) (v j), mul_assoc]

/-- Over values that are all zero the quotient is zero. -/
theorem soft_zero {n : Nat} [NeZero n] (r : Fin n → ℝ) (M : ℝ) :
    Ideal.div 0 (∑ j, Ideal.exp ((r j : EReal) - (M : EReal))) = 0 := by
  obtain ⟨L, hL, e⟩ := expsum_real r M
  rw [e, Ideal.div_coe hL.ne', zero_mul]

/-- The scaled scores over 128 lanes of which those outside one half are masked: that half's product, scaled after. -/
theorem score_half (e : Bool) (p : ℕ → BitVec 1) (hp : ∀ x, x < 128 → (p x = 1#1 ↔ (x / 64 = 1 ↔ e = true))) (q k : Fin 128 → ℝ) :
    ∑ x : Fin 128, Scalar.select (p x) ((q x : EReal) * ((1 / 8 : ℝ) : EReal) * (k x : EReal)) (0 : EReal)
      = (((∑ d : Fin 64, q ⟨d + 64 * e.toNat, by have := e.toNat_le; omega⟩ * k ⟨d + 64 * e.toNat, by have := e.toNat_le; omega⟩) * (1 / 8) : ℝ) : EReal) := by
  have h (x : Fin 128) : Scalar.select (p x) ((q x : EReal) * ((1 / 8 : ℝ) : EReal) * (k x : EReal)) (0 : EReal)
      = ((if (x.val / 64 = 1 ↔ e = true) then q x * k x * (1 / 8) else 0 : ℝ) : EReal) := by
    by_cases hx : p x = 1#1
    · rw [if_pos ((hp x x.isLt).mp hx), hx]
      rw [show (1#1 : BitVec 1) = 1 from rfl, Scalar.select, if_pos rfl, ← EReal.coe_mul, ← EReal.coe_mul]
      exact congrArg _ (by ring)
    · rw [if_neg fun h' => hx ((hp x x.isLt).mpr h')]
      rcases BitVec.eq_zero_or_eq_one (p x) with h' | h'
      · rw [h']; simp [Scalar.select]
      · exact absurd h' hx
  rw [Finset.sum_congr rfl fun x _ => h x, ← coe_sum, EReal.coe_eq_coe_iff, Finset.sum_mul]
  rw [show (∑ x : Fin 128, if (x.val / 64 = 1 ↔ e = true) then q x * k x * (1 / 8) else 0)
      = ∑ x : Fin (64 + 64), if (x.val / 64 = 1 ↔ e = true) then q x * k x * (1 / 8) else 0 from rfl, Fin.sum_univ_add]
  cases e
  · rw [show (∑ i : Fin 64, if ((Fin.natAdd 64 i).val / 64 = 1 ↔ false = true) then q (Fin.natAdd 64 i) * k (Fin.natAdd 64 i) * (1 / 8) else 0) = 0 from
      Finset.sum_eq_zero fun i _ => if_neg (by simp), add_zero]
    refine Finset.sum_congr rfl fun i _ => ?_
    rw [if_pos (by have := i.isLt; simp; omega)]
    rfl
  · rw [show (∑ i : Fin 64, if ((Fin.castAdd 64 i).val / 64 = 1 ↔ true = true) then q (Fin.castAdd 64 i) * k (Fin.castAdd 64 i) * (1 / 8) else 0) = 0 from
      Finset.sum_eq_zero fun i _ => if_neg (by have := i.isLt; simp; omega), zero_add]
    refine Finset.sum_congr rfl fun i _ => ?_
    rw [if_pos (by simp)]
    have : Fin.natAdd 64 i = (⟨i + 64 * true.toNat, by simp; omega⟩ : Fin 128) := Fin.ext (by simp [Nat.add_comm])
    rw [this]

end Cert.Soft

end
-- ==== Proof.CtxSoft.lean ====
module

public import proofs.«01_k».proof.Proof.CtxPair
public import proofs.«01_k».proof.Proof.Soft

@[expose] public section

set_option maxRecDepth 16384

noncomputable section

namespace Cert.KernelIdeal.Attn

open Cert.KernelIdeal Cert.KernelIdeal.Gen Cert.Soft Idealize.ShloMosaic Idealize.ShloMosaic.TcCoe Idealize.SL.Sem

theorem lane_lo : ∀ x, x < 128 → (IntOp.cmpi .slt (BitVec.ofNat 32 x) 64#32 = 1#1 ↔ (x / 64 = 1 ↔ false = true)) := by
  decide +kernel

theorem lane_hi : ∀ x, x < 128 → (IntOp.cmpi .sge (BitVec.ofNat 32 x) 64#32 = 1#1 ↔ (x / 64 = 1 ↔ true = true)) := by
  decide +kernel

theorem select_of (p : BitVec 1) (e b : Bool) (h : p = 1#1 ↔ (e = true ↔ b = true)) (x y : EReal) :
    Scalar.select p x y = if (e = b) then x else y := by
  by_cases hb : e = b
  · rw [if_pos hb, h.mpr (by rw [hb])]
    rfl
  · rw [if_neg hb]
    rcases BitVec.eq_zero_or_eq_one p with h' | h'
    · rw [h']
      rfl
    · exact absurd (h.mp h') (by cases e <;> cases b <;> simp_all)

/-- The score of query row `i` against key row `j` in half `e` of the 128 lanes. -/
def score (q k : Fin 256 → Fin 128 → ℝ) (e : Bool) (i j : Fin 256) : ℝ :=
  (∑ d : Fin 64, q i ⟨d + 64 * e.toNat, by have := e.toNat_le; omega⟩ * k j ⟨d + 64 * e.toNat, by have := e.toNat_le; omega⟩) * (1 / 8)

/-- One pair of heads: each column is its own head's softmax-weighted sum of the values. -/
theorem pair_val (q k v : Vec Ideal S256x128 .bf16) (qr kr : Fin 256 → Fin 128 → ℝ) (hq : ∀ i x, q (ix2 i x) = (qr i x : EReal))
    (hk : ∀ i x, k (ix2 i x) = (kr i x : EReal)) (i : Fin 256) (d : Fin 128) (e : Bool) (he : d.val / 64 = 1 ↔ e = true) :
    pairOut (F := Ideal) q k v (ix2 i d)
      = ∑ j : Fin 256, v (ix2 j d) * Ideal.div
          (Ideal.exp ((score qr kr e i j : EReal) - Finset.fold max (⊥ : EReal) (fun j => (score qr kr e i j : EReal)) Finset.univ))
          (∑ j : Fin 256, Ideal.exp ((score qr kr e i j : EReal) - Finset.fold max (⊥ : EReal) (fun j => (score qr kr e i j : EReal)) Finset.univ)) := by
  unfold pairOut
  unfold_payloads
  pointwise
  have hlo (j : Fin 256) := score_half false (fun x => IntOp.cmpi .slt (BitVec.ofNat 32 x) 64#32) lane_lo (qr i) (kr j)
  have hhi (j : Fin 256) := score_half true (fun x => IntOp.cmpi .sge (BitVec.ofNat 32 x) 64#32) lane_hi (qr i) (kr j)
  simp only [negInf_f32, eighth_bf16, hq, hk, hlo, hhi]
  obtain ⟨M0, e0⟩ := fold_max_real (score qr kr false i)
  obtain ⟨M1, e1⟩ := fold_max_real (score qr kr true i)
  have d0 := select_of _ e false ((lane_lo d d.isLt).trans (by rw [he]))
  have d1 := select_of _ e true ((lane_hi d d.isLt).trans (by rw [he]))
  simp only [d0, d1]
  simp only [score] at e0 e1 ⊢
  cases e
  · simp only [if_true, reduceCtorEq, if_false, Finset.sum_const_zero, e0, e1]
    exact (congrArg (_ + ·) (soft_zero (score qr kr true i) M1)).trans ((add_zero _).trans (soft_eq (score qr kr false i) M0 _))
  · simp only [if_true, reduceCtorEq, if_false, Finset.sum_const_zero, e0, e1]
    exact (congrArg (· + _) (soft_zero (score qr kr false i) M0)).trans ((zero_add _).trans (soft_eq (score qr kr true i) M1 _))

end Cert.KernelIdeal.Attn

end
-- ==== Proof.CtxRef.lean ====
module

public import proofs.«01_k».proof.Proof.Gen.ReferenceIdeal.Run
public import proofs.«01_k».proof.Proof.Soft
public import Idealize.ShloMosaic.Lib.Pointwise

@[expose] public section

set_option maxRecDepth 16384

noncomputable section

namespace Cert.ReferenceIdeal.Attn

open Cert.ReferenceIdeal Cert.ReferenceIdeal.Gen Cert.Soft Idealize.ShloMosaic Idealize.ShloMosaic.TcCoe Idealize.SL.Sem

/-- The reference's scaled scores. -/
def scores (Q K : FVec Ideal Cert.ReferenceIdeal.S32x256x8x64 .f32) : FVec Ideal Cert.ReferenceIdeal.S32x8x256x256 .f32 :=
  mulf (Host.dotGeneral Cert.ReferenceIdeal.dot_S32x256x8x64_S32x256x8x64_S32x8x256x256_3_3_1_1_02_02 none Q K) (broadcastInDim Cert.ReferenceIdeal.S32x8x256x256 ![] Cert.ReferenceIdeal.Gen.bcast_S_S32x8x256x256 (constant Cert.ReferenceIdeal.S_ .f32 0x3E000000#32))

theorem scores_val (Q K : FVec Ideal Cert.ReferenceIdeal.S32x256x8x64 .f32) (b : Fin 32) (h : Fin 8) (i j : Fin 256) :
    scores Q K (ix4 b h i j) = (∑ e : Fin 64, Q (ix4 b i h e) * K (ix4 b j h e)) * ((1 / 8 : ℝ) : EReal) := by
  unfold scores
  pointwise
  rw [eighth_f32]

/-- The reference's row maximum. -/
def rowmax (X : FVec Ideal Cert.ReferenceIdeal.S32x8x256x256 .f32) : FVec Ideal Cert.ReferenceIdeal.S32x8x256 .f32 :=
  Host.reduce FloatOps.maximumf X (constant Cert.ReferenceIdeal.S_ .f32 0xFF800000#32) Cert.ReferenceIdeal.Gen.reducesTo_S32x8x256x256_S32x8x256_d3 Cert.ReferenceIdeal.Gen.h_S_

theorem rowmax_val (X : FVec Ideal Cert.ReferenceIdeal.S32x8x256x256 .f32) (b : Fin 32) (h : Fin 8) (i : Fin 256) :
    rowmax X (ix3 b h i) = Finset.fold max (⊥ : EReal) (fun j => X (ix4 b h i j)) Finset.univ := by
  unfold rowmax
  pointwise
  rw [negInf_f32]

/-- The reference's exponentials of the scores less their row maximum. -/
def weights (Q K : FVec Ideal Cert.ReferenceIdeal.S32x256x8x64 .f32) : FVec Ideal Cert.ReferenceIdeal.S32x8x256x256 .f32 :=
  Host.exp (subf (scores Q K) (broadcastInDim Cert.ReferenceIdeal.S32x8x256x256 ![0, 1, 2, 3] Cert.ReferenceIdeal.Gen.bcast_S32x8x256x1_S32x8x256x256_0_1_2_3 (broadcastInDim Cert.ReferenceIdeal.S32x8x256x1 ![0, 1, 2] Cert.ReferenceIdeal.Gen.bcast_S32x8x256_S32x8x256x1_0_1_2 (maximumf (broadcastInDim Cert.ReferenceIdeal.S32x8x256 ![] Cert.ReferenceIdeal.Gen.bcast_S_S32x8x256 (constant Cert.ReferenceIdeal.S_ .f32 0xFF800000#32)) (rowmax (scores Q K))))))

theorem cap_val (X : FVec Ideal Cert.ReferenceIdeal.S32x8x256 .f32) (b : Fin 32) (h : Fin 8) (i : Fin 256) :
    maximumf (broadcastInDim Cert.ReferenceIdeal.S32x8x256 ![] Cert.ReferenceIdeal.Gen.bcast_S_S32x8x256 (constant Cert.ReferenceIdeal.S_ .f32 0xFF800000#32)) X (ix3 b h i) = X (ix3 b h i) := by
  pointwise
  rw [negInf_f32, max_eq_right bot_le]

theorem spread_val (X : FVec Ideal Cert.ReferenceIdeal.S32x8x256 .f32) (b : Fin 32) (h : Fin 8) (i j : Fin 256) :
    (broadcastInDim Cert.ReferenceIdeal.S32x8x256x256 ![0, 1, 2, 3] Cert.ReferenceIdeal.Gen.bcast_S32x8x256x1_S32x8x256x256_0_1_2_3 (broadcastInDim Cert.ReferenceIdeal.S32x8x256x1 ![0, 1, 2] Cert.ReferenceIdeal.Gen.bcast_S32x8x256_S32x8x256x1_0_1_2 X)) (ix4 b h i j) = X (ix3 b h i) := by
  pointwise

theorem expdiff_val (X Y : FVec Ideal Cert.ReferenceIdeal.S32x8x256x256 .f32) (b : Fin 32) (h : Fin 8) (i j : Fin 256) :
    Host.exp (subf X Y) (ix4 b h i j) = Ideal.exp (X (ix4 b h i j) - Y (ix4 b h i j)) := by
  pointwise

theorem weights_val (Q K : FVec Ideal Cert.ReferenceIdeal.S32x256x8x64 .f32) (b : Fin 32) (h : Fin 8) (i j : Fin 256) :
    weights Q K (ix4 b h i j)
      = Ideal.exp (scores Q K (ix4 b h i j) - Finset.fold max (⊥ : EReal) (fun j => scores Q K (ix4 b h i j)) Finset.univ) := by
  unfold weights
  rw [expdiff_val, spread_val, cap_val, rowmax_val]

/-- The reference's result, of its three arguments. -/
def REF (Q K W : FVec Ideal Cert.ReferenceIdeal.S32x256x8x64 .f32) : FVec Ideal Cert.ReferenceIdeal.S8192x512 .bf16 :=
  truncf .bf16 (shapeCast _ (transpose Cert.ReferenceIdeal.S32x256x8x64 [0, 3, 1, 2] (Host.dotGeneral Cert.ReferenceIdeal.dot_S32x256x8x64_S32x8x256x256_S32x8x64x256_1_3_3_2_02_01 none W (Host.divf (weights Q K) (broadcastInDim Cert.ReferenceIdeal.S32x8x256x256 ![0, 1, 2, 3] Cert.ReferenceIdeal.Gen.bcast_S32x8x256x1_S32x8x256x256_0_1_2_3 (broadcastInDim Cert.ReferenceIdeal.S32x8x256x1 ![0, 1, 2] Cert.ReferenceIdeal.Gen.bcast_S32x8x256_S32x8x256x1_0_1_2 (Host.reduceAdd (weights Q K) (constant Cert.ReferenceIdeal.S_ .f32 0x00000000#32) Cert.ReferenceIdeal.Gen.reducesTo_S32x8x256x256_S32x8x256_d3 Cert.ReferenceIdeal.Gen.h_S_))))) Cert.ReferenceIdeal.Gen.transposes_S32x8x64x256_S32x256x8x64_0_3_1_2) Cert.ReferenceIdeal.Gen.shapeCasts_S32x256x8x64_S8192x512) Cert.ReferenceIdeal.Gen.bitsLt_bf16_f32

theorem ref_val (Q K W : FVec Ideal Cert.ReferenceIdeal.S32x256x8x64 .f32) (i : Fin 8192) (d : Fin 512) :
    REF Q K W (ix2 i d) = ∑ x : Fin 256, W (ix4 ⟨i / 256, by omega⟩ x ⟨d / 64, by omega⟩ ⟨d % 64, by omega⟩) *
      Ideal.div (weights Q K (ix4 ⟨i / 256, by omega⟩ ⟨d / 64, by omega⟩ ⟨i % 256, by omega⟩ x))
        (∑ x : Fin 256, weights Q K (ix4 ⟨i / 256, by omega⟩ ⟨d / 64, by omega⟩ ⟨i % 256, by omega⟩ x)) := by
  unfold REF
  pointwise

end Cert.ReferenceIdeal.Attn

end
-- ==== Proof.CtxVal.lean ====
module

public import proofs.«01_k».proof.Proof.CtxSoft
public import proofs.«01_k».proof.Proof.CtxRef

@[expose] public section

set_option maxRecDepth 16384

noncomputable section

namespace Cert.KernelIdeal.Attn

open Cert.KernelIdeal Cert.KernelIdeal.Gen Cert.Soft Idealize.ShloMosaic Idealize.ShloMosaic.TcCoe Idealize.SL.Sem
open Idealize.ShloMosaic.Pipeline (Dat)

/-- The array the host prepares: queries, keys and values side by side, one row per token. -/
def packed (A B W : FVec Ideal S32x256x8x64 .f32) : FVec Ideal S8192x1536 .bf16 :=
  truncf .bf16 (concatenate S8192x1536 1 [⟨S8192x512, shapeCast S8192x512 A shapeCasts_S32x256x8x64_S8192x512⟩,
    ⟨S8192x512, shapeCast S8192x512 B shapeCasts_S32x256x8x64_S8192x512⟩, ⟨S8192x512, shapeCast S8192x512 W shapeCasts_S32x256x8x64_S8192x512⟩]
    concatenates_S8192x512_S8192x512_S8192x512_S8192x1536_d1) bitsLt_bf16_f32

/-- The entry of token `n`, column `x` of an argument. -/
def tok (A : FVec Ideal S32x256x8x64 .f32) (n : Fin 8192) (x : Fin 512) : EReal :=
  A (ix4 ⟨n / 256, by omega⟩ ⟨n % 256, by omega⟩ ⟨x / 64, by omega⟩ ⟨x % 64, by omega⟩)

theorem packed_q (A B W : FVec Ideal S32x256x8x64 .f32) (n : Fin 8192) (x : Fin 512) : packed A B W (ix2 n ⟨x, by omega⟩) = tok A n x := by
  unfold packed tok
  pointwise

theorem packed_k (A B W : FVec Ideal S32x256x8x64 .f32) (n : Fin 8192) (x : Fin 512) : packed A B W (ix2 n ⟨512 + x, by omega⟩) = tok B n x := by
  unfold packed tok
  pointwise

theorem packed_v (A B W : FVec Ideal S32x256x8x64 .f32) (n : Fin 8192) (x : Fin 512) : packed A B W (ix2 n ⟨1024 + x, by omega⟩) = tok W n x := by
  unfold packed tok
  pointwise
  blk_point
  all_goals (exfalso; omega)

variable (m : (ℓ : Loc nD τ sig) → Buf (Elt Ideal) ℓ)

theorem staged (c : Dev nD) : V m c main_v4
    = packed (m ((c.tc : Thread nD τ).loc main_arg0)) (m ((c.tc : Thread nD τ).loc main_arg1)) (m ((c.tc : Thread nD τ).loc main_arg2)) := rfl

theorem idx : ∀ t : Fin cfg0.N, win0_0.index t = ![t.val, 0] ∧ win0_1.index t = ![t.val, 1] ∧ win0_2.index t = ![t.val, 2] ∧ win0_3.index t = ![t.val, 0] :=
  (by decide +kernel : ∀ t : Fin grid0.N, _)

theorem q_at (c : Dev nD) (t : Fin cfg0.N) (ht : t.val < 8) (r : Fin 1024) (x : Fin 512) :
    iblk m c 0 t (ix2 r x) = tok (m ((c.tc : Thread nD τ).loc main_arg0)) ⟨1024 * t + r, by omega⟩ x := by
  rw [← packed_q (m ((c.tc : Thread nD τ).loc main_arg0)) (m ((c.tc : Thread nD τ).loc main_arg1)) (m ((c.tc : Thread nD τ).loc main_arg2)), ← staged m c]
  blk_ext [iblk, idx t]

theorem k_at (c : Dev nD) (t : Fin cfg0.N) (ht : t.val < 8) (r : Fin 1024) (x : Fin 512) :
    iblk m c 1 t (ix2 r x) = tok (m ((c.tc : Thread nD τ).loc main_arg1)) ⟨1024 * t + r, by omega⟩ x := by
  rw [← packed_k (m ((c.tc : Thread nD τ).loc main_arg0)) (m ((c.tc : Thread nD τ).loc main_arg1)) (m ((c.tc : Thread nD τ).loc main_arg2)), ← staged m c]
  blk_ext [iblk, idx t]

theorem v_at (c : Dev nD) (t : Fin cfg0.N) (ht : t.val < 8) (r : Fin 1024) (x : Fin 512) :
    iblk m c 2 t (ix2 r x) = tok (m ((c.tc : Thread nD τ).loc main_arg2)) ⟨1024 * t + r, by omega⟩ x := by
  rw [← packed_v (m ((c.tc : Thread nD τ).loc main_arg0)) (m ((c.tc : Thread nD τ).loc main_arg1)) (m ((c.tc : Thread nD τ).loc main_arg2)), ← staged m c]
  blk_ext [iblk, idx t]

theorem tile_apply (X : Vec Ideal S1024x512 .bf16) (i : Fin 1024) (d : Fin 512) (a : Fin 256) (x : Fin 128) :
    tile X i d (ix2 a x) = X (ix2 ⟨i / 256 * 256 + a, by omega⟩ ⟨d / 128 * 128 + x, by omega⟩) := rfl

theorem tile_v (c : Dev nD) (t : Fin cfg0.N) (ht : t.val < 8) (i : Fin 1024) (d : Fin 512) (j : Fin 256) :
    tile (iblk m c 2 t) i d (ix2 j ⟨d % 128, by omega⟩)
      = m ((c.tc : Thread nD τ).loc main_arg2) (ix4 ⟨(1024 * t + i) / 256, by omega⟩ j ⟨d / 64, by omega⟩ ⟨d % 64, by omega⟩) := by
  rw [tile_apply, v_at m c t ht, tok]
  blk_ext

/-- Entry (`i`, `d`) of grid point `t`'s block is the reference's entry at that token and column. -/
theorem point (c : Dev nD) (t : Fin cfg0.N) (ht : t.val < 8)
    (Qr Kr : Fin 32 → Fin 256 → Fin 8 → Fin 64 → ℝ)
    (hQ : ∀ b i h e, m ((c.tc : Thread nD τ).loc main_arg0) (ix4 b i h e) = (Qr b i h e : EReal))
    (hK : ∀ b i h e, m ((c.tc : Thread nD τ).loc main_arg1) (ix4 b i h e) = (Kr b i h e : EReal))
    (i : Fin 1024) (d : Fin 512) :
    out0_3 (F := Ideal) (iblk m c 0 t) (iblk m c 1 t) (iblk m c 2 t) (ix2 i d)
      = Cert.ReferenceIdeal.Attn.REF (m ((c.tc : Thread nD τ).loc main_arg0)) (m ((c.tc : Thread nD τ).loc main_arg1))
          (m ((c.tc : Thread nD τ).loc main_arg2)) (ix2 ⟨1024 * t + i, by omega⟩ d) := by
  have hid : i.val / 256 < 4 := by omega
  let row (a : Fin 256) : Fin 8192 := ⟨1024 * t + (i / 256 * 256 + a), by omega⟩
  let col (x : Fin 128) : Fin 512 := ⟨d / 128 * 128 + x, by omega⟩
  have hb (a : Fin 256) : (⟨(row a).val / 256, by omega⟩ : Fin 32) = ⟨(1024 * t + i) / 256, by omega⟩ := Fin.ext (show (1024 * t.val + (i / 256 * 256 + a)) / 256 = (1024 * t + i) / 256 by omega)
  have hr (a : Fin 256) : (⟨(row a).val % 256, by omega⟩ : Fin 256) = a := Fin.ext (show (1024 * t.val + (i / 256 * 256 + a)) % 256 = a by omega)
  have hh (e : Fin 64) : (⟨(col ⟨e + 64 * (decide (d.val % 128 / 64 = 1)).toNat, by have := (decide (d.val % 128 / 64 = 1)).toNat_le; omega⟩).val / 64, by omega⟩ : Fin 8) = ⟨d / 64, by omega⟩ := by
    refine Fin.ext (show (d.val / 128 * 128 + (e + 64 * (decide (d.val % 128 / 64 = 1)).toNat)) / 64 = d / 64 from ?_)
    by_cases h : d.val % 128 / 64 = 1
    · rw [decide_eq_true h, Bool.toNat_true]
      omega
    · rw [decide_eq_false h, Bool.toNat_false]
      omega
  have he (e : Fin 64) : (⟨(col ⟨e + 64 * (decide (d.val % 128 / 64 = 1)).toNat, by have := (decide (d.val % 128 / 64 = 1)).toNat_le; omega⟩).val % 64, by omega⟩ : Fin 64) = e := by
    refine Fin.ext (show (d.val / 128 * 128 + (e + 64 * (decide (d.val % 128 / 64 = 1)).toNat)) % 64 = e from ?_)
    by_cases h : d.val % 128 / 64 = 1
    · rw [decide_eq_true h, Bool.toNat_true]
      omega
    · rw [decide_eq_false h, Bool.toNat_false]
      omega
  rw [out_apply, pair_val _ _ _
    (fun a x => Qr ⟨(row a).val / 256, by omega⟩ ⟨(row a).val % 256, by omega⟩ ⟨(col x).val / 64, by omega⟩ ⟨(col x).val % 64, by omega⟩)
    (fun a x => Kr ⟨(row a).val / 256, by omega⟩ ⟨(row a).val % 256, by omega⟩ ⟨(col x).val / 64, by omega⟩ ⟨(col x).val % 64, by omega⟩)
    (fun a x => (tile_apply _ i d a x).trans <| (q_at m c t ht ⟨i / 256 * 256 + a, by omega⟩ (col x)).trans (hQ _ _ _ _))
    (fun a x => (tile_apply _ i d a x).trans <| (k_at m c t ht ⟨i / 256 * 256 + a, by omega⟩ (col x)).trans (hK _ _ _ _))
    ⟨i % 256, by omega⟩ ⟨d % 128, by omega⟩ (decide (d.val % 128 / 64 = 1)) (decide_eq_true_iff).symm,
    Cert.ReferenceIdeal.Attn.ref_val]
  have hv (j : Fin 256) := tile_v m c t ht i d j
  have hs (j : Fin 256) : Cert.ReferenceIdeal.Attn.scores (m ((c.tc : Thread nD τ).loc main_arg0)) (m ((c.tc : Thread nD τ).loc main_arg1))
        (ix4 ⟨(1024 * t + i) / 256, by omega⟩ ⟨d / 64, by omega⟩ ⟨(1024 * t + i) % 256, by omega⟩ j)
      = (score (fun a x => Qr ⟨(row a).val / 256, by omega⟩ ⟨(row a).val % 256, by omega⟩ ⟨(col x).val / 64, by omega⟩ ⟨(col x).val % 64, by omega⟩)
          (fun a x => Kr ⟨(row a).val / 256, by omega⟩ ⟨(row a).val % 256, by omega⟩ ⟨(col x).val / 64, by omega⟩ ⟨(col x).val % 64, by omega⟩)
          (decide (d.val % 128 / 64 = 1)) ⟨i % 256, by omega⟩ j : EReal) := by
    have hi : (⟨(1024 * t.val + i) % 256, by omega⟩ : Fin 256) = ⟨i % 256, by omega⟩ := Fin.ext (show (1024 * t.val + i) % 256 = i % 256 by omega)
    rw [Cert.ReferenceIdeal.Attn.scores_val, score]
    simp only [hQ, hK, hb, hr, hh, he, hi, EReal.coe_mul, coe_sum]
  simp only [Cert.ReferenceIdeal.Attn.weights_val, hs, hv]

/-- The output array: the reference's result, whenever queries and keys are reals. -/
theorem final (c : Dev nD) (Qr Kr : Fin 32 → Fin 256 → Fin 8 → Fin 64 → ℝ)
    (hQ : ∀ b i h e, m ((c.tc : Thread nD τ).loc main_arg0) (ix4 b i h e) = (Qr b i h e : EReal))
    (hK : ∀ b i h e, m ((c.tc : Thread nD τ).loc main_arg1) (ix4 b i h e) = (Kr b i h e : EReal)) :
    (dats m 0 c).arrAt 3 cfg0.N
      = Cert.ReferenceIdeal.Attn.REF (m ((c.tc : Thread nD τ).loc main_arg0)) (m ((c.tc : Thread nD τ).loc main_arg1))
          (m ((c.tc : Thread nD τ).loc main_arg2)) := by
  refine (dats m 0 c).arrAt_eq_of_covers 3 _ (by decide +kernel) fun t _ y => ?_
  have ht : t.val < 8 := lt_of_lt_of_eq t.isLt (by decide +kernel)
  blk_simp
  rw [after0_3]
  have ey : y = ix2 (n0 := 1024) (n1 := 512) (y 0) (y 1) := by
    blk_ext
  have ez : (win0_3.blk t).view.emb y = ix2 (n0 := 8192) (n1 := 512) ⟨1024 * t + (y 0 : ℕ), by have : (y 0 : ℕ) < 1024 := (y 0).isLt; clear * - this ht; omega⟩ (y 1) := by
    blk_ext [idx t]
  rw [ez]
  exact (congrArg _ ey).trans (point m c t ht Qr Kr hQ hK (y 0) (y 1))

end Cert.KernelIdeal.Attn

end
-- ==== Proof.Finite.lean ====
module

public import proofs.«01_k».proof.Proof.Gen.Pre_finite_qk
public import proofs.«01_k».proof.Proof.Soft
public import Idealize.ShloMosaic.Lib.Pointwise

@[expose] public section

set_option maxRecDepth 16384

noncomputable section

namespace Cert.Pre_finite_qk.Reals

open Cert.Pre_finite_qk Cert.Pre_finite_qk.Gen Cert.Soft Idealize.ShloMosaic Idealize.ShloMosaic.TcCoe Idealize.SL.Sem

theorem fold_one {ι : Type} [DecidableEq ι] (s : Finset ι) (f : ι → BitVec 1) (h : Finset.fold IntOp.andi (1#1) f s = 1#1) : ∀ x ∈ s, f x = 1#1 := by
  induction s using Finset.induction_on with
  | empty => simp
  | insert a s ha ih =>
    rw [Finset.fold_insert ha] at h
    have h2 : ∀ p q : BitVec 1, IntOp.andi p q = 1#1 → p = 1#1 ∧ q = 1#1 := by decide
    intro x hx
    rcases Finset.mem_insert.mp hx with rfl | hx
    · exact (h2 _ _ h).1
    · exact ih (h2 _ _ h).2 x hx

theorem real_of_abs_lt (x : EReal) (h : max x (-x) < ⊤) : ∃ r : ℝ, x = (r : EReal) := by
  induction x with
  | bot => simp at h
  | coe r => exact ⟨r, rfl⟩
  | top => simp at h

theorem all_real (X : FVec Ideal S32x256x8x64 .f32)
    (h : Host.reduce IntOp.andi (cmpf .olt (Host.absf X) (broadcastInDim S32x256x8x64 ![] bcast_S_S32x256x8x64 (constant (F := Ideal) S_ .f32 0x7F800000#32))) (constantI S_ 1 1#1) reducesTo_S32x256x8x64_S_d0_1_2_3 h_S_ ix0 = 1#1)
    (j : S32x256x8x64.Idx) : ∃ r : ℝ, X j = (r : EReal) := by
  pointwise at h
  have := fold_one _ _ h j (Finset.mem_filter.mpr ⟨Finset.mem_univ _, funext fun k => k.elim0⟩)
  rw [posInf_f32] at this
  refine real_of_abs_lt (X j) ?_
  by_contra hn
  rw [show decide (FloatOps.absf (X j) < (⊤ : EReal)) = false from decide_eq_false hn] at this
  exact absurd this (by decide)

/-- The precondition says that every query and every key is a real. -/
theorem reals (q k v : FVec Ideal S32x256x8x64 .f32) (h : Cert.Pre_finite_qk.fn (F := Ideal) q k v = fun _ => 1#1) :
    (∀ b i g e, ∃ r : ℝ, q (ix4 b i g e) = (r : EReal)) ∧ (∀ b i g e, ∃ r : ℝ, k (ix4 b i g e) = (r : EReal)) := by
  have h2 : ∀ p q : BitVec 1, IntOp.andi p q = 1#1 → p = 1#1 ∧ q = 1#1 := by decide
  have hh := h2 _ _ (congrFun h ix0)
  exact ⟨fun b i g e => all_real q hh.1 _, fun b i g e => all_real k hh.2 _⟩

end Cert.Pre_finite_qk.Reals

end
-- ==== Proof.MergeRow.lean ====
module

public import Idealize.ShloMosaic.PureOps.Ideal
public import Idealize.ShloMosaic.Lib.Pointwise

@[expose] public section

set_option maxRecDepth 16384

noncomputable section

namespace Cert.Merge

open Idealize.ShloMosaic

theorem half_f32 : Ideal.ofBits .f32 0x3F000000#32 = ((1 / 2 : ℝ) : EReal) := by
  simp [Ideal.ofBits, Ideal.ieee]; exact (EReal.coe_mul _ _).symm.trans (congrArg _ (by norm_num))

theorem one_f32 : Ideal.ofBits .f32 0x3F800000#32 = 1 := by
  simp [Ideal.ofBits, Ideal.ieee]; exact (EReal.coe_mul _ _).symm.trans ((congrArg _ (by norm_num)).trans EReal.coe_one)

theorem zero_f32 : Ideal.ofBits .f32 0x00000000#32 = 0 := by
  simp [Ideal.ofBits, Ideal.ieee]

/-- Half a hyperbolic tangent of the half, and a half, is the logistic function, at the infinities too. -/
theorem logistic_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, mul_neg, mul_one, add_comm, ← sub_eq_add_neg,
      ← EReal.coe_sub, sub_self, EReal.coe_zero]
  | top =>
    rw [EReal.coe_mul_top_of_pos (by norm_num), Ideal.tanh_top, Ideal.logistic_top, mul_one, ← EReal.coe_add, ← EReal.coe_one]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h : Real.exp (1 / 2 * r) ≠ 0 := (Real.exp_pos _).ne'
    have e : Real.exp (-(1 / 2 * r)) = (Real.exp (1 / 2 * r))⁻¹ := Real.exp_neg _
    have e' : Real.exp (-r) = (Real.exp (1 / 2 * r))⁻¹ * (Real.exp (1 / 2 * r))⁻¹ := by
      rw [← e, ← Real.exp_add]
      congr 1
      ring
    rw [e, e']
    have p : 0 < Real.exp (1 / 2 * r) := Real.exp_pos _
    have q : (1 : ℝ) + (Real.exp (1 / 2 * r))⁻¹ * (Real.exp (1 / 2 * r))⁻¹ ≠ 0 := by positivity
    have q' : Real.exp (1 / 2 * r) + (Real.exp (1 / 2 * r))⁻¹ ≠ 0 := by positivity
    field_simp
    ring

/-- One row divided by its root mean square, times a weight. -/
def rms (y w : Fin 1024 → EReal) (i : Fin 1024) : EReal :=
  y i * Ideal.rsqrt (Ideal.div (∑ x, y x * y x) (Ideal.ofBits .f32 0x44800000#32) + Ideal.ofBits .f32 0x358637BD#32) * w i

/-- A row times a matrix. -/
def proj {n k : ℕ} (r : Fin n → EReal) (w : Fin n → Fin k → EReal) (i : Fin k) : EReal := ∑ x, r x * w x i

/-- The recurrence's row, gated by its output gate. -/
def gated {n : ℕ} (d z : Fin n → EReal) (i : Fin n) : EReal := d i * (z i * Ideal.logistic (z i))

/-- The two branches, each gated channel by channel, added. -/
def mixed {n : ℕ} (a b ga gb : Fin n → EReal) (i : Fin n) : EReal := Ideal.logistic (ga i) * a i + Ideal.logistic (gb i) * b i

/-- A residual step: the row and a gate times the normed update. -/
def step (x g y w : Fin 1024 → EReal) (i : Fin 1024) : EReal := x i + g i * rms y w i

/-- The modulated norm before the feed-forward part. -/
def pre (x w sc sh : Fin 1024 → EReal) (i : Fin 1024) : EReal := rms x w i * (1 + sc i) + sh i

/-- The squared rectifier. -/
def relu2 {n : ℕ} (f : Fin n → EReal) (i : Fin n) : EReal := max (f i) 0 * max (f i) 0

/-- One token's row after the mixers' residual step. -/
def mid (x : Fin 1024 → EReal) (a d z : Fin 512 → EReal) (ga gd g1 wp : Fin 1024 → EReal) (wa wd : Fin 512 → Fin 1024 → EReal)
    (wo : Fin 1024 → Fin 1024 → EReal) : Fin 1024 → EReal :=
  step x g1 (proj (mixed (proj a wa) (proj (gated d z) wd) ga gd) wo) wp

/-- One token's row after the feed-forward part's residual step. -/
def ffn (x sh sc g2 w wp : Fin 1024 → EReal) (w1 : Fin 1024 → Fin 4096 → EReal) (w2 : Fin 4096 → Fin 1024 → EReal) : Fin 1024 → EReal :=
  step x g2 (proj (relu2 (proj (pre x w sc sh) w1)) w2) wp

end Cert.Merge

end
-- ==== Proof.MergeBlock.lean ====
module

public import proofs.«01_k».proof.Proof.Gen.Kernel2Ideal.Value
public import proofs.«01_k».proof.Proof.MergeRow
public import Idealize.ShloMosaic.Lib.Pipeline.ValueKit
public import Idealize.ShloMosaic.Lib.Pointwise

@[expose] public section

set_option maxRecDepth 16384

noncomputable section

namespace Cert.Kernel2Ideal.Sub

open Cert.Kernel2Ideal Cert.Kernel2Ideal.Gen Cert.Merge Idealize.ShloMosaic Idealize.ShloMosaic.TcCoe Idealize.SL.Sem

/-! The steps of one sub-tile of 256 tokens, each as one function of whole pieces. -/

/-- The logistic function as the kernel computes it, by a hyperbolic tangent. -/
def sigB (g : FVec Ideal S256x1024 .bf16) : FVec Ideal S256x1024 .f32 :=
  addf (mulf (broadcast S256x1024 (Scalar.ofBits .f32 0x3F000000#32)) (tanh (mulf (broadcast S256x1024 (Scalar.ofBits .f32 0x3F000000#32)) (extf .f32 g bitsLt_bf16_f32))))
    (broadcast S256x1024 (Scalar.ofBits .f32 0x3F000000#32))

def gatedB (d z : FVec Ideal S256x512 .bf16) : FVec Ideal S256x512 .f32 :=
  mulf (extf .f32 d bitsLt_bf16_f32) (mulf (extf .f32 z bitsLt_bf16_f32)
    (addf (mulf (broadcast S256x512 (Scalar.ofBits .f32 0x3F000000#32)) (tanh (mulf (broadcast S256x512 (Scalar.ofBits .f32 0x3F000000#32)) (extf .f32 z bitsLt_bf16_f32))))
      (broadcast S256x512 (Scalar.ofBits .f32 0x3F000000#32))))

def dotS (a : FVec Ideal S256x512 .bf16) (w : FVec Ideal S512x1024 .bf16) : FVec Ideal S256x1024 .f32 :=
  matmul dot_S256x512_S512x1024_S256x1024_1_0_0_1_n_n none a w (constant S256x1024 .f32 0x00000000#32)

def dotT (a : FVec Ideal S256x512 .f32) (w : FVec Ideal S512x1024 .bf16) : FVec Ideal S256x1024 .f32 := dotS (truncf .bf16 a bitsLt_bf16_f32) w

def mixB (a b : FVec Ideal S256x1024 .f32) (ga gb : FVec Ideal S256x1024 .bf16) : FVec Ideal S256x1024 .f32 := addf (mulf (sigB ga) a) (mulf (sigB gb) b)

def dotO (a : FVec Ideal S256x1024 .f32) (w : FVec Ideal S1024x1024 .bf16) : FVec Ideal S256x1024 .f32 :=
  matmul dot_S256x1024_S1024x1024_S256x1024_1_0_0_1_n_n none (truncf .bf16 a bitsLt_bf16_f32) w (constant S256x1024 .f32 0x00000000#32)

def rmsB (y : FVec Ideal S256x1024 .f32) (w : FVec Ideal S1x1024 .f32) : FVec Ideal S256x1024 .f32 :=
  mulf (mulf y (broadcastTo S256x1024 (rsqrt (addf (divf (shapeCast S256x1 (multiReduction .add [1] S256 (mulf y y) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 w broadcasts_S1x1024_S256x1024)

def stepB (x : FVec Ideal S256x1024 .f32) (g : FVec Ideal S1x1024 .f32) (y : FVec Ideal S256x1024 .f32) (w : FVec Ideal S1x1024 .f32) : FVec Ideal S256x1024 .f32 :=
  addf x (mulf (broadcastTo S256x1024 g broadcasts_S1x1024_S256x1024) (rmsB y w))

def modB (r : FVec Ideal S256x1024 .f32) (sc sh : FVec Ideal S1x1024 .f32) : FVec Ideal S256x1024 .f32 :=
  addf (mulf r (broadcastTo S256x1024 (addf (broadcast S1x1024 (Scalar.ofBits .f32 0x3F800000#32)) sc) broadcasts_S1x1024_S256x1024))
    (broadcastTo S256x1024 sh broadcasts_S1x1024_S256x1024)

def dotF (a : FVec Ideal S256x1024 .f32) (w : FVec Ideal S1024x4096 .bf16) : FVec Ideal S256x4096 .f32 :=
  matmul dot_S256x1024_S1024x4096_S256x4096_1_0_0_1_n_n none (truncf .bf16 a bitsLt_bf16_f32) w (constant S256x4096 .f32 0x00000000#32)

def maxB (a : FVec Ideal S256x4096 .f32) : FVec Ideal S256x4096 .f32 := maximumf a (broadcast S256x4096 (Scalar.ofBits .f32 0x00000000#32))

def sqB (a : FVec Ideal S256x4096 .f32) : FVec Ideal S256x4096 .bf16 := truncf .bf16 (mulf a a) bitsLt_bf16_f32

def dotG (a : FVec Ideal S256x4096 .bf16) (w : FVec Ideal S4096x1024 .bf16) : FVec Ideal S256x1024 .f32 :=
  matmul dot_S256x4096_S4096x1024_S256x1024_1_0_0_1_n_n none a w (constant S256x1024 .f32 0x00000000#32)

/-! Their entries, row by row. -/

theorem sig_val (g : FVec Ideal S256x1024 .bf16) (i : Fin 256) (j : Fin 1024) : sigB g (ix2 i j) = Ideal.logistic (g (ix2 i j)) := by
  unfold sigB
  pointwise
  rw [half_f32, logistic_tanh]

theorem gated_val (d z : FVec Ideal S256x512 .bf16) (i : Fin 256) :
    (fun j => gatedB d z (ix2 i j)) = gated (fun j => d (ix2 i j)) (fun j => z (ix2 i j)) := by
  funext j
  unfold gatedB gated
  pointwise
  rw [half_f32, logistic_tanh]

theorem dotS_val (a : FVec Ideal S256x512 .bf16) (w : FVec Ideal S512x1024 .bf16) (i : Fin 256) :
    (fun j => dotS a w (ix2 i j)) = proj (fun j => a (ix2 i j)) (fun k j => w (ix2 k j)) := by
  funext j
  unfold dotS proj
  pointwise

theorem dotT_val (a : FVec Ideal S256x512 .f32) (w : FVec Ideal S512x1024 .bf16) (i : Fin 256) :
    (fun j => dotT a w (ix2 i j)) = proj (fun j => a (ix2 i j)) (fun k j => w (ix2 k j)) :=
  dotS_val (truncf .bf16 a bitsLt_bf16_f32) w i

theorem mix_val (a b : FVec Ideal S256x1024 .f32) (ga gb : FVec Ideal S256x1024 .bf16) (i : Fin 256) :
    (fun j => mixB a b ga gb (ix2 i j)) = mixed (fun j => a (ix2 i j)) (fun j => b (ix2 i j)) (fun j => ga (ix2 i j)) (fun j => gb (ix2 i j)) := by
  funext j
  unfold mixB mixed
  simp only [← sig_val]
  pointwise

theorem dotO_val (a : FVec Ideal S256x1024 .f32) (w : FVec Ideal S1024x1024 .bf16) (i : Fin 256) :
    (fun j => dotO a w (ix2 i j)) = proj (fun j => a (ix2 i j)) (fun k j => w (ix2 k j)) := by
  funext j
  unfold dotO proj
  pointwise

theorem rms_val (y : FVec Ideal S256x1024 .f32) (w : FVec Ideal S1x1024 .f32) (i : Fin 256) :
    (fun j => rmsB y w (ix2 i j)) = rms (fun j => y (ix2 i j)) (fun j => w (ix2 (0 : Fin 1) j)) := by
  funext j
  unfold rmsB rms
  pointwise

theorem step_val (x : FVec Ideal S256x1024 .f32) (g : FVec Ideal S1x1024 .f32) (y : FVec Ideal S256x1024 .f32) (w : FVec Ideal S1x1024 .f32) (i : Fin 256) :
    (fun j => stepB x g y w (ix2 i j)) = step (fun j => x (ix2 i j)) (fun j => g (ix2 (0 : Fin 1) j)) (fun j => y (ix2 i j)) (fun j => w (ix2 (0 : Fin 1) j)) := by
  funext j
  unfold stepB step
  rw [← rms_val]
  pointwise

theorem mod_val (x : FVec Ideal S256x1024 .f32) (w sc sh : FVec Ideal S1x1024 .f32) (i : Fin 256) :
    (fun j => modB (rmsB x w) sc sh (ix2 i j)) = pre (fun j => x (ix2 i j)) (fun j => w (ix2 (0 : Fin 1) j)) (fun j => sc (ix2 (0 : Fin 1) j)) (fun j => sh (ix2 (0 : Fin 1) j)) := by
  funext j
  unfold modB pre
  rw [← rms_val, ← one_f32]
  pointwise

theorem dotF_val (a : FVec Ideal S256x1024 .f32) (w : FVec Ideal S1024x4096 .bf16) (i : Fin 256) :
    (fun j => dotF a w (ix2 i j)) = proj (fun j => a (ix2 i j)) (fun k j => w (ix2 k j)) := by
  funext j
  unfold dotF proj
  pointwise

theorem relu_val (a : FVec Ideal S256x4096 .f32) (i : Fin 256) : (fun j => sqB (maxB a) (ix2 i j)) = relu2 (fun j => a (ix2 i j)) := by
  funext j
  unfold sqB maxB relu2
  pointwise
  try rw [zero_f32]

theorem dotG_val (a : FVec Ideal S256x4096 .bf16) (w : FVec Ideal S4096x1024 .bf16) (i : Fin 256) :
    (fun j => dotG a w (ix2 i j)) = proj (fun j => a (ix2 i j)) (fun k j => w (ix2 k j)) := by
  funext j
  unfold dotG proj
  pointwise

/-! The generated payloads are these steps. -/

/-- One of the six modulation vectors. -/
def vecB (k : Fin 6) (v : FVec Ideal S6x1024 .f32) : FVec Ideal S1x1024 .f32 := fun y => v (ix2 k (y 1))

theorem vec2 (v : FVec Ideal S6x1024 .f32) : extractStridedSlice S1x1024 ![2, 0] v slices_S6x1024_o2_0_S1x1024 = vecB 2 v := by
  funext y
  unfold vecB
  pointwise
  blk_ext

theorem vec3 (v : FVec Ideal S6x1024 .f32) : extractStridedSlice S1x1024 ![3, 0] v slices_S6x1024_o3_0_S1x1024 = vecB 3 v := by
  funext y
  unfold vecB
  pointwise
  blk_ext

theorem vec4 (v : FVec Ideal S6x1024 .f32) : extractStridedSlice S1x1024 ![4, 0] v slices_S6x1024_o4_0_S1x1024 = vecB 4 v := by
  funext y
  unfold vecB
  pointwise
  blk_ext

theorem vec5 (v : FVec Ideal S6x1024 .f32) : extractStridedSlice S1x1024 ![5, 0] v slices_S6x1024_o5_0_S1x1024 = vecB 5 v := by
  funext y
  unfold vecB
  pointwise
  blk_ext

theorem p2 (d z : FVec Ideal S256x512 .bf16) : k0_pay2 d z = gatedB d z := by
  unfold k0_pay2 gatedB
  simp only [shapeCast_id]

theorem p3 (d z : FVec Ideal S256x512 .bf16) : k0_pay3 d z = gatedB d z := by
  unfold k0_pay3 gatedB
  simp only [shapeCast_id]

theorem p4 (a : FVec Ideal S256x512 .bf16) (w : FVec Ideal S512x1024 .bf16) : k0_pay4 a w = dotS a w := by
  unfold k0_pay4 dotS
  simp only [shapeCast_id]

theorem p5 (a : FVec Ideal S256x512 .bf16) (w : FVec Ideal S512x1024 .bf16) : k0_pay5 a w = dotS a w := by
  unfold k0_pay5 dotS
  simp only [shapeCast_id]

theorem p6 (a : FVec Ideal S256x512 .f32) (w : FVec Ideal S512x1024 .bf16) : k0_pay6 a w = dotT a w := by
  unfold k0_pay6 dotT dotS
  simp only [shapeCast_id]

theorem p7 (d : FVec Ideal S256x512 .f32) (a : FVec Ideal S256x1024 .f32) (w : FVec Ideal S512x1024 .bf16) (ga gb : FVec Ideal S256x1024 .bf16) :
    k0_pay7 d a w ga gb = mixB a (dotT d w) ga gb := by
  unfold k0_pay7 mixB dotT dotS sigB
  simp only [shapeCast_id]

theorem p8 (m : FVec Ideal S256x1024 .f32) (w : FVec Ideal S1024x1024 .bf16) : k0_pay8 m w = dotO m w := by
  unfold k0_pay8 dotO
  simp only [shapeCast_id]

theorem p9 (a b : FVec Ideal S256x1024 .f32) (ga gb : FVec Ideal S256x1024 .bf16) (w : FVec Ideal S1024x1024 .bf16) :
    k0_pay9 a b ga gb w = dotO (mixB a b ga gb) w := by
  unfold k0_pay9 dotO mixB sigB
  simp only [shapeCast_id]

theorem p14 (m : FVec Ideal S256x1024 .f32) (wo : FVec Ideal S1024x1024 .bf16) (x : FVec Ideal S256x1024 .f32) (v : FVec Ideal S6x1024 .f32) (w : FVec Ideal S1x1024 .f32) :
    k0_pay14 (k0_pay8 m wo) (k0_pay10 x) (k0_pay11 v) (k0_pay12 w) (k0_pay13 m wo) = stepB x (vecB 2 v) (dotO m wo) w := by
  unfold k0_pay13
  rw [p8]
  unfold k0_pay14 k0_pay10 k0_pay11 k0_pay12 stepB rmsB
  simp only [shapeCast_id, vec2]

theorem p15 (v : FVec Ideal S6x1024 .f32) (y x : FVec Ideal S256x1024 .f32) (w : FVec Ideal S1x1024 .f32) : k0_pay15 v y x w = stepB x (vecB 2 v) y w := by
  unfold k0_pay15 stepB rmsB
  simp only [shapeCast_id, vec2]

theorem p16 (a b : FVec Ideal S256x1024 .f32) (c d : FVec Ideal S1x1024 .f32) (e : FVec Ideal S256x1 .f32) (w : FVec Ideal S1x1024 .f32) :
    k0_pay16 a b c d e w = rmsB (k0_pay14 a b c d e) w := by
  unfold k0_pay16 rmsB
  simp only [shapeCast_id]

theorem p20 (v : FVec Ideal S6x1024 .f32) (r : FVec Ideal S256x1024 .f32) (w : FVec Ideal S1024x4096 .bf16) :
    k0_pay20 v r (k0_pay17 v) (k0_pay18 (F := Ideal)) w = sqB (maxB (dotF (modB r (vecB 4 v) (vecB 3 v)) w)) := by
  unfold k0_pay20 k0_pay17 k0_pay18 sqB maxB dotF modB
  simp only [shapeCast_id, vec4, vec3]

theorem p19 (v : FVec Ideal S6x1024 .f32) (x : FVec Ideal S256x1024 .f32) (w : FVec Ideal S1x1024 .f32) (w1 : FVec Ideal S1024x4096 .bf16) :
    k0_pay19 v x w w1 = maxB (dotF (modB (rmsB x w) (vecB 4 v) (vecB 3 v)) w1) := by
  unfold k0_pay19 maxB dotF modB rmsB
  simp only [shapeCast_id, vec4, vec3]

theorem p22 (v : FVec Ideal S6x1024 .f32) (x : FVec Ideal S256x1024 .f32) (f : FVec Ideal S256x4096 .bf16) (w2 : FVec Ideal S4096x1024 .bf16) (w : FVec Ideal S1x1024 .f32) :
    k0_pay22 v x f (k0_pay21 w2) w = stepB x (vecB 5 v) (dotG f w2) w := by
  unfold k0_pay22 k0_pay21 stepB rmsB dotG
  simp only [shapeCast_id, vec5]

theorem p23 (v : FVec Ideal S6x1024 .f32) (x : FVec Ideal S256x1024 .f32) (f : FVec Ideal S256x4096 .f32) (w2 : FVec Ideal S4096x1024 .bf16) (w : FVec Ideal S1x1024 .f32) :
    k0_pay23 v x f w2 w = stepB x (vecB 5 v) (dotG (sqB f) w2) w := by
  unfold k0_pay23 stepB rmsB dotG sqB
  simp only [shapeCast_id, vec5]

/-- What one sub-tile stores, of its pieces. -/
def subB (x : FVec Ideal S256x1024 .f32) (a d z : FVec Ideal S256x512 .bf16) (ga gb : FVec Ideal S256x1024 .bf16) (v : FVec Ideal S6x1024 .f32)
    (wp1 w wp2 : FVec Ideal S1x1024 .f32) (wa wd : FVec Ideal S512x1024 .bf16) (wo : FVec Ideal S1024x1024 .bf16) (w1 : FVec Ideal S1024x4096 .bf16)
    (w2 : FVec Ideal S4096x1024 .bf16) : FVec Ideal S256x1024 .f32 :=
  let x1 := stepB x (vecB 2 v) (dotO (mixB (dotS a wa) (dotT (gatedB d z) wd) ga gb) wo) wp1
  stepB x1 (vecB 5 v) (dotG (sqB (maxB (dotF (modB (rmsB x1 w) (vecB 4 v) (vecB 3 v)) w1))) w2) wp2

theorem sub_val (x : FVec Ideal S256x1024 .f32) (a d z : FVec Ideal S256x512 .bf16) (ga gb : FVec Ideal S256x1024 .bf16) (v : FVec Ideal S6x1024 .f32)
    (wp1 w wp2 : FVec Ideal S1x1024 .f32) (wa wd : FVec Ideal S512x1024 .bf16) (wo : FVec Ideal S1024x1024 .bf16) (w1 : FVec Ideal S1024x4096 .bf16)
    (w2 : FVec Ideal S4096x1024 .bf16) (i : Fin 256) :
    (fun j => subB x a d z ga gb v wp1 w wp2 wa wd wo w1 w2 (ix2 i j))
      = ffn (mid (fun j => x (ix2 i j)) (fun j => a (ix2 i j)) (fun j => d (ix2 i j)) (fun j => z (ix2 i j)) (fun j => ga (ix2 i j)) (fun j => gb (ix2 i j))
          (fun j => v (ix2 2 j)) (fun j => wp1 (ix2 (0 : Fin 1) j)) (fun k j => wa (ix2 k j)) (fun k j => wd (ix2 k j)) (fun k j => wo (ix2 k j)))
          (fun j => v (ix2 3 j)) (fun j => v (ix2 4 j)) (fun j => v (ix2 5 j)) (fun j => w (ix2 (0 : Fin 1) j)) (fun j => wp2 (ix2 (0 : Fin 1) j))
          (fun k j => w1 (ix2 k j)) (fun k j => w2 (ix2 k j)) := by
  unfold subB ffn mid
  simp only [step_val, dotG_val, relu_val, dotF_val, mod_val, dotO_val, mix_val, dotT_val, dotS_val, gated_val]
  rfl

end Cert.Kernel2Ideal.Sub

end
-- ==== Proof.MergeOut.lean ====
module

public import proofs.«01_k».proof.Proof.MergeBlock

@[expose] public section

set_option maxRecDepth 16384

noncomputable section

namespace Cert.Kernel2Ideal.Sub

open Cert.Kernel2Ideal Cert.Kernel2Ideal.Gen Cert.Merge Idealize.ShloMosaic Idealize.ShloMosaic.TcCoe Idealize.SL.Sem

/-- Row `r` of the output block, of the rows and matrices of the input blocks. -/
def rowOut (x0 : Vec Ideal S512x1024 .f32) (x1 x2 : Vec Ideal S512x512 .bf16) (x3 : Vec Ideal S512x2560 .bf16) (x4 : Vec Ideal S1x6x1024 .f32)
    (x5 x6 x7 : Vec Ideal S1x1024 .f32) (x8 x9 : Vec Ideal S512x1024 .bf16) (x10 : Vec Ideal S1024x1024 .bf16) (x11 : Vec Ideal S1024x4096 .bf16)
    (x12 : Vec Ideal S4096x1024 .bf16) (r : Fin 512) : Fin 1024 → EReal :=
  ffn (mid (fun j => x0 (ix2 r j)) (fun j => x1 (ix2 r j)) (fun j => x2 (ix2 r j)) (fun j => x3 (ix2 r ⟨j, by omega⟩)) (fun j => x3 (ix2 r ⟨512 + j, by omega⟩))
      (fun j => x3 (ix2 r ⟨1536 + j, by omega⟩)) (fun j => x4 (ix3 (0 : Fin 1) (2 : Fin 6) j)) (fun j => x5 (ix2 (0 : Fin 1) j))
      (fun k j => x8 (ix2 k j)) (fun k j => x9 (ix2 k j)) (fun k j => x10 (ix2 k j)))
    (fun j => x4 (ix3 (0 : Fin 1) (3 : Fin 6) j)) (fun j => x4 (ix3 (0 : Fin 1) (4 : Fin 6) j)) (fun j => x4 (ix3 (0 : Fin 1) (5 : Fin 6) j))
    (fun j => x6 (ix2 (0 : Fin 1) j)) (fun j => x7 (ix2 (0 : Fin 1) j)) (fun k j => x11 (ix2 k j)) (fun k j => x12 (ix2 k j))

/-- A load of rows and columns from an offset, entry by entry. -/
theorem ld_at {n k n' k' : ℕ} {t : EltTy} (X : Vec Ideal ⟨2, ![n, k]⟩ t) (a b : ℕ) (inb : ∀ e, (![a, b] : Fin 2 → ℕ) e + (![n', k'] : Fin 2 → ℕ) e ≤ (![n, k] : Fin 2 → ℕ) e)
    (i : Fin n') (j : Fin k') (r : Fin n) (c : Fin k) (hr : (r : ℕ) = a + i) (hc : (c : ℕ) = b + j) :
    View.ld X (Rect.unit (s := ⟨2, ![n, k]⟩) ![a, b] ![n', k'] inb) (ix2 i j) = X (ix2 r c) := by
  refine congrArg X (funext fun e => Fin.ext ?_)
  match e with
  | ⟨0, _⟩ => exact (show a + 1 * i.val = r by omega)
  | ⟨1, _⟩ => exact (show b + 1 * j.val = c by omega)

theorem whole3 {n k l : ℕ} {t : EltTy} (X : Vec Ideal ⟨3, ![n, k, l]⟩ t) (inb : ∀ e, (![0, 0, 0] : Fin 3 → ℕ) e + (![n, k, l] : Fin 3 → ℕ) e ≤ (![n, k, l] : Fin 3 → ℕ) e) :
    View.ld X (Rect.unit (s := ⟨3, ![n, k, l]⟩) ![0, 0, 0] ![n, k, l] inb) = X :=
  View.ld_unit_zero (by funext e; match e with | ⟨0, _⟩ => rfl | ⟨1, _⟩ => rfl | ⟨2, _⟩ => rfl) inb X

theorem mods_at (X : Vec Ideal S1x6x1024 .f32) (k : Fin 6) (j : Fin 1024) : k0_pay1 X (ix2 k j) = X (ix3 (0 : Fin 1) k j) := by
  unfold k0_pay1
  pointwise
  blk_ext

theorem whole2 {n k : ℕ} {t : EltTy} (X : Vec Ideal ⟨2, ![n, k]⟩ t) (inb : ∀ e, (![0, 0] : Fin 2 → ℕ) e + (![n, k] : Fin 2 → ℕ) e ≤ (![n, k] : Fin 2 → ℕ) e) :
    View.ld X (Rect.unit (s := ⟨2, ![n, k]⟩) ![0, 0] ![n, k] inb) = X :=
  View.ld_unit_zero (by funext e; match e with | ⟨0, _⟩ => rfl | ⟨1, _⟩ => rfl) inb X

/-- The row of loaded blocks is the row of the buffers they are loaded from, `o` rows down. -/
theorem loaded (x0 : Vec Ideal S512x1024 .f32) (x1 x2 : Vec Ideal S512x512 .bf16) (x3 : Vec Ideal S512x2560 .bf16) (x4 : Vec Ideal S1x6x1024 .f32)
    (x5 x6 x7 : Vec Ideal S1x1024 .f32) (x8 x9 : Vec Ideal S512x1024 .bf16) (x10 : Vec Ideal S1024x1024 .bf16) (x11 : Vec Ideal S1024x4096 .bf16)
    (x12 : Vec Ideal S4096x1024 .bf16) (o : ℕ) (r : Fin 512) (i : Fin 256) (hr : (r : ℕ) = o + i) (l : Fin 1024)
    (b0 : ∀ e, (![o, 0] : Fin 2 → ℕ) e + (![256, 1024] : Fin 2 → ℕ) e ≤ (![512, 1024] : Fin 2 → ℕ) e)
    (b1 : ∀ e, (![o, 0] : Fin 2 → ℕ) e + (![256, 512] : Fin 2 → ℕ) e ≤ (![512, 512] : Fin 2 → ℕ) e)
    (b2 : ∀ e, (![o, 0] : Fin 2 → ℕ) e + (![256, 512] : Fin 2 → ℕ) e ≤ (![512, 2560] : Fin 2 → ℕ) e)
    (b3 : ∀ e, (![o, 512] : Fin 2 → ℕ) e + (![256, 1024] : Fin 2 → ℕ) e ≤ (![512, 2560] : Fin 2 → ℕ) e)
    (b4 : ∀ e, (![o, 1536] : Fin 2 → ℕ) e + (![256, 1024] : Fin 2 → ℕ) e ≤ (![512, 2560] : Fin 2 → ℕ) e)
    (b5 : ∀ e, (![0, 0, 0] : Fin 3 → ℕ) e + (![1, 6, 1024] : Fin 3 → ℕ) e ≤ (![1, 6, 1024] : Fin 3 → ℕ) e)
    (b6 : ∀ e, (![0, 0] : Fin 2 → ℕ) e + (![1, 1024] : Fin 2 → ℕ) e ≤ (![1, 1024] : Fin 2 → ℕ) e)
    (b7 : ∀ e, (![0, 0] : Fin 2 → ℕ) e + (![512, 1024] : Fin 2 → ℕ) e ≤ (![512, 1024] : Fin 2 → ℕ) e)
    (b8 : ∀ e, (![0, 0] : Fin 2 → ℕ) e + (![1024, 1024] : Fin 2 → ℕ) e ≤ (![1024, 1024] : Fin 2 → ℕ) e)
    (b9 : ∀ e, (![0, 0] : Fin 2 → ℕ) e + (![1024, 4096] : Fin 2 → ℕ) e ≤ (![1024, 4096] : Fin 2 → ℕ) e)
    (b10 : ∀ e, (![0, 0] : Fin 2 → ℕ) e + (![4096, 1024] : Fin 2 → ℕ) e ≤ (![4096, 1024] : Fin 2 → ℕ) e) :
    ffn (mid (fun j => View.ld x0 (Rect.unit (s := S512x1024) ![o, 0] ![256, 1024] b0) (ix2 i j))
        (fun j => View.ld x1 (Rect.unit (s := S512x512) ![o, 0] ![256, 512] b1) (ix2 i j)) (fun j => View.ld x2 (Rect.unit (s := S512x512) ![o, 0] ![256, 512] b1) (ix2 i j))
        (fun j => View.ld x3 (Rect.unit (s := S512x2560) ![o, 0] ![256, 512] b2) (ix2 i j))
        (fun j => View.ld x3 (Rect.unit (s := S512x2560) ![o, 512] ![256, 1024] b3) (ix2 i j))
        (fun j => View.ld x3 (Rect.unit (s := S512x2560) ![o, 1536] ![256, 1024] b4) (ix2 i j))
        (fun j => k0_pay1 (View.ld x4 (Rect.unit (s := S1x6x1024) ![0, 0, 0] ![1, 6, 1024] b5)) (ix2 2 j))
        (fun j => View.ld x5 (Rect.unit (s := S1x1024) ![0, 0] ![1, 1024] b6) (ix2 0 j))
        (fun k j => View.ld x8 (Rect.unit (s := S512x1024) ![0, 0] ![512, 1024] b7) (ix2 k j))
        (fun k j => View.ld x9 (Rect.unit (s := S512x1024) ![0, 0] ![512, 1024] b7) (ix2 k j))
        (fun k j => View.ld x10 (Rect.unit (s := S1024x1024) ![0, 0] ![1024, 1024] b8) (ix2 k j)))
      (fun j => k0_pay1 (View.ld x4 (Rect.unit (s := S1x6x1024) ![0, 0, 0] ![1, 6, 1024] b5)) (ix2 3 j))
      (fun j => k0_pay1 (View.ld x4 (Rect.unit (s := S1x6x1024) ![0, 0, 0] ![1, 6, 1024] b5)) (ix2 4 j))
      (fun j => k0_pay1 (View.ld x4 (Rect.unit (s := S1x6x1024) ![0, 0, 0] ![1, 6, 1024] b5)) (ix2 5 j))
      (fun j => View.ld x6 (Rect.unit (s := S1x1024) ![0, 0] ![1, 1024] b6) (ix2 0 j))
      (fun j => View.ld x7 (Rect.unit (s := S1x1024) ![0, 0] ![1, 1024] b6) (ix2 0 j))
      (fun k j => View.ld x11 (Rect.unit (s := S1024x4096) ![0, 0] ![1024, 4096] b9) (ix2 k j))
      (fun k j => View.ld x12 (Rect.unit (s := S4096x1024) ![0, 0] ![4096, 1024] b10) (ix2 k j)) l
    = rowOut x0 x1 x2 x3 x4 x5 x6 x7 x8 x9 x10 x11 x12 r l := by
  rw [whole2 x5, whole2 x6, whole2 x7, whole2 x8, whole2 x9, whole2 x10, whole2 x11, whole2 x12, whole3 x4]
  simp only [mods_at]
  rw [show (fun j : Fin 1024 => View.ld x0 (Rect.unit (s := S512x1024) ![o, 0] ![256, 1024] b0) (ix2 i j)) = (fun j => x0 (ix2 r j)) from
      funext fun j => ld_at x0 o 0 b0 i j r j hr (Nat.zero_add _).symm,
    show (fun j : Fin 512 => View.ld x1 (Rect.unit (s := S512x512) ![o, 0] ![256, 512] b1) (ix2 i j)) = (fun j => x1 (ix2 r j)) from
      funext fun j => ld_at x1 o 0 b1 i j r j hr (Nat.zero_add _).symm,
    show (fun j : Fin 512 => View.ld x2 (Rect.unit (s := S512x512) ![o, 0] ![256, 512] b1) (ix2 i j)) = (fun j => x2 (ix2 r j)) from
      funext fun j => ld_at x2 o 0 b1 i j r j hr (Nat.zero_add _).symm,
    show (fun j : Fin 512 => View.ld x3 (Rect.unit (s := S512x2560) ![o, 0] ![256, 512] b2) (ix2 i j)) = (fun j : Fin 512 => x3 (ix2 r ⟨j, by omega⟩)) from
      funext fun j => ld_at x3 o 0 b2 i j r ⟨j, by omega⟩ hr (Nat.zero_add _).symm,
    show (fun j : Fin 1024 => View.ld x3 (Rect.unit (s := S512x2560) ![o, 512] ![256, 1024] b3) (ix2 i j)) = (fun j : Fin 1024 => x3 (ix2 r ⟨512 + j, by omega⟩)) from
      funext fun j => ld_at x3 o 512 b3 i j r ⟨512 + j, by omega⟩ hr rfl,
    show (fun j : Fin 1024 => View.ld x3 (Rect.unit (s := S512x2560) ![o, 1536] ![256, 1024] b4) (ix2 i j)) = (fun j : Fin 1024 => x3 (ix2 r ⟨1536 + j, by omega⟩)) from
      funext fun j => ld_at x3 o 1536 b4 i j r ⟨1536 + j, by omega⟩ hr rfl]
  rfl

set_option maxHeartbeats 2000000 in
theorem out_row (x0 : Vec Ideal S512x1024 .f32) (x1 x2 : Vec Ideal S512x512 .bf16) (x3 : Vec Ideal S512x2560 .bf16) (x4 : Vec Ideal S1x6x1024 .f32)
    (x5 x6 x7 : Vec Ideal S1x1024 .f32) (x8 x9 : Vec Ideal S512x1024 .bf16) (x10 : Vec Ideal S1024x1024 .bf16) (x11 : Vec Ideal S1024x4096 .bf16)
    (x12 : Vec Ideal S4096x1024 .bf16) (r : Fin 512) (j : Fin 1024) :
    out0_13 (F := Ideal) x0 x1 x2 x3 x4 x5 x6 x7 x8 x9 x10 x11 x12 (ix2 r j) = rowOut x0 x1 x2 x3 x4 x5 x6 x7 x8 x9 x10 x11 x12 r j := by
  unfold_out out0_13
  canon_tiles x h
  · have ex : x = ix2 (n0 := 256) (n1 := 1024) (x 0) (x 1) := by blk_ext
    have hr : (r : ℕ) = 256 + (x 0 : ℕ) := h0
    have hj : j = x 1 := Fin.ext h1
    rw [p3, p5, p6, p9, p15, p19, p23, ex, hj]
    refine (congrFun (sub_val (View.ld x0 r0_13) (View.ld x1 r0_3) (View.ld x2 r0_3) (View.ld x3 r0_4) (View.ld x3 r0_8) (View.ld x3 r0_9) (k0_pay1 (View.ld x4 r0_0))
      (View.ld x5 r0_12) (View.ld x6 r0_12) (View.ld x7 r0_12) (View.ld x8 r0_5) (View.ld x9 r0_5) (View.ld x10 r0_10) (View.ld x11 r0_14) (View.ld x12 r0_15) (x 0)) (x 1)).trans ?_
    exact loaded x0 x1 x2 x3 x4 x5 x6 x7 x8 x9 x10 x11 x12 256 r (x 0) hr (x 1) _ _ _ _ _ _ _ _ _ _ _
  · have ex : x = ix2 (n0 := 256) (n1 := 1024) (x 0) (x 1) := by blk_ext
    have hr : (r : ℕ) = 0 + (x 0 : ℕ) := h0.trans (Nat.zero_add _).symm
    have hj : j = x 1 := Fin.ext h1
    rw [p2, p4, p7, p14, p16, p20, p22, p14, ex, hj]
    refine (congrFun (sub_val (View.ld x0 r0_11) (View.ld x1 r0_1) (View.ld x2 r0_1) (View.ld x3 r0_2) (View.ld x3 r0_6) (View.ld x3 r0_7) (k0_pay1 (View.ld x4 r0_0))
      (View.ld x5 r0_12) (View.ld x6 r0_12) (View.ld x7 r0_12) (View.ld x8 r0_5) (View.ld x9 r0_5) (View.ld x10 r0_10) (View.ld x11 r0_14) (View.ld x12 r0_15) (x 0)) (x 1)).trans ?_
    exact loaded x0 x1 x2 x3 x4 x5 x6 x7 x8 x9 x10 x11 x12 0 r (x 0) hr (x 1) _ _ _ _ _ _ _ _ _ _ _

end Cert.Kernel2Ideal.Sub

end
-- ==== Proof.MergeRef.lean ====
module

public import proofs.«01_k».proof.Proof.Gen.Reference2Ideal.Run
public import proofs.«01_k».proof.Proof.MergeRow
public import Idealize.ShloMosaic.Lib.Pipeline.ValueKit
public import Idealize.ShloMosaic.Lib.Pointwise

@[expose] public section

set_option maxRecDepth 16384

noncomputable section

namespace Cert.Reference2Ideal.Merge

open Cert.Reference2Ideal Cert.Reference2Ideal.Gen Cert.Merge Idealize.ShloMosaic Idealize.ShloMosaic.TcCoe Idealize.SL.Sem

/-! The reference's steps, each as one function of whole arrays, and their rows. -/

/-- The logistic function of the gates. -/
def sigR (g : FVec Ideal S32x256x1024 .f32) : FVec Ideal S32x256x1024 .f32 :=
  Host.divf (broadcastInDim S32x256x1024 ![] bcast_S_S32x256x1024 (constant S_ .f32 0x3F800000#32)) (addf (broadcastInDim S32x256x1024 ![] bcast_S_S32x256x1024 (constant S_ .f32 0x3F800000#32)) (Host.exp (Host.negf g)))

theorem sig_val (g : FVec Ideal S32x256x1024 .f32) (b : Fin 32) (t : Fin 256) (j : Fin 1024) : sigR g (ix3 b t j) = Ideal.logistic (g (ix3 b t j)) := by
  unfold sigR Ideal.logistic
  simp only [← one_f32]
  pointwise

def siluR (z : FVec Ideal S32x256x512 .f32) : FVec Ideal S32x256x512 .f32 :=
  mulf z (Host.divf (broadcastInDim S32x256x512 ![] bcast_S_S32x256x512 (constant S_ .f32 0x3F800000#32)) (addf (broadcastInDim S32x256x512 ![] bcast_S_S32x256x512 (constant S_ .f32 0x3F800000#32)) (Host.exp (Host.negf z))))

theorem silu_val (z : FVec Ideal S32x256x512 .f32) (b : Fin 32) (t : Fin 256) (j : Fin 512) : siluR z (ix3 b t j) = z (ix3 b t j) * Ideal.logistic (z (ix3 b t j)) := by
  unfold siluR Ideal.logistic
  simp only [← one_f32]
  pointwise

/-- A token's row of an array of heads. -/
def heads (d : FVec Ideal S32x256x8x64 .f32) (b : Fin 32) (t : Fin 256) (j : Fin 512) : EReal := d (ix4 b t ⟨j / 64, by omega⟩ ⟨j % 64, by omega⟩)

def flat (d : FVec Ideal S32x256x8x64 .f32) : FVec Ideal S32x256x512 .f32 := shapeCast _ d shapeCasts_S32x256x8x64_S32x256x512

theorem flat_val (d : FVec Ideal S32x256x8x64 .f32) (b : Fin 32) (t : Fin 256) : (fun j => flat d (ix3 b t j)) = heads d b t := by
  funext j
  unfold flat heads
  pointwise

def gatedR (d : FVec Ideal S32x256x8x64 .f32) (z : FVec Ideal S32x256x512 .f32) : FVec Ideal S32x256x8x64 .f32 :=
  mulf d (shapeCast _ (siluR z) shapeCasts_S32x256x512_S32x256x8x64)

theorem gated_val (d : FVec Ideal S32x256x8x64 .f32) (z : FVec Ideal S32x256x512 .f32) (b : Fin 32) (t : Fin 256) :
    (fun j => flat (gatedR d z) (ix3 b t j)) = gated (heads d b t) (fun j => z (ix3 b t j)) := by
  rw [flat_val]
  funext j
  unfold gated
  rw [← silu_val]
  unfold gatedR heads
  pointwise
  blk_ext

def dotA (a : FVec Ideal S32x256x512 .f32) (w : FVec Ideal S512x1024 .f32) : FVec Ideal S32x256x1024 .f32 :=
  Host.dotGeneral dot_S32x256x512_S512x1024_S32x256x1024_2_0_01_1_n_n none a w

theorem dotA_val (a : FVec Ideal S32x256x512 .f32) (w : FVec Ideal S512x1024 .f32) (b : Fin 32) (t : Fin 256) :
    (fun j => dotA a w (ix3 b t j)) = proj (fun j => a (ix3 b t j)) (fun k j => w (ix2 k j)) := by
  funext j
  unfold dotA proj
  pointwise

def dotO (a : FVec Ideal S32x256x1024 .f32) (w : FVec Ideal S1024x1024 .f32) : FVec Ideal S32x256x1024 .f32 :=
  Host.dotGeneral dot_S32x256x1024_S1024x1024_S32x256x1024_2_0_01_1_n_n none a w

theorem dotO_val (a : FVec Ideal S32x256x1024 .f32) (w : FVec Ideal S1024x1024 .f32) (b : Fin 32) (t : Fin 256) :
    (fun j => dotO a w (ix3 b t j)) = proj (fun j => a (ix3 b t j)) (fun k j => w (ix2 k j)) := by
  funext j
  unfold dotO proj
  pointwise

def dotF (a : FVec Ideal S32x256x1024 .f32) (w : FVec Ideal S1024x4096 .f32) : FVec Ideal S32x256x4096 .f32 :=
  Host.dotGeneral dot_S32x256x1024_S1024x4096_S32x256x4096_2_0_01_1_n_n none a w

theorem dotF_val (a : FVec Ideal S32x256x1024 .f32) (w : FVec Ideal S1024x4096 .f32) (b : Fin 32) (t : Fin 256) :
    (fun j => dotF a w (ix3 b t j)) = proj (fun j => a (ix3 b t j)) (fun k j => w (ix2 k j)) := by
  funext j
  unfold dotF proj
  pointwise

def dotG (a : FVec Ideal S32x256x4096 .f32) (w : FVec Ideal S4096x1024 .f32) : FVec Ideal S32x256x1024 .f32 :=
  Host.dotGeneral dot_S32x256x4096_S4096x1024_S32x256x1024_2_0_01_1_n_n none a w

theorem dotG_val (a : FVec Ideal S32x256x4096 .f32) (w : FVec Ideal S4096x1024 .f32) (b : Fin 32) (t : Fin 256) :
    (fun j => dotG a w (ix3 b t j)) = proj (fun j => a (ix3 b t j)) (fun k j => w (ix2 k j)) := by
  funext j
  unfold dotG proj
  pointwise

def mixR (a b ga gb : FVec Ideal S32x256x1024 .f32) : FVec Ideal S32x256x1024 .f32 := addf (mulf (sigR ga) a) (mulf (sigR gb) b)

theorem mix_val (a b ga gb : FVec Ideal S32x256x1024 .f32) (i : Fin 32) (t : Fin 256) :
    (fun j => mixR a b ga gb (ix3 i t j)) = mixed (fun j => a (ix3 i t j)) (fun j => b (ix3 i t j)) (fun j => ga (ix3 i t j)) (fun j => gb (ix3 i t j)) := by
  funext j
  unfold mixR mixed
  simp only [← sig_val]
  pointwise

/-- The prompt's row of the modulation, and one of its six vectors. -/
def modsR (m : FVec Ideal S8x6x1024 .f32) : FVec Ideal S1x6x1024 .f32 :=
  shapeCast _ (shapeCast _ (extractStridedSlice S1x6x1024 ![4, 0, 0] m slices_S8x6x1024_S1x6x1024_4_0_0) shapeCasts_S1x6x1024_S6x1024) shapeCasts_S6x1024_S1x6x1024

theorem mods_val (m : FVec Ideal S8x6x1024 .f32) (k : Fin 6) (j : Fin 1024) : modsR m (ix3 (0 : Fin 1) k j) = m (ix3 (4 : Fin 8) k j) := by
  unfold modsR
  pointwise
  blk_ext

def vecR (k : Fin 6) (m : FVec Ideal S8x6x1024 .f32) : FVec Ideal S1x1024 .f32 := fun y => m (ix3 (4 : Fin 8) k (y 1))

theorem vec2 (m : FVec Ideal S8x6x1024 .f32) :
    shapeCast S1x1024 (extractStridedSlice S1x1x1024 ![0, 2, 0] (modsR m) slices_S1x6x1024_S1x1x1024_0_2_0) shapeCasts_S1x1x1024_S1x1024 = vecR 2 m := by
  funext y
  unfold vecR
  refine Eq.trans ?_ (mods_val m 2 (y 1))
  pointwise
  blk_ext

theorem vec3 (m : FVec Ideal S8x6x1024 .f32) :
    shapeCast S1x1024 (extractStridedSlice S1x1x1024 ![0, 3, 0] (modsR m) slices_S1x6x1024_S1x1x1024_0_3_0) shapeCasts_S1x1x1024_S1x1024 = vecR 3 m := by
  funext y
  unfold vecR
  refine Eq.trans ?_ (mods_val m 3 (y 1))
  pointwise
  blk_ext

theorem vec4 (m : FVec Ideal S8x6x1024 .f32) :
    shapeCast S1x1024 (extractStridedSlice S1x1x1024 ![0, 4, 0] (modsR m) slices_S1x6x1024_S1x1x1024_0_4_0) shapeCasts_S1x1x1024_S1x1024 = vecR 4 m := by
  funext y
  unfold vecR
  refine Eq.trans ?_ (mods_val m 4 (y 1))
  pointwise
  blk_ext

theorem vec5 (m : FVec Ideal S8x6x1024 .f32) :
    shapeCast S1x1024 (extractStridedSlice S1x1x1024 ![0, 5, 0] (modsR m) slices_S1x6x1024_S1x1x1024_0_5_0) shapeCasts_S1x1x1024_S1x1024 = vecR 5 m := by
  funext y
  unfold vecR
  refine Eq.trans ?_ (mods_val m 5 (y 1))
  pointwise
  blk_ext

def spread (v : FVec Ideal S1x1024 .f32) : FVec Ideal S32x256x1024 .f32 :=
  broadcastInDim S32x256x1024 ![0, 1, 2] bcast_S1x1x1024_S32x256x1024_0_1_2 (broadcastInDim S1x1x1024 ![1, 2] bcast_S1x1024_S1x1x1024_1_2 v)

theorem spread_val (v : FVec Ideal S1x1024 .f32) (b : Fin 32) (t : Fin 256) (j : Fin 1024) : spread v (ix3 b t j) = v (ix2 (0 : Fin 1) j) := by
  unfold spread
  pointwise

def rmsR (y : FVec Ideal S32x256x1024 .f32) (w : FVec Ideal S1024 .f32) : FVec Ideal S32x256x1024 .f32 :=
  mulf (mulf y (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf y y) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32))))))
    (broadcastInDim S32x256x1024 ![0, 1, 2] bcast_S1x1x1024_S32x256x1024_0_1_2 (broadcastInDim S1x1x1024 ![2] bcast_S1024_S1x1x1024_2 w))

theorem rms_val (y : FVec Ideal S32x256x1024 .f32) (w : FVec Ideal S1024 .f32) (b : Fin 32) (t : Fin 256) :
    (fun j => rmsR y w (ix3 b t j)) = rms (fun j => y (ix3 b t j)) (fun j => w (ix1 j)) := by
  funext j
  unfold rmsR rms
  pointwise

def stepR (x : FVec Ideal S32x256x1024 .f32) (g : FVec Ideal S1x1024 .f32) (y : FVec Ideal S32x256x1024 .f32) (w : FVec Ideal S1024 .f32) : FVec Ideal S32x256x1024 .f32 :=
  addf x (mulf (spread g) (rmsR y w))

theorem step_val (x : FVec Ideal S32x256x1024 .f32) (g : FVec Ideal S1x1024 .f32) (y : FVec Ideal S32x256x1024 .f32) (w : FVec Ideal S1024 .f32) (b : Fin 32) (t : Fin 256) :
    (fun j => stepR x g y w (ix3 b t j)) = step (fun j => x (ix3 b t j)) (fun j => g (ix2 (0 : Fin 1) j)) (fun j => y (ix3 b t j)) (fun j => w (ix1 j)) := by
  funext j
  unfold stepR step
  rw [← rms_val]
  show _ = x (ix3 b t j) + g (ix2 (0 : Fin 1) j) * rmsR y w (ix3 b t j)
  rw [← spread_val g b t j]
  pointwise

def modR (r : FVec Ideal S32x256x1024 .f32) (sc sh : FVec Ideal S1x1024 .f32) : FVec Ideal S32x256x1024 .f32 :=
  addf (mulf r (spread (addf (broadcastInDim S1x1024 ![] bcast_S_S1x1024 (constant S_ .f32 0x3F800000#32)) sc))) (spread sh)

theorem mod_val (x : FVec Ideal S32x256x1024 .f32) (w : FVec Ideal S1024 .f32) (sc sh : FVec Ideal S1x1024 .f32) (b : Fin 32) (t : Fin 256) :
    (fun j => modR (rmsR x w) sc sh (ix3 b t j)) = pre (fun j => x (ix3 b t j)) (fun j => w (ix1 j)) (fun j => sc (ix2 (0 : Fin 1) j)) (fun j => sh (ix2 (0 : Fin 1) j)) := by
  funext j
  unfold modR pre
  rw [← rms_val, ← one_f32]
  show rmsR x w (ix3 b t j) * spread (addf (broadcastInDim S1x1024 ![] bcast_S_S1x1024 (constant S_ .f32 0x3F800000#32)) sc) (ix3 b t j) + spread sh (ix3 b t j)
    = rmsR x w (ix3 b t j) * (Ideal.ofBits .f32 0x3F800000#32 + sc (ix2 (0 : Fin 1) j)) + sh (ix2 (0 : Fin 1) j)
  rw [spread_val, spread_val]
  rfl

def reluR (a : FVec Ideal S32x256x4096 .f32) : FVec Ideal S32x256x4096 .f32 :=
  maximumf a (broadcastInDim S32x256x4096 ![] bcast_S_S32x256x4096 (constant S_ .f32 0x00000000#32))

theorem relu_val (a : FVec Ideal S32x256x4096 .f32) (b : Fin 32) (t : Fin 256) :
    (fun j => mulf (reluR a) (reluR a) (ix3 b t j)) = relu2 (fun j => a (ix3 b t j)) := by
  funext j
  unfold reluR relu2
  simp only [← zero_f32]
  pointwise

/-- The reference's array before the feed-forward part. -/
def MID (x : FVec Ideal S32x256x1024 .f32) (a d : FVec Ideal S32x256x8x64 .f32) (z : FVec Ideal S32x256x512 .f32) (ga gd : FVec Ideal S32x256x1024 .f32)
    (m : FVec Ideal S8x6x1024 .f32) (wp : FVec Ideal S1024 .f32) (wa wd : FVec Ideal S512x1024 .f32) (wo : FVec Ideal S1024x1024 .f32) : FVec Ideal S32x256x1024 .f32 :=
  stepR x (shapeCast S1x1024 (extractStridedSlice S1x1x1024 ![0, 2, 0] (modsR m) slices_S1x6x1024_S1x1x1024_0_2_0) shapeCasts_S1x1x1024_S1x1024)
    (dotO (mixR (dotA (flat a) wa) (dotA (flat (gatedR d z)) wd) ga gd) wo) wp

/-- The reference's array, of that one. -/
def FFN (x : FVec Ideal S32x256x1024 .f32) (m : FVec Ideal S8x6x1024 .f32) (w wp : FVec Ideal S1024 .f32) (w1 : FVec Ideal S1024x4096 .f32) (w2 : FVec Ideal S4096x1024 .f32) :
    FVec Ideal S32x256x1024 .f32 :=
  stepR x (shapeCast S1x1024 (extractStridedSlice S1x1x1024 ![0, 5, 0] (modsR m) slices_S1x6x1024_S1x1x1024_0_5_0) shapeCasts_S1x1x1024_S1x1024)
    (dotG (mulf (reluR (dotF (modR (rmsR x w)
        (shapeCast S1x1024 (extractStridedSlice S1x1x1024 ![0, 4, 0] (modsR m) slices_S1x6x1024_S1x1x1024_0_4_0) shapeCasts_S1x1x1024_S1x1024)
        (shapeCast S1x1024 (extractStridedSlice S1x1x1024 ![0, 3, 0] (modsR m) slices_S1x6x1024_S1x1x1024_0_3_0) shapeCasts_S1x1x1024_S1x1024)) w1))
      (reluR (dotF (modR (rmsR x w)
        (shapeCast S1x1024 (extractStridedSlice S1x1x1024 ![0, 4, 0] (modsR m) slices_S1x6x1024_S1x1x1024_0_4_0) shapeCasts_S1x1x1024_S1x1024)
        (shapeCast S1x1024 (extractStridedSlice S1x1x1024 ![0, 3, 0] (modsR m) slices_S1x6x1024_S1x1x1024_0_3_0) shapeCasts_S1x1x1024_S1x1024)) w1))) w2) wp

theorem mid_val (x : FVec Ideal S32x256x1024 .f32) (a d : FVec Ideal S32x256x8x64 .f32) (z : FVec Ideal S32x256x512 .f32) (ga gd : FVec Ideal S32x256x1024 .f32)
    (m : FVec Ideal S8x6x1024 .f32) (wp : FVec Ideal S1024 .f32) (wa wd : FVec Ideal S512x1024 .f32) (wo : FVec Ideal S1024x1024 .f32) (b : Fin 32) (t : Fin 256) :
    (fun j => MID x a d z ga gd m wp wa wd wo (ix3 b t j))
      = mid (fun j => x (ix3 b t j)) (heads a b t) (heads d b t) (fun j => z (ix3 b t j)) (fun j => ga (ix3 b t j)) (fun j => gd (ix3 b t j)) (fun j => m (ix3 (4 : Fin 8) (2 : Fin 6) j))
          (fun j => wp (ix1 j)) (fun k j => wa (ix2 k j)) (fun k j => wd (ix2 k j)) (fun k j => wo (ix2 k j)) := by
  unfold MID mid
  rw [vec2, step_val, dotO_val, mix_val, dotA_val, dotA_val, gated_val, flat_val]
  rfl

theorem ffn_val (x : FVec Ideal S32x256x1024 .f32) (m : FVec Ideal S8x6x1024 .f32) (w wp : FVec Ideal S1024 .f32) (w1 : FVec Ideal S1024x4096 .f32) (w2 : FVec Ideal S4096x1024 .f32)
    (b : Fin 32) (t : Fin 256) :
    (fun j => FFN x m w wp w1 w2 (ix3 b t j))
      = ffn (fun j => x (ix3 b t j)) (fun j => m (ix3 (4 : Fin 8) (3 : Fin 6) j)) (fun j => m (ix3 (4 : Fin 8) (4 : Fin 6) j)) (fun j => m (ix3 (4 : Fin 8) (5 : Fin 6) j))
          (fun j => w (ix1 j)) (fun j => wp (ix1 j)) (fun k j => w1 (ix2 k j)) (fun k j => w2 (ix2 k j)) := by
  unfold FFN ffn
  rw [vec3, vec4, vec5, step_val, dotG_val, relu_val, dotF_val, mod_val]
  rfl

/-- The reference's result, of its arguments. -/
def REF (x : FVec Ideal S32x256x1024 .f32) (a d : FVec Ideal S32x256x8x64 .f32) (z : FVec Ideal S32x256x512 .f32) (ga gd : FVec Ideal S32x256x1024 .f32)
    (m : FVec Ideal S8x6x1024 .f32) (wp1 w2 wp2 : FVec Ideal S1024 .f32) (wa wd : FVec Ideal S512x1024 .f32) (wo : FVec Ideal S1024x1024 .f32)
    (wf1 : FVec Ideal S1024x4096 .f32) (wf2 : FVec Ideal S4096x1024 .f32) : FVec Ideal S8192x1024 .f32 :=
  shapeCast _ (FFN (MID x a d z ga gd m wp1 wa wd wo) m w2 wp2 wf1 wf2) shapeCasts_S32x256x1024_S8192x1024

theorem row_val (Y : FVec Ideal S32x256x1024 .f32) (n : Fin 8192) (j : Fin 1024) :
    shapeCast S8192x1024 Y shapeCasts_S32x256x1024_S8192x1024 (ix2 n j) = Y (ix3 ⟨n / 256, by omega⟩ ⟨n % 256, by omega⟩ j) := by
  pointwise

theorem ref_val (x : FVec Ideal S32x256x1024 .f32) (a d : FVec Ideal S32x256x8x64 .f32) (z : FVec Ideal S32x256x512 .f32) (ga gd : FVec Ideal S32x256x1024 .f32)
    (m : FVec Ideal S8x6x1024 .f32) (wp1 w2 wp2 : FVec Ideal S1024 .f32) (wa wd : FVec Ideal S512x1024 .f32) (wo : FVec Ideal S1024x1024 .f32)
    (wf1 : FVec Ideal S1024x4096 .f32) (wf2 : FVec Ideal S4096x1024 .f32) (b : Fin 32) (t : Fin 256) (n : Fin 8192) (hb : n.val / 256 = b) (ht : n.val % 256 = t) (j : Fin 1024) :
    REF x a d z ga gd m wp1 w2 wp2 wa wd wo wf1 wf2 (ix2 n j)
      = ffn (mid (fun j => x (ix3 b t j)) (heads a b t) (heads d b t) (fun j => z (ix3 b t j)) (fun j => ga (ix3 b t j)) (fun j => gd (ix3 b t j)) (fun j => m (ix3 (4 : Fin 8) (2 : Fin 6) j))
          (fun j => wp1 (ix1 j)) (fun k j => wa (ix2 k j)) (fun k j => wd (ix2 k j)) (fun k j => wo (ix2 k j)))
        (fun j => m (ix3 (4 : Fin 8) (3 : Fin 6) j)) (fun j => m (ix3 (4 : Fin 8) (4 : Fin 6) j)) (fun j => m (ix3 (4 : Fin 8) (5 : Fin 6) j))
          (fun j => w2 (ix1 j)) (fun j => wp2 (ix1 j)) (fun k j => wf1 (ix2 k j)) (fun k j => wf2 (ix2 k j)) j := by
  unfold REF
  rw [row_val, ← mid_val, ← ffn_val, show (⟨n.val / 256, by omega⟩ : Fin 32) = b from Fin.ext hb, show (⟨n.val % 256, by omega⟩ : Fin 256) = t from Fin.ext ht]

/-- The run's result is that array of the arguments, which stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans rfl, (h c).2⟩) (Value.run m ρ)

end Cert.Reference2Ideal.Merge

end
-- ==== Proof.MergeVal.lean ====
module

public import proofs.«01_k».proof.Proof.MergeOut
public import proofs.«01_k».proof.Proof.MergeRef

@[expose] public section

set_option maxRecDepth 16384

noncomputable section

namespace Cert.Kernel2Ideal.Sub

open Cert.Kernel2Ideal Cert.Kernel2Ideal.Gen Cert.Merge Idealize.ShloMosaic Idealize.ShloMosaic.TcCoe Idealize.SL.Sem
open Idealize.ShloMosaic.Pipeline (Dat)
open Cert.Reference2Ideal.Merge (heads REF ref_val)

/-! The arrays the host prepares, and their entries. -/

def rows (x : FVec Ideal S32x256x1024 .f32) : FVec Ideal S8192x1024 .f32 := shapeCast S8192x1024 x shapeCasts_S32x256x1024_S8192x1024

theorem rows_val (x : FVec Ideal S32x256x1024 .f32) (n : Fin 8192) (j : Fin 1024) : rows x (ix2 n j) = x (ix3 ⟨n / 256, by omega⟩ ⟨n % 256, by omega⟩ j) := by
  unfold rows
  pointwise

def hrows (x : FVec Ideal S32x256x8x64 .f32) : FVec Ideal S8192x512 .bf16 := truncf .bf16 (shapeCast S8192x512 x shapeCasts_S32x256x8x64_S8192x512) bitsLt_bf16_f32

theorem hrows_val (x : FVec Ideal S32x256x8x64 .f32) (n : Fin 8192) (j : Fin 512) :
    hrows x (ix2 n j) = heads x ⟨n / 256, by omega⟩ ⟨n % 256, by omega⟩ j := by
  unfold hrows heads
  pointwise

/-- The three gates side by side. -/
def gates (z : FVec Ideal S32x256x512 .f32) (a b : FVec Ideal S32x256x1024 .f32) : FVec Ideal S8192x2560 .bf16 :=
  truncf .bf16 (concatenate S8192x2560 1 [⟨S8192x512, shapeCast S8192x512 z shapeCasts_S32x256x512_S8192x512⟩,
    ⟨S8192x1024, shapeCast S8192x1024 a shapeCasts_S32x256x1024_S8192x1024⟩, ⟨S8192x1024, shapeCast S8192x1024 b shapeCasts_S32x256x1024_S8192x1024⟩]
    concatenates_S8192x512_S8192x1024_S8192x1024_S8192x2560_d1) bitsLt_bf16_f32

theorem gates_z (z : FVec Ideal S32x256x512 .f32) (a b : FVec Ideal S32x256x1024 .f32) (n : Fin 8192) (j : Fin 512) :
    gates z a b (ix2 n ⟨j, by omega⟩) = z (ix3 ⟨n / 256, by omega⟩ ⟨n % 256, by omega⟩ j) := by
  unfold gates
  pointwise

theorem gates_a (z : FVec Ideal S32x256x512 .f32) (a b : FVec Ideal S32x256x1024 .f32) (n : Fin 8192) (j : Fin 1024) :
    gates z a b (ix2 n ⟨512 + j, by omega⟩) = a (ix3 ⟨n / 256, by omega⟩ ⟨n % 256, by omega⟩ j) := by
  unfold gates
  pointwise

theorem gates_b (z : FVec Ideal S32x256x512 .f32) (a b : FVec Ideal S32x256x1024 .f32) (n : Fin 8192) (j : Fin 1024) :
    gates z a b (ix2 n ⟨1536 + j, by omega⟩) = b (ix3 ⟨n / 256, by omega⟩ ⟨n % 256, by omega⟩ j) := by
  unfold gates
  pointwise
  blk_point
  all_goals (exfalso; omega)

def vrow (w : FVec Ideal S1024 .f32) : FVec Ideal S1x1024 .f32 := shapeCast S1x1024 w shapeCasts_S1024_S1x1024

theorem vrow_val (w : FVec Ideal S1024 .f32) (j : Fin 1024) : vrow w (ix2 (0 : Fin 1) j) = w (ix1 j) := by
  unfold vrow
  pointwise

variable (m : (ℓ : Loc nD τ sig) → Buf (Elt Ideal) ℓ)

theorem staged_x (c : Dev nD) : V m c main_v5 = rows (m ((c.tc : Thread nD τ).loc main_arg0)) := rfl
theorem staged_a (c : Dev nD) : V m c main_v7 = hrows (m ((c.tc : Thread nD τ).loc main_arg1)) := rfl
theorem staged_d (c : Dev nD) : V m c main_v9 = hrows (m ((c.tc : Thread nD τ).loc main_arg2)) := rfl
theorem staged_g (c : Dev nD) : V m c main_v4 = gates (m ((c.tc : Thread nD τ).loc main_arg3)) (m ((c.tc : Thread nD τ).loc main_arg4)) (m ((c.tc : Thread nD τ).loc main_arg5)) := rfl
theorem staged_v1 (c : Dev nD) : V m c main_v10 = vrow (m ((c.tc : Thread nD τ).loc main_arg7)) := rfl
theorem staged_v2 (c : Dev nD) : V m c main_v11 = vrow (m ((c.tc : Thread nD τ).loc main_arg8)) := rfl
theorem staged_v3 (c : Dev nD) : V m c main_v12 = vrow (m ((c.tc : Thread nD τ).loc main_arg9)) := rfl

theorem idx : ∀ t : Fin cfg0.N, win0_0.index t = ![t.val, 0] ∧ win0_1.index t = ![t.val, 0] ∧ win0_2.index t = ![t.val, 0] ∧ win0_3.index t = ![t.val, 0]
    ∧ win0_4.index t = ![4, 0, 0] ∧ win0_13.index t = ![t.val, 0] :=
  (by decide +kernel : ∀ t : Fin grid0.N, _)

theorem idw : ∀ t : Fin cfg0.N, win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

theorem x_at (c : Dev nD) (t : Fin cfg0.N) (r : Fin 512) (j : Fin 1024) (n : Fin 8192) (hn : n.val = 512 * t + r) :
    iblk m c 0 t (ix2 r j) = m ((c.tc : Thread nD τ).loc main_arg0) (ix3 ⟨n / 256, by omega⟩ ⟨n % 256, by omega⟩ j) := by
  refine Eq.trans ?_ (rows_val (m ((c.tc : Thread nD τ).loc main_arg0)) n j)
  rw [← staged_x m c]
  blk_ext [iblk, idx t]

theorem a_at (c : Dev nD) (t : Fin cfg0.N) (r : Fin 512) (j : Fin 512) (n : Fin 8192) (hn : n.val = 512 * t + r) :
    iblk m c 1 t (ix2 r j) = heads (m ((c.tc : Thread nD τ).loc main_arg1)) ⟨n / 256, by omega⟩ ⟨n % 256, by omega⟩ j := by
  rw [← hrows_val, ← staged_a m c]
  blk_ext [iblk, idx t]

theorem d_at (c : Dev nD) (t : Fin cfg0.N) (r : Fin 512) (j : Fin 512) (n : Fin 8192) (hn : n.val = 512 * t + r) :
    iblk m c 2 t (ix2 r j) = heads (m ((c.tc : Thread nD τ).loc main_arg2)) ⟨n / 256, by omega⟩ ⟨n % 256, by omega⟩ j := by
  rw [← hrows_val, ← staged_d m c]
  blk_ext [iblk, idx t]

theorem g_at (c : Dev nD) (t : Fin cfg0.N) (r : Fin 512) (j : Fin 2560) (n : Fin 8192) (hn : n.val = 512 * t + r) :
    iblk m c 3 t (ix2 r j) = V m c main_v4 (ix2 n j) := by
  blk_ext [iblk, idx t]

theorem z_at (c : Dev nD) (t : Fin cfg0.N) (r : Fin 512) (j : Fin 512) (n : Fin 8192) (hn : n.val = 512 * t + r) :
    iblk m c 3 t (ix2 r ⟨j, by omega⟩) = m ((c.tc : Thread nD τ).loc main_arg3) (ix3 ⟨n / 256, by omega⟩ ⟨n % 256, by omega⟩ j) :=
  (g_at m c t r _ n hn).trans ((congrFun (staged_g m c) _).trans (gates_z _ _ _ n j))

theorem ga_at (c : Dev nD) (t : Fin cfg0.N) (r : Fin 512) (j : Fin 1024) (n : Fin 8192) (hn : n.val = 512 * t + r) :
    iblk m c 3 t (ix2 r ⟨512 + j, by omega⟩) = m ((c.tc : Thread nD τ).loc main_arg4) (ix3 ⟨n / 256, by omega⟩ ⟨n % 256, by omega⟩ j) :=
  (g_at m c t r _ n hn).trans ((congrFun (staged_g m c) _).trans (gates_a _ _ _ n j))

theorem gd_at (c : Dev nD) (t : Fin cfg0.N) (r : Fin 512) (j : Fin 1024) (n : Fin 8192) (hn : n.val = 512 * t + r) :
    iblk m c 3 t (ix2 r ⟨1536 + j, by omega⟩) = m ((c.tc : Thread nD τ).loc main_arg5) (ix3 ⟨n / 256, by omega⟩ ⟨n % 256, by omega⟩ j) :=
  (g_at m c t r _ n hn).trans ((congrFun (staged_g m c) _).trans (gates_b _ _ _ n j))

theorem m_at (c : Dev nD) (t : Fin cfg0.N) (k : Fin 6) (j : Fin 1024) :
    iblk m c 4 t (ix3 (0 : Fin 1) k j) = m ((c.tc : Thread nD τ).loc main_arg6) (ix3 (4 : Fin 8) k j) := by
  show iblk m c 4 t (ix3 (0 : Fin 1) k j) = V m c main_arg6 (ix3 (4 : Fin 8) k j)
  blk_ext [iblk, idx t]

theorem w5_at (c : Dev nD) (t : Fin cfg0.N) (j : Fin 1024) : iblk m c 5 t (ix2 (0 : Fin 1) j) = m ((c.tc : Thread nD τ).loc main_arg7) (ix1 j) := by
  refine Eq.trans ?_ (vrow_val (m ((c.tc : Thread nD τ).loc main_arg7)) j)
  rw [← staged_v1 m c]
  blk_ext [iblk, idw t]

theorem w6_at (c : Dev nD) (t : Fin cfg0.N) (j : Fin 1024) : iblk m c 6 t (ix2 (0 : Fin 1) j) = m ((c.tc : Thread nD τ).loc main_arg8) (ix1 j) := by
  refine Eq.trans ?_ (vrow_val (m ((c.tc : Thread nD τ).loc main_arg8)) j)
  rw [← staged_v2 m c]
  blk_ext [iblk, idw t]

theorem w7_at (c : Dev nD) (t : Fin cfg0.N) (j : Fin 1024) : iblk m c 7 t (ix2 (0 : Fin 1) j) = m ((c.tc : Thread nD τ).loc main_arg9) (ix1 j) := by
  refine Eq.trans ?_ (vrow_val (m ((c.tc : Thread nD τ).loc main_arg9)) j)
  rw [← staged_v3 m c]
  blk_ext [iblk, idw t]

theorem w8_at (c : Dev nD) (t : Fin cfg0.N) (k : Fin 512) (j : Fin 1024) : iblk m c 8 t (ix2 k j) = m ((c.tc : Thread nD τ).loc main_arg10) (ix2 k j) := by
  show iblk m c 8 t (ix2 k j) = V m c main_v13 (ix2 k j)
  blk_ext [iblk, idw t]

theorem w9_at (c : Dev nD) (t : Fin cfg0.N) (k : Fin 512) (j : Fin 1024) : iblk m c 9 t (ix2 k j) = m ((c.tc : Thread nD τ).loc main_arg11) (ix2 k j) := by
  show iblk m c 9 t (ix2 k j) = V m c main_v14 (ix2 k j)
  blk_ext [iblk, idw t]

theorem w10_at (c : Dev nD) (t : Fin cfg0.N) (k : Fin 1024) (j : Fin 1024) : iblk m c 10 t (ix2 k j) = m ((c.tc : Thread nD τ).loc main_arg12) (ix2 k j) := by
  show iblk m c 10 t (ix2 k j) = V m c main_v15 (ix2 k j)
  blk_ext [iblk, idw t]

theorem w11_at (c : Dev nD) (t : Fin cfg0.N) (k : Fin 1024) (j : Fin 4096) : iblk m c 11 t (ix2 k j) = m ((c.tc : Thread nD τ).loc main_arg13) (ix2 k j) := by
  show iblk m c 11 t (ix2 k j) = V m c main_v16 (ix2 k j)
  blk_ext [iblk, idw t]

theorem w12_at (c : Dev nD) (t : Fin cfg0.N) (k : Fin 4096) (j : Fin 1024) : iblk m c 12 t (ix2 k j) = m ((c.tc : Thread nD τ).loc main_arg14) (ix2 k j) := by
  show iblk m c 12 t (ix2 k j) = V m c main_v17 (ix2 k j)
  blk_ext [iblk, idw t]

/-- The reference's result at device `c`'s arguments. -/
def refAt (c : Dev nD) : FVec Ideal S8192x1024 .f32 :=
  REF (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))

theorem point (c : Dev nD) (t : Fin cfg0.N) (ht : t.val < 16) (r : Fin 512) (j : Fin 1024) :
    out0_13 (F := Ideal) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (ix2 r j)
      = refAt m c (ix2 ⟨512 * t + r, by omega⟩ j) := by
  rw [out_row]
  unfold rowOut refAt
  rw [ref_val _ _ _ _ _ _ _ _ _ _ _ _ _ _ _ ⟨(512 * t + r) / 256, by omega⟩ ⟨(512 * t + r) % 256, by omega⟩ _ rfl rfl]
  simp only [fun j => x_at m c t r j ⟨512 * t + r, by omega⟩ rfl, fun j => a_at m c t r j ⟨512 * t + r, by omega⟩ rfl, fun j => d_at m c t r j ⟨512 * t + r, by omega⟩ rfl,
    fun j => z_at m c t r j ⟨512 * t + r, by omega⟩ rfl, fun j => ga_at m c t r j ⟨512 * t + r, by omega⟩ rfl,
    fun j => gd_at m c t r j ⟨512 * t + r, by omega⟩ rfl, m_at, w5_at, w6_at, w7_at, w8_at, w9_at, w10_at, w11_at, w12_at]

/-- The output array is the reference's result. -/
theorem final (c : Dev nD) : (dats m 0 c).arrAt 13 cfg0.N = refAt m c := by
  refine (dats m 0 c).arrAt_eq_of_covers 13 _ (by decide +kernel) fun t _ y => ?_
  have ht : t.val < 16 := lt_of_lt_of_eq t.isLt (by decide +kernel)
  blk_simp
  rw [after0_13]
  have ey : y = ix2 (n0 := 512) (n1 := 1024) (y 0) (y 1) := by
    blk_ext
  have ez : (win0_13.blk t).view.emb y = ix2 (n0 := 8192) (n1 := 1024) ⟨512 * t + (y 0 : ℕ), by have : (y 0 : ℕ) < 512 := (y 0).isLt; clear * - this ht; omega⟩ (y 1) := by
    blk_ext [idx t]
  rw [ez]
  exact (congrArg _ ey).trans (point m c t ht (y 0) (y 1))

end Cert.Kernel2Ideal.Sub

end
-- ==== Proof.MergeRef3.lean ====
module

public import proofs.«01_k».proof.Proof.Gen.Reference3Ideal.Run
public import proofs.«01_k».proof.Proof.MergeRow
public import Idealize.ShloMosaic.Lib.Pipeline.ValueKit
public import Idealize.ShloMosaic.Lib.Pointwise

@[expose] public section

set_option maxRecDepth 16384

noncomputable section

namespace Cert.Reference3Ideal.Merge

open Cert.Reference3Ideal Cert.Reference3Ideal.Gen Cert.Merge Idealize.ShloMosaic Idealize.ShloMosaic.TcCoe Idealize.SL.Sem

/-! The reference's steps, each as one function of whole arrays, and their rows. -/

/-- The logistic function of the gates. -/
def sigR (g : FVec Ideal S4x1024x1024 .f32) : FVec Ideal S4x1024x1024 .f32 :=
  Host.divf (broadcastInDim S4x1024x1024 ![] bcast_S_S4x1024x1024 (constant S_ .f32 0x3F800000#32)) (addf (broadcastInDim S4x1024x1024 ![] bcast_S_S4x1024x1024 (constant S_ .f32 0x3F800000#32)) (Host.exp (Host.negf g)))

theorem sig_val (g : FVec Ideal S4x1024x1024 .f32) (b : Fin 4) (t : Fin 1024) (j : Fin 1024) : sigR g (ix3 b t j) = Ideal.logistic (g (ix3 b t j)) := by
  unfold sigR Ideal.logistic
  simp only [← one_f32]
  pointwise

def siluR (z : FVec Ideal S4x1024x512 .f32) : FVec Ideal S4x1024x512 .f32 :=
  mulf z (Host.divf (broadcastInDim S4x1024x512 ![] bcast_S_S4x1024x512 (constant S_ .f32 0x3F800000#32)) (addf (broadcastInDim S4x1024x512 ![] bcast_S_S4x1024x512 (constant S_ .f32 0x3F800000#32)) (Host.exp (Host.negf z))))

theorem silu_val (z : FVec Ideal S4x1024x512 .f32) (b : Fin 4) (t : Fin 1024) (j : Fin 512) : siluR z (ix3 b t j) = z (ix3 b t j) * Ideal.logistic (z (ix3 b t j)) := by
  unfold siluR Ideal.logistic
  simp only [← one_f32]
  pointwise

/-- A token's row of an array of heads. -/
def heads (d : FVec Ideal S4x1024x8x64 .f32) (b : Fin 4) (t : Fin 1024) (j : Fin 512) : EReal := d (ix4 b t ⟨j / 64, by omega⟩ ⟨j % 64, by omega⟩)

def flat (d : FVec Ideal S4x1024x8x64 .f32) : FVec Ideal S4x1024x512 .f32 := shapeCast _ d shapeCasts_S4x1024x8x64_S4x1024x512

theorem flat_val (d : FVec Ideal S4x1024x8x64 .f32) (b : Fin 4) (t : Fin 1024) : (fun j => flat d (ix3 b t j)) = heads d b t := by
  funext j
  unfold flat heads
  pointwise

def gatedR (d : FVec Ideal S4x1024x8x64 .f32) (z : FVec Ideal S4x1024x512 .f32) : FVec Ideal S4x1024x8x64 .f32 :=
  mulf d (shapeCast _ (siluR z) shapeCasts_S4x1024x512_S4x1024x8x64)

theorem gated_val (d : FVec Ideal S4x1024x8x64 .f32) (z : FVec Ideal S4x1024x512 .f32) (b : Fin 4) (t : Fin 1024) :
    (fun j => flat (gatedR d z) (ix3 b t j)) = gated (heads d b t) (fun j => z (ix3 b t j)) := by
  rw [flat_val]
  funext j
  unfold gated
  rw [← silu_val]
  unfold gatedR heads
  pointwise
  blk_ext

def dotA (a : FVec Ideal S4x1024x512 .f32) (w : FVec Ideal S512x1024 .f32) : FVec Ideal S4x1024x1024 .f32 :=
  Host.dotGeneral dot_S4x1024x512_S512x1024_S4x1024x1024_2_0_01_1_n_n none a w

theorem dotA_val (a : FVec Ideal S4x1024x512 .f32) (w : FVec Ideal S512x1024 .f32) (b : Fin 4) (t : Fin 1024) :
    (fun j => dotA a w (ix3 b t j)) = proj (fun j => a (ix3 b t j)) (fun k j => w (ix2 k j)) := by
  funext j
  unfold dotA proj
  pointwise

def dotO (a : FVec Ideal S4x1024x1024 .f32) (w : FVec Ideal S1024x1024 .f32) : FVec Ideal S4x1024x1024 .f32 :=
  Host.dotGeneral dot_S4x1024x1024_S1024x1024_S4x1024x1024_2_0_01_1_n_n none a w

theorem dotO_val (a : FVec Ideal S4x1024x1024 .f32) (w : FVec Ideal S1024x1024 .f32) (b : Fin 4) (t : Fin 1024) :
    (fun j => dotO a w (ix3 b t j)) = proj (fun j => a (ix3 b t j)) (fun k j => w (ix2 k j)) := by
  funext j
  unfold dotO proj
  pointwise

def dotF (a : FVec Ideal S4x1024x1024 .f32) (w : FVec Ideal S1024x4096 .f32) : FVec Ideal S4x1024x4096 .f32 :=
  Host.dotGeneral dot_S4x1024x1024_S1024x4096_S4x1024x4096_2_0_01_1_n_n none a w

theorem dotF_val (a : FVec Ideal S4x1024x1024 .f32) (w : FVec Ideal S1024x4096 .f32) (b : Fin 4) (t : Fin 1024) :
    (fun j => dotF a w (ix3 b t j)) = proj (fun j => a (ix3 b t j)) (fun k j => w (ix2 k j)) := by
  funext j
  unfold dotF proj
  pointwise

def dotG (a : FVec Ideal S4x1024x4096 .f32) (w : FVec Ideal S4096x1024 .f32) : FVec Ideal S4x1024x1024 .f32 :=
  Host.dotGeneral dot_S4x1024x4096_S4096x1024_S4x1024x1024_2_0_01_1_n_n none a w

theorem dotG_val (a : FVec Ideal S4x1024x4096 .f32) (w : FVec Ideal S4096x1024 .f32) (b : Fin 4) (t : Fin 1024) :
    (fun j => dotG a w (ix3 b t j)) = proj (fun j => a (ix3 b t j)) (fun k j => w (ix2 k j)) := by
  funext j
  unfold dotG proj
  pointwise

def mixR (a b ga gb : FVec Ideal S4x1024x1024 .f32) : FVec Ideal S4x1024x1024 .f32 := addf (mulf (sigR ga) a) (mulf (sigR gb) b)

theorem mix_val (a b ga gb : FVec Ideal S4x1024x1024 .f32) (i : Fin 4) (t : Fin 1024) :
    (fun j => mixR a b ga gb (ix3 i t j)) = mixed (fun j => a (ix3 i t j)) (fun j => b (ix3 i t j)) (fun j => ga (ix3 i t j)) (fun j => gb (ix3 i t j)) := by
  funext j
  unfold mixR mixed
  simp only [← sig_val]
  pointwise

/-- The samples' rows of the modulation, and one of the six vectors of each. -/
def modsR (m : FVec Ideal S8x6x1024 .f32) : FVec Ideal S4x1x6x1024 .f32 :=
  shapeCast _ (extractStridedSlice S4x6x1024 ![0, 0, 0] m slices_S8x6x1024_S4x6x1024_0_0_0) shapeCasts_S4x6x1024_S4x1x6x1024

theorem mods_val (m : FVec Ideal S8x6x1024 .f32) (b : Fin 4) (k : Fin 6) (j : Fin 1024) : modsR m (ix4 b (0 : Fin 1) k j) = m (ix3 (⟨b, by omega⟩ : Fin 8) k j) := by
  unfold modsR
  pointwise
  blk_ext

def vec2 (m : FVec Ideal S8x6x1024 .f32) : FVec Ideal S4x1x1024 .f32 :=
  shapeCast _ (extractStridedSlice S4x1x1x1024 ![0, 0, 2, 0] (modsR m) slices_S4x1x6x1024_S4x1x1x1024_0_0_2_0) shapeCasts_S4x1x1x1024_S4x1x1024

theorem vec2_val (m : FVec Ideal S8x6x1024 .f32) (b : Fin 4) (j : Fin 1024) : vec2 m (ix3 b (0 : Fin 1) j) = m (ix3 (⟨b, by omega⟩ : Fin 8) (2 : Fin 6) j) := by
  refine Eq.trans ?_ (mods_val m b 2 j)
  unfold vec2
  pointwise
  blk_ext

def vec3 (m : FVec Ideal S8x6x1024 .f32) : FVec Ideal S4x1x1024 .f32 :=
  shapeCast _ (extractStridedSlice S4x1x1x1024 ![0, 0, 3, 0] (modsR m) slices_S4x1x6x1024_S4x1x1x1024_0_0_3_0) shapeCasts_S4x1x1x1024_S4x1x1024

theorem vec3_val (m : FVec Ideal S8x6x1024 .f32) (b : Fin 4) (j : Fin 1024) : vec3 m (ix3 b (0 : Fin 1) j) = m (ix3 (⟨b, by omega⟩ : Fin 8) (3 : Fin 6) j) := by
  refine Eq.trans ?_ (mods_val m b 3 j)
  unfold vec3
  pointwise
  blk_ext

def vec4 (m : FVec Ideal S8x6x1024 .f32) : FVec Ideal S4x1x1024 .f32 :=
  shapeCast _ (extractStridedSlice S4x1x1x1024 ![0, 0, 4, 0] (modsR m) slices_S4x1x6x1024_S4x1x1x1024_0_0_4_0) shapeCasts_S4x1x1x1024_S4x1x1024

theorem vec4_val (m : FVec Ideal S8x6x1024 .f32) (b : Fin 4) (j : Fin 1024) : vec4 m (ix3 b (0 : Fin 1) j) = m (ix3 (⟨b, by omega⟩ : Fin 8) (4 : Fin 6) j) := by
  refine Eq.trans ?_ (mods_val m b 4 j)
  unfold vec4
  pointwise
  blk_ext

def vec5 (m : FVec Ideal S8x6x1024 .f32) : FVec Ideal S4x1x1024 .f32 :=
  shapeCast _ (extractStridedSlice S4x1x1x1024 ![0, 0, 5, 0] (modsR m) slices_S4x1x6x1024_S4x1x1x1024_0_0_5_0) shapeCasts_S4x1x1x1024_S4x1x1024

theorem vec5_val (m : FVec Ideal S8x6x1024 .f32) (b : Fin 4) (j : Fin 1024) : vec5 m (ix3 b (0 : Fin 1) j) = m (ix3 (⟨b, by omega⟩ : Fin 8) (5 : Fin 6) j) := by
  refine Eq.trans ?_ (mods_val m b 5 j)
  unfold vec5
  pointwise
  blk_ext

def spread (v : FVec Ideal S4x1x1024 .f32) : FVec Ideal S4x1024x1024 .f32 :=
  broadcastInDim S4x1024x1024 ![0, 1, 2] bcast_S4x1x1024_S4x1024x1024_0_1_2 v

theorem spread_val (v : FVec Ideal S4x1x1024 .f32) (b : Fin 4) (t : Fin 1024) (j : Fin 1024) : spread v (ix3 b t j) = v (ix3 b (0 : Fin 1) j) := by
  unfold spread
  pointwise

def rmsR (y : FVec Ideal S4x1024x1024 .f32) (w : FVec Ideal S1024 .f32) : FVec Ideal S4x1024x1024 .f32 :=
  mulf (mulf y (broadcastInDim S4x1024x1024 ![0, 1, 2] bcast_S4x1024x1_S4x1024x1024_0_1_2 (Host.rsqrt (addf (Host.divf (broadcastInDim S4x1024x1 ![0, 1] bcast_S4x1024_S4x1024x1_0_1 (Host.reduceAdd (mulf y y) (constant S_ .f32 0x00000000#32) reducesTo_S4x1024x1024_S4x1024_d2 h_S_)) (broadcastInDim S4x1024x1 ![] bcast_S_S4x1024x1 (constant S_ .f32 0x44800000#32))) (broadcastInDim S4x1024x1 ![] bcast_S_S4x1024x1 (constant S_ .f32 0x358637BD#32))))))
    (broadcastInDim S4x1024x1024 ![0, 1, 2] bcast_S1x1x1024_S4x1024x1024_0_1_2 (broadcastInDim S1x1x1024 ![2] bcast_S1024_S1x1x1024_2 w))

theorem rms_val (y : FVec Ideal S4x1024x1024 .f32) (w : FVec Ideal S1024 .f32) (b : Fin 4) (t : Fin 1024) :
    (fun j => rmsR y w (ix3 b t j)) = rms (fun j => y (ix3 b t j)) (fun j => w (ix1 j)) := by
  funext j
  unfold rmsR rms
  pointwise

def stepR (x : FVec Ideal S4x1024x1024 .f32) (g : FVec Ideal S4x1x1024 .f32) (y : FVec Ideal S4x1024x1024 .f32) (w : FVec Ideal S1024 .f32) : FVec Ideal S4x1024x1024 .f32 :=
  addf x (mulf (spread g) (rmsR y w))

theorem step_val (x : FVec Ideal S4x1024x1024 .f32) (g : FVec Ideal S4x1x1024 .f32) (y : FVec Ideal S4x1024x1024 .f32) (w : FVec Ideal S1024 .f32) (b : Fin 4) (t : Fin 1024) :
    (fun j => stepR x g y w (ix3 b t j)) = step (fun j => x (ix3 b t j)) (fun j => g (ix3 b (0 : Fin 1) j)) (fun j => y (ix3 b t j)) (fun j => w (ix1 j)) := by
  funext j
  unfold stepR step
  rw [← rms_val]
  show _ = x (ix3 b t j) + g (ix3 b (0 : Fin 1) j) * rmsR y w (ix3 b t j)
  rw [← spread_val g b t j]
  pointwise

def modR (r : FVec Ideal S4x1024x1024 .f32) (sc sh : FVec Ideal S4x1x1024 .f32) : FVec Ideal S4x1024x1024 .f32 :=
  addf (mulf r (spread (addf (broadcastInDim S4x1x1024 ![] bcast_S_S4x1x1024 (constant S_ .f32 0x3F800000#32)) sc))) (spread sh)

theorem mod_val (x : FVec Ideal S4x1024x1024 .f32) (w : FVec Ideal S1024 .f32) (sc sh : FVec Ideal S4x1x1024 .f32) (b : Fin 4) (t : Fin 1024) :
    (fun j => modR (rmsR x w) sc sh (ix3 b t j)) = pre (fun j => x (ix3 b t j)) (fun j => w (ix1 j)) (fun j => sc (ix3 b (0 : Fin 1) j)) (fun j => sh (ix3 b (0 : Fin 1) j)) := by
  funext j
  unfold modR pre
  rw [← rms_val, ← one_f32]
  show rmsR x w (ix3 b t j) * spread (addf (broadcastInDim S4x1x1024 ![] bcast_S_S4x1x1024 (constant S_ .f32 0x3F800000#32)) sc) (ix3 b t j) + spread sh (ix3 b t j)
    = rmsR x w (ix3 b t j) * (Ideal.ofBits .f32 0x3F800000#32 + sc (ix3 b (0 : Fin 1) j)) + sh (ix3 b (0 : Fin 1) j)
  rw [spread_val, spread_val]
  rfl

def reluR (a : FVec Ideal S4x1024x4096 .f32) : FVec Ideal S4x1024x4096 .f32 :=
  maximumf a (broadcastInDim S4x1024x4096 ![] bcast_S_S4x1024x4096 (constant S_ .f32 0x00000000#32))

theorem relu_val (a : FVec Ideal S4x1024x4096 .f32) (b : Fin 4) (t : Fin 1024) :
    (fun j => mulf (reluR a) (reluR a) (ix3 b t j)) = relu2 (fun j => a (ix3 b t j)) := by
  funext j
  unfold reluR relu2
  simp only [← zero_f32]
  pointwise

/-- The reference's array before the feed-forward part. -/
def MID (x : FVec Ideal S4x1024x1024 .f32) (a d : FVec Ideal S4x1024x8x64 .f32) (z : FVec Ideal S4x1024x512 .f32) (ga gd : FVec Ideal S4x1024x1024 .f32)
    (m : FVec Ideal S8x6x1024 .f32) (wp : FVec Ideal S1024 .f32) (wa wd : FVec Ideal S512x1024 .f32) (wo : FVec Ideal S1024x1024 .f32) : FVec Ideal S4x1024x1024 .f32 :=
  stepR x (vec2 m)
    (dotO (mixR (dotA (flat a) wa) (dotA (flat (gatedR d z)) wd) ga gd) wo) wp

/-- The reference's array, of that one. -/
def FFN (x : FVec Ideal S4x1024x1024 .f32) (m : FVec Ideal S8x6x1024 .f32) (w wp : FVec Ideal S1024 .f32) (w1 : FVec Ideal S1024x4096 .f32) (w2 : FVec Ideal S4096x1024 .f32) :
    FVec Ideal S4x1024x1024 .f32 :=
  stepR x (vec5 m)
    (dotG (mulf (reluR (dotF (modR (rmsR x w)
        (vec4 m)
        (vec3 m)) w1))
      (reluR (dotF (modR (rmsR x w)
        (vec4 m)
        (vec3 m)) w1))) w2) wp

theorem mid_val (x : FVec Ideal S4x1024x1024 .f32) (a d : FVec Ideal S4x1024x8x64 .f32) (z : FVec Ideal S4x1024x512 .f32) (ga gd : FVec Ideal S4x1024x1024 .f32)
    (m : FVec Ideal S8x6x1024 .f32) (wp : FVec Ideal S1024 .f32) (wa wd : FVec Ideal S512x1024 .f32) (wo : FVec Ideal S1024x1024 .f32) (b : Fin 4) (t : Fin 1024) :
    (fun j => MID x a d z ga gd m wp wa wd wo (ix3 b t j))
      = mid (fun j => x (ix3 b t j)) (heads a b t) (heads d b t) (fun j => z (ix3 b t j)) (fun j => ga (ix3 b t j)) (fun j => gd (ix3 b t j)) (fun j => m (ix3 (⟨b, by omega⟩ : Fin 8) (2 : Fin 6) j))
          (fun j => wp (ix1 j)) (fun k j => wa (ix2 k j)) (fun k j => wd (ix2 k j)) (fun k j => wo (ix2 k j)) := by
  unfold MID mid
  rw [step_val, dotO_val, mix_val, dotA_val, dotA_val, gated_val, flat_val]
  simp only [vec2_val]

theorem ffn_val (x : FVec Ideal S4x1024x1024 .f32) (m : FVec Ideal S8x6x1024 .f32) (w wp : FVec Ideal S1024 .f32) (w1 : FVec Ideal S1024x4096 .f32) (w2 : FVec Ideal S4096x1024 .f32)
    (b : Fin 4) (t : Fin 1024) :
    (fun j => FFN x m w wp w1 w2 (ix3 b t j))
      = ffn (fun j => x (ix3 b t j)) (fun j => m (ix3 (⟨b, by omega⟩ : Fin 8) (3 : Fin 6) j)) (fun j => m (ix3 (⟨b, by omega⟩ : Fin 8) (4 : Fin 6) j)) (fun j => m (ix3 (⟨b, by omega⟩ : Fin 8) (5 : Fin 6) j))
          (fun j => w (ix1 j)) (fun j => wp (ix1 j)) (fun k j => w1 (ix2 k j)) (fun k j => w2 (ix2 k j)) := by
  unfold FFN ffn
  rw [step_val, dotG_val, relu_val, dotF_val, mod_val]
  simp only [vec3_val, vec4_val, vec5_val]

/-- The reference's result, of its arguments. -/
def REF (x : FVec Ideal S4x1024x1024 .f32) (a d : FVec Ideal S4x1024x8x64 .f32) (z : FVec Ideal S4x1024x512 .f32) (ga gd : FVec Ideal S4x1024x1024 .f32)
    (m : FVec Ideal S8x6x1024 .f32) (wp1 w2 wp2 : FVec Ideal S1024 .f32) (wa wd : FVec Ideal S512x1024 .f32) (wo : FVec Ideal S1024x1024 .f32)
    (wf1 : FVec Ideal S1024x4096 .f32) (wf2 : FVec Ideal S4096x1024 .f32) : FVec Ideal S4096x1024 .f32 :=
  shapeCast _ (FFN (MID x a d z ga gd m wp1 wa wd wo) m w2 wp2 wf1 wf2) shapeCasts_S4x1024x1024_S4096x1024

theorem row_val (Y : FVec Ideal S4x1024x1024 .f32) (n : Fin 4096) (j : Fin 1024) :
    shapeCast S4096x1024 Y shapeCasts_S4x1024x1024_S4096x1024 (ix2 n j) = Y (ix3 ⟨n / 1024, by omega⟩ ⟨n % 1024, by omega⟩ j) := by
  pointwise

theorem ref_val (x : FVec Ideal S4x1024x1024 .f32) (a d : FVec Ideal S4x1024x8x64 .f32) (z : FVec Ideal S4x1024x512 .f32) (ga gd : FVec Ideal S4x1024x1024 .f32)
    (m : FVec Ideal S8x6x1024 .f32) (wp1 w2 wp2 : FVec Ideal S1024 .f32) (wa wd : FVec Ideal S512x1024 .f32) (wo : FVec Ideal S1024x1024 .f32)
    (wf1 : FVec Ideal S1024x4096 .f32) (wf2 : FVec Ideal S4096x1024 .f32) (b : Fin 4) (t : Fin 1024) (n : Fin 4096) (hb : n.val / 1024 = b) (ht : n.val % 1024 = t) (j : Fin 1024) :
    REF x a d z ga gd m wp1 w2 wp2 wa wd wo wf1 wf2 (ix2 n j)
      = ffn (mid (fun j => x (ix3 b t j)) (heads a b t) (heads d b t) (fun j => z (ix3 b t j)) (fun j => ga (ix3 b t j)) (fun j => gd (ix3 b t j)) (fun j => m (ix3 (⟨b, by omega⟩ : Fin 8) (2 : Fin 6) j))
          (fun j => wp1 (ix1 j)) (fun k j => wa (ix2 k j)) (fun k j => wd (ix2 k j)) (fun k j => wo (ix2 k j)))
        (fun j => m (ix3 (⟨b, by omega⟩ : Fin 8) (3 : Fin 6) j)) (fun j => m (ix3 (⟨b, by omega⟩ : Fin 8) (4 : Fin 6) j)) (fun j => m (ix3 (⟨b, by omega⟩ : Fin 8) (5 : Fin 6) j))
          (fun j => w2 (ix1 j)) (fun j => wp2 (ix1 j)) (fun k j => wf1 (ix2 k j)) (fun k j => wf2 (ix2 k j)) j := by
  unfold REF
  rw [row_val, ← mid_val, ← ffn_val, show (⟨n.val / 1024, by omega⟩ : Fin 4) = b from Fin.ext hb, show (⟨n.val % 1024, by omega⟩ : Fin 1024) = t from Fin.ext ht]

/-- The run's result is that array of the arguments, which stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans rfl, (h c).2⟩) (Value.run m ρ)

end Cert.Reference3Ideal.Merge

end
-- ==== Proof.MergeVal3.lean ====
module

public import proofs.«01_k».proof.Proof.MergeOut
public import proofs.«01_k».proof.Proof.MergeRef3
public import proofs.«01_k».proof.Proof.Gen.Kernel3Ideal.Value

@[expose] public section

set_option maxRecDepth 16384

noncomputable section

namespace Cert.Kernel3Ideal.Sub

open Cert.Kernel3Ideal Cert.Kernel3Ideal.Gen Cert.Merge Idealize.ShloMosaic Idealize.ShloMosaic.TcCoe Idealize.SL.Sem
open Idealize.ShloMosaic.Pipeline (Dat)
open Cert.Reference3Ideal.Merge (heads REF ref_val)

/-! The arrays the host prepares, and their entries. -/

def rows (x : FVec Ideal S4x1024x1024 .f32) : FVec Ideal S4096x1024 .f32 := shapeCast S4096x1024 x shapeCasts_S4x1024x1024_S4096x1024

theorem rows_val (x : FVec Ideal S4x1024x1024 .f32) (n : Fin 4096) (j : Fin 1024) : rows x (ix2 n j) = x (ix3 ⟨n / 1024, by omega⟩ ⟨n % 1024, by omega⟩ j) := by
  unfold rows
  pointwise

def hrows (x : FVec Ideal S4x1024x8x64 .f32) : FVec Ideal S4096x512 .bf16 := truncf .bf16 (shapeCast S4096x512 x shapeCasts_S4x1024x8x64_S4096x512) bitsLt_bf16_f32

theorem hrows_val (x : FVec Ideal S4x1024x8x64 .f32) (n : Fin 4096) (j : Fin 512) :
    hrows x (ix2 n j) = heads x ⟨n / 1024, by omega⟩ ⟨n % 1024, by omega⟩ j := by
  unfold hrows heads
  pointwise

/-- The three gates side by side. -/
def gates (z : FVec Ideal S4x1024x512 .f32) (a b : FVec Ideal S4x1024x1024 .f32) : FVec Ideal S4096x2560 .bf16 :=
  truncf .bf16 (concatenate S4096x2560 1 [⟨S4096x512, shapeCast S4096x512 z shapeCasts_S4x1024x512_S4096x512⟩,
    ⟨S4096x1024, shapeCast S4096x1024 a shapeCasts_S4x1024x1024_S4096x1024⟩, ⟨S4096x1024, shapeCast S4096x1024 b shapeCasts_S4x1024x1024_S4096x1024⟩]
    concatenates_S4096x512_S4096x1024_S4096x1024_S4096x2560_d1) bitsLt_bf16_f32

theorem gates_z (z : FVec Ideal S4x1024x512 .f32) (a b : FVec Ideal S4x1024x1024 .f32) (n : Fin 4096) (j : Fin 512) :
    gates z a b (ix2 n ⟨j, by omega⟩) = z (ix3 ⟨n / 1024, by omega⟩ ⟨n % 1024, by omega⟩ j) := by
  unfold gates
  pointwise

theorem gates_a (z : FVec Ideal S4x1024x512 .f32) (a b : FVec Ideal S4x1024x1024 .f32) (n : Fin 4096) (j : Fin 1024) :
    gates z a b (ix2 n ⟨512 + j, by omega⟩) = a (ix3 ⟨n / 1024, by omega⟩ ⟨n % 1024, by omega⟩ j) := by
  unfold gates
  pointwise

theorem gates_b (z : FVec Ideal S4x1024x512 .f32) (a b : FVec Ideal S4x1024x1024 .f32) (n : Fin 4096) (j : Fin 1024) :
    gates z a b (ix2 n ⟨1536 + j, by omega⟩) = b (ix3 ⟨n / 1024, by omega⟩ ⟨n % 1024, by omega⟩ j) := by
  unfold gates
  pointwise
  blk_point
  all_goals (exfalso; omega)

def vrow (w : FVec Ideal S1024 .f32) : FVec Ideal S1x1024 .f32 := shapeCast S1x1024 w shapeCasts_S1024_S1x1024

theorem vrow_val (w : FVec Ideal S1024 .f32) (j : Fin 1024) : vrow w (ix2 (0 : Fin 1) j) = w (ix1 j) := by
  unfold vrow
  pointwise

variable (m : (ℓ : Loc nD τ sig) → Buf (Elt Ideal) ℓ)

theorem staged_x (c : Dev nD) : V m c main_v5 = rows (m ((c.tc : Thread nD τ).loc main_arg0)) := rfl
theorem staged_a (c : Dev nD) : V m c main_v7 = hrows (m ((c.tc : Thread nD τ).loc main_arg1)) := rfl
theorem staged_d (c : Dev nD) : V m c main_v9 = hrows (m ((c.tc : Thread nD τ).loc main_arg2)) := rfl
theorem staged_g (c : Dev nD) : V m c main_v4 = gates (m ((c.tc : Thread nD τ).loc main_arg3)) (m ((c.tc : Thread nD τ).loc main_arg4)) (m ((c.tc : Thread nD τ).loc main_arg5)) := rfl
theorem staged_v1 (c : Dev nD) : V m c main_v10 = vrow (m ((c.tc : Thread nD τ).loc main_arg7)) := rfl
theorem staged_v2 (c : Dev nD) : V m c main_v11 = vrow (m ((c.tc : Thread nD τ).loc main_arg8)) := rfl
theorem staged_v3 (c : Dev nD) : V m c main_v12 = vrow (m ((c.tc : Thread nD τ).loc main_arg9)) := rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val / 2, 0, 0] ∧ win0_13.index t = ![t.val, 0] :=
  (by decide +kernel : ∀ t : Fin grid0.N, _)

theorem idw : ∀ t : Fin cfg0.N, win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

theorem x_at (c : Dev nD) (t : Fin cfg0.N) (r : Fin 512) (j : Fin 1024) (n : Fin 4096) (hn : n.val = 512 * t + r) :
    iblk m c 0 t (ix2 r j) = m ((c.tc : Thread nD τ).loc main_arg0) (ix3 ⟨n / 1024, by omega⟩ ⟨n % 1024, by omega⟩ j) := by
  refine Eq.trans ?_ (rows_val (m ((c.tc : Thread nD τ).loc main_arg0)) n j)
  rw [← staged_x m c]
  blk_ext [iblk, idx t]

theorem a_at (c : Dev nD) (t : Fin cfg0.N) (r : Fin 512) (j : Fin 512) (n : Fin 4096) (hn : n.val = 512 * t + r) :
    iblk m c 1 t (ix2 r j) = heads (m ((c.tc : Thread nD τ).loc main_arg1)) ⟨n / 1024, by omega⟩ ⟨n % 1024, by omega⟩ j := by
  rw [← hrows_val, ← staged_a m c]
  blk_ext [iblk, idx t]

theorem d_at (c : Dev nD) (t : Fin cfg0.N) (r : Fin 512) (j : Fin 512) (n : Fin 4096) (hn : n.val = 512 * t + r) :
    iblk m c 2 t (ix2 r j) = heads (m ((c.tc : Thread nD τ).loc main_arg2)) ⟨n / 1024, by omega⟩ ⟨n % 1024, by omega⟩ j := by
  rw [← hrows_val, ← staged_d m c]
  blk_ext [iblk, idx t]

theorem g_at (c : Dev nD) (t : Fin cfg0.N) (r : Fin 512) (j : Fin 2560) (n : Fin 4096) (hn : n.val = 512 * t + r) :
    iblk m c 3 t (ix2 r j) = V m c main_v4 (ix2 n j) := by
  blk_ext [iblk, idx t]

theorem z_at (c : Dev nD) (t : Fin cfg0.N) (r : Fin 512) (j : Fin 512) (n : Fin 4096) (hn : n.val = 512 * t + r) :
    iblk m c 3 t (ix2 r ⟨j, by omega⟩) = m ((c.tc : Thread nD τ).loc main_arg3) (ix3 ⟨n / 1024, by omega⟩ ⟨n % 1024, by omega⟩ j) :=
  (g_at m c t r _ n hn).trans ((congrFun (staged_g m c) _).trans (gates_z _ _ _ n j))

theorem ga_at (c : Dev nD) (t : Fin cfg0.N) (r : Fin 512) (j : Fin 1024) (n : Fin 4096) (hn : n.val = 512 * t + r) :
    iblk m c 3 t (ix2 r ⟨512 + j, by omega⟩) = m ((c.tc : Thread nD τ).loc main_arg4) (ix3 ⟨n / 1024, by omega⟩ ⟨n % 1024, by omega⟩ j) :=
  (g_at m c t r _ n hn).trans ((congrFun (staged_g m c) _).trans (gates_a _ _ _ n j))

theorem gd_at (c : Dev nD) (t : Fin cfg0.N) (r : Fin 512) (j : Fin 1024) (n : Fin 4096) (hn : n.val = 512 * t + r) :
    iblk m c 3 t (ix2 r ⟨1536 + j, by omega⟩) = m ((c.tc : Thread nD τ).loc main_arg5) (ix3 ⟨n / 1024, by omega⟩ ⟨n % 1024, by omega⟩ j) :=
  (g_at m c t r _ n hn).trans ((congrFun (staged_g m c) _).trans (gates_b _ _ _ n j))

theorem m_at (c : Dev nD) (t : Fin cfg0.N) (k : Fin 6) (j : Fin 1024) (b : Fin 8) (hb : b.val = t / 2) :
    iblk m c 4 t (ix3 (0 : Fin 1) k j) = m ((c.tc : Thread nD τ).loc main_arg6) (ix3 b k j) := by
  show iblk m c 4 t (ix3 (0 : Fin 1) k j) = V m c main_arg6 (ix3 b k j)
  blk_ext [iblk, idx t]

/-- This call's body is that of the prompt's call, so a block's row is the same function of the blocks it reads. -/
theorem out_row (x0 : Vec Ideal S512x1024 .f32) (x1 x2 : Vec Ideal S512x512 .bf16) (x3 : Vec Ideal S512x2560 .bf16) (x4 : Vec Ideal S1x6x1024 .f32)
    (x5 x6 x7 : Vec Ideal S1x1024 .f32) (x8 x9 : Vec Ideal S512x1024 .bf16) (x10 : Vec Ideal S1024x1024 .bf16) (x11 : Vec Ideal S1024x4096 .bf16)
    (x12 : Vec Ideal S4096x1024 .bf16) (r : Fin 512) (j : Fin 1024) :
    out0_13 (F := Ideal) x0 x1 x2 x3 x4 x5 x6 x7 x8 x9 x10 x11 x12 (ix2 r j) = Cert.Kernel2Ideal.Sub.rowOut x0 x1 x2 x3 x4 x5 x6 x7 x8 x9 x10 x11 x12 r j :=
  Cert.Kernel2Ideal.Sub.out_row x0 x1 x2 x3 x4 x5 x6 x7 x8 x9 x10 x11 x12 r j

theorem w5_at (c : Dev nD) (t : Fin cfg0.N) (j : Fin 1024) : iblk m c 5 t (ix2 (0 : Fin 1) j) = m ((c.tc : Thread nD τ).loc main_arg7) (ix1 j) := by
  refine Eq.trans ?_ (vrow_val (m ((c.tc : Thread nD τ).loc main_arg7)) j)
  rw [← staged_v1 m c]
  blk_ext [iblk, idw t]

theorem w6_at (c : Dev nD) (t : Fin cfg0.N) (j : Fin 1024) : iblk m c 6 t (ix2 (0 : Fin 1) j) = m ((c.tc : Thread nD τ).loc main_arg8) (ix1 j) := by
  refine Eq.trans ?_ (vrow_val (m ((c.tc : Thread nD τ).loc main_arg8)) j)
  rw [← staged_v2 m c]
  blk_ext [iblk, idw t]

theorem w7_at (c : Dev nD) (t : Fin cfg0.N) (j : Fin 1024) : iblk m c 7 t (ix2 (0 : Fin 1) j) = m ((c.tc : Thread nD τ).loc main_arg9) (ix1 j) := by
  refine Eq.trans ?_ (vrow_val (m ((c.tc : Thread nD τ).loc main_arg9)) j)
  rw [← staged_v3 m c]
  blk_ext [iblk, idw t]

theorem w8_at (c : Dev nD) (t : Fin cfg0.N) (k : Fin 512) (j : Fin 1024) : iblk m c 8 t (ix2 k j) = m ((c.tc : Thread nD τ).loc main_arg10) (ix2 k j) := by
  show iblk m c 8 t (ix2 k j) = V m c main_v13 (ix2 k j)
  blk_ext [iblk, idw t]

theorem w9_at (c : Dev nD) (t : Fin cfg0.N) (k : Fin 512) (j : Fin 1024) : iblk m c 9 t (ix2 k j) = m ((c.tc : Thread nD τ).loc main_arg11) (ix2 k j) := by
  show iblk m c 9 t (ix2 k j) = V m c main_v14 (ix2 k j)
  blk_ext [iblk, idw t]

theorem w10_at (c : Dev nD) (t : Fin cfg0.N) (k : Fin 1024) (j : Fin 1024) : iblk m c 10 t (ix2 k j) = m ((c.tc : Thread nD τ).loc main_arg12) (ix2 k j) := by
  show iblk m c 10 t (ix2 k j) = V m c main_v15 (ix2 k j)
  blk_ext [iblk, idw t]

theorem w11_at (c : Dev nD) (t : Fin cfg0.N) (k : Fin 1024) (j : Fin 4096) : iblk m c 11 t (ix2 k j) = m ((c.tc : Thread nD τ).loc main_arg13) (ix2 k j) := by
  show iblk m c 11 t (ix2 k j) = V m c main_v16 (ix2 k j)
  blk_ext [iblk, idw t]

theorem w12_at (c : Dev nD) (t : Fin cfg0.N) (k : Fin 4096) (j : Fin 1024) : iblk m c 12 t (ix2 k j) = m ((c.tc : Thread nD τ).loc main_arg14) (ix2 k j) := by
  show iblk m c 12 t (ix2 k j) = V m c main_v17 (ix2 k j)
  blk_ext [iblk, idw t]

/-- The reference's result at device `c`'s arguments. -/
def refAt (c : Dev nD) : FVec Ideal S4096x1024 .f32 :=
  REF (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))

theorem point (c : Dev nD) (t : Fin cfg0.N) (ht : t.val < 8) (r : Fin 512) (j : Fin 1024) :
    out0_13 (F := Ideal) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (ix2 r j)
      = refAt m c (ix2 ⟨512 * t + r, by omega⟩ j) := by
  rw [out_row]
  unfold Cert.Kernel2Ideal.Sub.rowOut refAt
  rw [ref_val _ _ _ _ _ _ _ _ _ _ _ _ _ _ _ ⟨(512 * t + r) / 1024, by omega⟩ ⟨(512 * t + r) % 1024, by omega⟩ _ rfl rfl]
  simp only [fun j => x_at m c t r j ⟨512 * t + r, by omega⟩ rfl, fun j => a_at m c t r j ⟨512 * t + r, by omega⟩ rfl, fun j => d_at m c t r j ⟨512 * t + r, by omega⟩ rfl,
    fun j => z_at m c t r j ⟨512 * t + r, by omega⟩ rfl, fun j => ga_at m c t r j ⟨512 * t + r, by omega⟩ rfl,
    fun j => gd_at m c t r j ⟨512 * t + r, by omega⟩ rfl, fun k j => m_at m c t k j ⟨(512 * t + r) / 1024, by omega⟩ (show (512 * t.val + r) / 1024 = t.val / 2 by omega), w5_at, w6_at, w7_at, w8_at, w9_at, w10_at, w11_at, w12_at]

/-- The output array is the reference's result. -/
theorem final (c : Dev nD) : (dats m 0 c).arrAt 13 cfg0.N = refAt m c := by
  refine (dats m 0 c).arrAt_eq_of_covers 13 _ (by decide +kernel) fun t _ y => ?_
  have ht : t.val < 8 := lt_of_lt_of_eq t.isLt (by decide +kernel)
  blk_simp
  rw [after0_13]
  have ey : y = ix2 (n0 := 512) (n1 := 1024) (y 0) (y 1) := by
    blk_ext
  have ez : (win0_13.blk t).view.emb y = ix2 (n0 := 4096) (n1 := 1024) ⟨512 * t + (y 0 : ℕ), by have : (y 0 : ℕ) < 512 := (y 0).isLt; clear * - this ht; omega⟩ (y 1) := by
    blk_ext [idx t]
  rw [ez]
  exact (congrArg _ ey).trans (point m c t ht (y 0) (y 1))

end Cert.Kernel3Ideal.Sub

end
-- ==== Proof.InBlock.lean ====
module

public import proofs.«01_k».proof.Proof.Gen.Kernel4Ideal.Value
public import proofs.«01_k».proof.Proof.MergeOut

@[expose] public section

set_option maxRecDepth 16384

noncomputable section

namespace Cert.Kernel4Ideal.In

open Cert.Kernel4Ideal Cert.Kernel4Ideal.Gen Cert.Merge Idealize.ShloMosaic Idealize.ShloMosaic.TcCoe Idealize.SL.Sem
open Cert.Kernel2Ideal.Sub (rmsB modB vecB mod_val)

/-! The steps of one sub-tile of 256 tokens, and their entries. -/

theorem vec0 (v : FVec Ideal S6x1024 .f32) : extractStridedSlice S1x1024 ![0, 0] v slices_S6x1024_o0_0_S1x1024 = vecB 0 v := by
  funext y
  unfold vecB
  pointwise
  blk_ext

theorem vec1 (v : FVec Ideal S6x1024 .f32) : extractStridedSlice S1x1024 ![1, 0] v slices_S6x1024_o1_0_S1x1024 = vecB 1 v := by
  funext y
  unfold vecB
  pointwise
  blk_ext

/-- The modulated norm before the mixers. -/
def normB (v : FVec Ideal S6x1024 .f32) (x : FVec Ideal S256x1024 .f32) (w : FVec Ideal S1x1024 .f32) : FVec Ideal S256x1024 .bf16 :=
  truncf .bf16 (modB (rmsB x w) (vecB 1 v) (vecB 0 v)) bitsLt_bf16_f32

theorem p8 (v : FVec Ideal S6x1024 .f32) (x : FVec Ideal S256x1024 .f32) (w : FVec Ideal S1x1024 .f32) : k0_pay8 v x w = normB v x w := by
  unfold k0_pay8 normB modB rmsB
  simp only [shapeCast_id, vec0, vec1]

theorem p51 (v : FVec Ideal S6x1024 .f32) (x : FVec Ideal S256x1024 .f32) (w : FVec Ideal S1x1024 .f32) : k0_pay51 v x w = normB v x w := by
  unfold k0_pay51 normB modB rmsB
  simp only [shapeCast_id, vec0, vec1]

theorem norm_val (v : FVec Ideal S6x1024 .f32) (x : FVec Ideal S256x1024 .f32) (w : FVec Ideal S1x1024 .f32) (i : Fin 256) :
    (fun j => normB v x w (ix2 i j)) = pre (fun j => x (ix2 i j)) (fun j => w (ix2 (0 : Fin 1) j)) (fun j => v (ix2 1 j)) (fun j => v (ix2 0 j)) :=
  mod_val x w (vecB 1 v) (vecB 0 v) i

theorem dot_val (h : FVec Ideal S256x1024 .bf16) (w : FVec Ideal S1024x1536 .bf16) (i : Fin 256) (j : Fin 1536) :
    k0_pay12 h w (ix2 i j) = proj (fun k => h (ix2 i k)) (fun k j => w (ix2 k j)) j := by
  unfold k0_pay12 proj
  pointwise

/-- The columns after the convolution's, first part. -/
theorem tail_a (h : FVec Ideal S256x1024 .bf16) (a b : FVec Ideal S1024x1280 .bf16) (d : FVec Ideal S1024x128 .bf16) (i : Fin 256) (j : Fin 1280) :
    k0_pay30 h a b d (ix2 i ⟨j, by omega⟩) = proj (fun k => h (ix2 i k)) (fun k j => a (ix2 k j)) j := by
  unfold k0_pay30 proj
  simp only [shapeCast_id]
  pointwise

theorem tail_b (h : FVec Ideal S256x1024 .bf16) (a b : FVec Ideal S1024x1280 .bf16) (d : FVec Ideal S1024x128 .bf16) (i : Fin 256) (j : Fin 1280) :
    k0_pay30 h a b d (ix2 i ⟨1280 + j, by omega⟩) = proj (fun k => h (ix2 i k)) (fun k j => b (ix2 k j)) j := by
  unfold k0_pay30 proj
  simp only [shapeCast_id]
  pointwise

theorem tail_c (h : FVec Ideal S256x1024 .bf16) (a b : FVec Ideal S1024x1280 .bf16) (d : FVec Ideal S1024x128 .bf16) (i : Fin 256) (j : Fin 128) :
    k0_pay30 h a b d (ix2 i ⟨2560 + j, by omega⟩) = proj (fun k => h (ix2 i k)) (fun k j => d (ix2 k j)) j := by
  unfold k0_pay30 proj
  simp only [shapeCast_id]
  pointwise
  rw [dif_neg (by omega), dif_neg (by omega)]
  refine Finset.sum_congr rfl fun x _ => ?_
  congr 3
  exact Fin.ext (by show 2560 + j.val - 1280 - 1280 = j.val; omega)

theorem gates_at (T : FVec Ideal S256x2688 .f32) (i : Fin 256) (j : Fin 2560) : k0_pay32 T (ix2 i j) = T (ix2 i ⟨32 + j, by omega⟩) := by
  unfold k0_pay32
  pointwise
  blk_ext

theorem gates_at' (T : FVec Ideal S256x2688 .f32) (i : Fin 256) (j : Fin 2560) : k0_pay78 T (ix2 i j) = T (ix2 i ⟨32 + j, by omega⟩) := gates_at T i j

/-- A head's columns of a block of rows, as one head of the cache. -/
theorem head_at (T : FVec Ideal S256x1536 .f32) (o : ℕ) (hs : S256x1536.Slices ![0, o] S256x64) (y : S1x1x1x256x64.Idx) (ho : o + 64 ≤ 1536) :
    shapeCast S1x1x1x256x64 (extractStridedSlice S256x64 ![0, o] T hs) shapeCasts_S256x64_S1x1x1x256x64 y
      = T (ix2 (n0 := 256) (n1 := 1536) (y 3) ⟨o + (y 4).val, by have : (y 4).val < 64 := (y 4).isLt; omega⟩) := by
  pointwise
  blk_ext

end Cert.Kernel4Ideal.In

end
-- ==== Proof.InOut.lean ====
module

public import proofs.«01_k».proof.Proof.InBlock

@[expose] public section

set_option maxRecDepth 16384

noncomputable section

namespace Cert.Kernel4Ideal.In

open Cert.Kernel4Ideal Cert.Kernel4Ideal.Gen Cert.Merge Idealize.ShloMosaic Idealize.ShloMosaic.TcCoe Idealize.SL.Sem
open Cert.Kernel2Ideal.Sub (ld_at whole2 whole3)

/-- The weight's column `c`, of its two blocks. -/
def wcol (x3 : Vec Ideal S1024x5632 .bf16) (x4 : Vec Ideal S1024x128 .bf16) (k : Fin 1024) (c : Fin 5664) : EReal :=
  if h : c.val < 5632 then x3 (ix2 k ⟨c, h⟩) else x4 (ix2 k ⟨c - 5632, by omega⟩)

/-- Row `r` of the projection, of the input blocks. -/
def prow (x0 : Vec Ideal S512x1024 .f32) (x1 : Vec Ideal S1x6x1024 .f32) (x2 : Vec Ideal S1x1024 .f32) (x3 : Vec Ideal S1024x5632 .bf16) (x4 : Vec Ideal S1024x128 .bf16)
    (r : Fin 512) : Fin 5664 → EReal :=
  proj (pre (fun j => x0 (ix2 r j)) (fun j => x2 (ix2 (0 : Fin 1) j)) (fun j => x1 (ix3 (0 : Fin 1) (1 : Fin 6) j)) (fun j => x1 (ix3 (0 : Fin 1) (0 : Fin 6) j))) (wcol x3 x4)

/-- The columns from `o` on, of the rows of the input blocks. -/
def cols {n : ℕ} (o : ℕ) (ho : o + n ≤ 5664) (x0 : Vec Ideal S512x1024 .f32) (x1 : Vec Ideal S1x6x1024 .f32) (x2 : Vec Ideal S1x1024 .f32) (x3 : Vec Ideal S1024x5632 .bf16)
    (x4 : Vec Ideal S1024x128 .bf16) (y : (⟨2, ![512, n]⟩ : Shape).Idx) : EReal :=
  prow x0 x1 x2 x3 x4 (y 0) ⟨o + (y 1).val, by have : (y 1).val < n := (y 1).isLt; omega⟩

/-- Head by head, the 64 columns of each head from column `o` on, of the two blocks of 256 rows. -/
def heads (o : ℕ) (ho : o + 512 ≤ 5664) (x0 : Vec Ideal S512x1024 .f32) (x1 : Vec Ideal S1x6x1024 .f32) (x2 : Vec Ideal S1x1024 .f32) (x3 : Vec Ideal S1024x5632 .bf16)
    (x4 : Vec Ideal S1024x128 .bf16) (y : S2x1x8x256x64.Idx) : EReal :=
  prow x0 x1 x2 x3 x4 ⟨256 * (y 0).val + (y 3).val, by have : (y 0).val < 2 := (y 0).isLt; have : (y 3).val < 256 := (y 3).isLt; omega⟩
    ⟨o + (64 * (y 2).val + (y 4).val), by have : (y 2).val < 8 := (y 2).isLt; have : (y 4).val < 64 := (y 4).isLt; omega⟩

theorem norm_row (x0 : Vec Ideal S512x1024 .f32) (x1 : Vec Ideal S1x6x1024 .f32) (x2 : Vec Ideal S1x1024 .f32) (o : ℕ)
    (inb : ∀ e, (![o, 0] : Fin 2 → ℕ) e + (![256, 1024] : Fin 2 → ℕ) e ≤ (![512, 1024] : Fin 2 → ℕ) e) (i : Fin 256) (r : Fin 512) (hr : (r : ℕ) = o + i) :
    (fun j => normB (k0_pay3 x1) (View.ld x0 (Rect.unit (s := S512x1024) ![o, 0] ![256, 1024] inb)) x2 (ix2 i j))
      = pre (fun j => x0 (ix2 r j)) (fun j => x2 (ix2 (0 : Fin 1) j)) (fun j => x1 (ix3 (0 : Fin 1) (1 : Fin 6) j)) (fun j => x1 (ix3 (0 : Fin 1) (0 : Fin 6) j)) := by
  rw [norm_val]
  congr 1
  · exact funext fun j => ld_at x0 o 0 inb i j r j hr (Nat.zero_add _).symm
  · exact funext fun j => Cert.Kernel2Ideal.Sub.mods_at x1 1 j
  · exact funext fun j => Cert.Kernel2Ideal.Sub.mods_at x1 0 j

theorem dot_row (x0 : Vec Ideal S512x1024 .f32) (x1 : Vec Ideal S1x6x1024 .f32) (x2 : Vec Ideal S1x1024 .f32) (x3 : Vec Ideal S1024x5632 .bf16) (x4 : Vec Ideal S1024x128 .bf16) (o : ℕ)
    (inb : ∀ e, (![o, 0] : Fin 2 → ℕ) e + (![256, 1024] : Fin 2 → ℕ) e ≤ (![512, 1024] : Fin 2 → ℕ) e) (i : Fin 256) (j : Fin 1536) (r : Fin 512) (c : Fin 5664)
    (hr : (r : ℕ) = o + i) (hc : (c : ℕ) = j) :
    k0_pay12 (normB (k0_pay3 x1) (View.ld x0 (Rect.unit (s := S512x1024) ![o, 0] ![256, 1024] inb)) x2)
        (View.ld x3 (Rect.unit ![0, 0] ![1024, 1536] inb_S1024x5632_S1024x1536_0_0)) (ix2 i j) = prow x0 x1 x2 x3 x4 r c := by
  rw [dot_val, norm_row x0 x1 x2 o inb i r hr]
  unfold prow proj
  refine Finset.sum_congr rfl fun k _ => congrArg _ ?_
  unfold wcol
  rw [dif_pos (by omega)]
  exact ld_at x3 0 0 inb_S1024x5632_S1024x1536_0_0 k j k _ (Nat.zero_add _).symm (by show (c : ℕ) = 0 + j; omega)

theorem tail_row (x0 : Vec Ideal S512x1024 .f32) (x1 : Vec Ideal S1x6x1024 .f32) (x2 : Vec Ideal S1x1024 .f32) (x3 : Vec Ideal S1024x5632 .bf16) (x4 : Vec Ideal S1024x128 .bf16) (o : ℕ)
    (inb : ∀ e, (![o, 0] : Fin 2 → ℕ) e + (![256, 1024] : Fin 2 → ℕ) e ≤ (![512, 1024] : Fin 2 → ℕ) e) (i : Fin 256) (j : Fin 2688) (hj : j.val < 2592) (r : Fin 512) (c : Fin 5664)
    (hr : (r : ℕ) = o + i) (hc : (c : ℕ) = 3072 + j) :
    k0_pay30 (normB (k0_pay3 x1) (View.ld x0 (Rect.unit (s := S512x1024) ![o, 0] ![256, 1024] inb)) x2)
        (View.ld x3 (Rect.unit ![0, 3072] ![1024, 1280] inb_S1024x5632_S1024x1280_0_3072)) (View.ld x3 (Rect.unit ![0, 4352] ![1024, 1280] inb_S1024x5632_S1024x1280_0_4352))
        x4 (ix2 i j) = prow x0 x1 x2 x3 x4 r c := by
  rcases Nat.lt_or_ge j.val 1280 with h | h
  · rw [show j = ⟨(⟨j.val, h⟩ : Fin 1280).val, by omega⟩ from rfl, tail_a, norm_row x0 x1 x2 o inb i r hr]
    unfold prow proj
    refine Finset.sum_congr rfl fun k _ => congrArg _ ?_
    unfold wcol
    rw [dif_pos (by omega)]
    exact ld_at x3 0 3072 inb_S1024x5632_S1024x1280_0_3072 k _ k _ (Nat.zero_add _).symm hc
  · rcases Nat.lt_or_ge j.val 2560 with h' | h'
    · rw [show j = ⟨1280 + (⟨j.val - 1280, by omega⟩ : Fin 1280).val, by show 1280 + (j.val - 1280) < 2688; omega⟩ from Fin.ext (by show j.val = 1280 + (j.val - 1280); omega), tail_b,
        norm_row x0 x1 x2 o inb i r hr]
      unfold prow proj
      refine Finset.sum_congr rfl fun k _ => congrArg _ ?_
      unfold wcol
      rw [dif_pos (by omega)]
      exact ld_at x3 0 4352 inb_S1024x5632_S1024x1280_0_4352 k _ k _ (Nat.zero_add _).symm (by show (c : ℕ) = 4352 + (j.val - 1280); omega)
    · rw [show j = ⟨2560 + (⟨j.val - 2560, by omega⟩ : Fin 128).val, by show 2560 + (j.val - 2560) < 2688; omega⟩ from Fin.ext (by show j.val = 2560 + (j.val - 2560); omega), tail_c,
        norm_row x0 x1 x2 o inb i r hr]
      unfold prow proj
      refine Finset.sum_congr rfl fun k _ => congrArg _ ?_
      unfold wcol
      rw [dif_neg (by omega)]
      exact congrArg x4 (congrArg (ix2 k) (Fin.ext (by show j.val - 2560 = c.val - 5632; omega)))

theorem dot_piece (x0 : Vec Ideal S512x1024 .f32) (x1 : Vec Ideal S1x6x1024 .f32) (x2 : Vec Ideal S1x1024 .f32) (x3 : Vec Ideal S1024x5632 .bf16) (x4 : Vec Ideal S1024x128 .bf16) (o : ℕ)
    (inb : ∀ e, (![o, 0] : Fin 2 → ℕ) e + (![256, 1024] : Fin 2 → ℕ) e ≤ (![512, 1024] : Fin 2 → ℕ) e)
    (inb' : ∀ e, (![o, 0] : Fin 2 → ℕ) e + (![256, 1536] : Fin 2 → ℕ) e ≤ (![512, 1536] : Fin 2 → ℕ) e) (y : S256x1536.Idx) :
    k0_pay12 (normB (k0_pay3 x1) (View.ld x0 (Rect.unit (s := S512x1024) ![o, 0] ![256, 1024] inb)) x2) (View.ld x3 (Rect.unit ![0, 0] ![1024, 1536] inb_S1024x5632_S1024x1536_0_0)) y
      = cols 0 (by omega) x0 x1 x2 x3 x4 ((Rect.unit (s := S512x1536) ![o, 0] ![256, 1536] inb').emb y) :=
  (congrArg _ (eq_ix2 (n0 := 256) (n1 := 1536) y)).trans (dot_row x0 x1 x2 x3 x4 o inb _ _ _ _ (by show o + 1 * (y 0).val = o + (y 0).val; omega)
    (by show 0 + (0 + 1 * (y 1).val) = (y 1).val; omega))

theorem gates_piece (x0 : Vec Ideal S512x1024 .f32) (x1 : Vec Ideal S1x6x1024 .f32) (x2 : Vec Ideal S1x1024 .f32) (x3 : Vec Ideal S1024x5632 .bf16) (x4 : Vec Ideal S1024x128 .bf16) (o : ℕ)
    (inb : ∀ e, (![o, 0] : Fin 2 → ℕ) e + (![256, 1024] : Fin 2 → ℕ) e ≤ (![512, 1024] : Fin 2 → ℕ) e)
    (inb' : ∀ e, (![o, 0] : Fin 2 → ℕ) e + (![256, 2560] : Fin 2 → ℕ) e ≤ (![512, 2560] : Fin 2 → ℕ) e) (y : S256x2560.Idx) :
    k0_pay32 (k0_pay30 (normB (k0_pay3 x1) (View.ld x0 (Rect.unit (s := S512x1024) ![o, 0] ![256, 1024] inb)) x2) (View.ld x3 (Rect.unit ![0, 3072] ![1024, 1280] inb_S1024x5632_S1024x1280_0_3072)) (View.ld x3 (Rect.unit ![0, 4352] ![1024, 1280] inb_S1024x5632_S1024x1280_0_4352)) x4) y
      = cols 3104 (by omega) x0 x1 x2 x3 x4 ((Rect.unit (s := S512x2560) ![o, 0] ![256, 2560] inb').emb y) :=
  (congrArg _ (eq_ix2 (n0 := 256) (n1 := 2560) y)).trans ((gates_at _ _ _).trans (tail_row x0 x1 x2 x3 x4 o inb _ _
    (by have : (y 1).val < 2560 := (y 1).isLt; show 32 + (y 1).val < 2592; omega) _ _ (by show o + 1 * (y 0).val = o + (y 0).val; omega)
    (by show 3104 + (0 + 1 * (y 1).val) = 3072 + (32 + (y 1).val); omega)))

theorem beta_piece (x0 : Vec Ideal S512x1024 .f32) (x1 : Vec Ideal S1x6x1024 .f32) (x2 : Vec Ideal S1x1024 .f32) (x3 : Vec Ideal S1024x5632 .bf16) (x4 : Vec Ideal S1024x128 .bf16) (o : ℕ)
    (inb : ∀ e, (![o, 0] : Fin 2 → ℕ) e + (![256, 1024] : Fin 2 → ℕ) e ≤ (![512, 1024] : Fin 2 → ℕ) e)
    (inb' : ∀ e, (![o, 0] : Fin 2 → ℕ) e + (![256, 128] : Fin 2 → ℕ) e ≤ (![512, 128] : Fin 2 → ℕ) e) (y : S256x128.Idx) :
    k0_pay31 (normB (k0_pay3 x1) (View.ld x0 (Rect.unit (s := S512x1024) ![o, 0] ![256, 1024] inb)) x2) (View.ld x3 (Rect.unit ![0, 3072] ![1024, 1280] inb_S1024x5632_S1024x1280_0_3072)) (View.ld x3 (Rect.unit ![0, 4352] ![1024, 1280] inb_S1024x5632_S1024x1280_0_4352)) x4 y
      = cols 3072 (by omega) x0 x1 x2 x3 x4 ((Rect.unit (s := S512x128) ![o, 0] ![256, 128] inb').emb y) := by
  refine Eq.trans ?_ (tail_row x0 x1 x2 x3 x4 o inb (y 0) ⟨(y 1).val, by have : (y 1).val < 128 := (y 1).isLt; omega⟩
    (by have : (y 1).val < 128 := (y 1).isLt; show (y 1).val < 2592; omega) _ _ (by show o + 1 * (y 0).val = o + (y 0).val; omega)
    (by show 3072 + (0 + 1 * (y 1).val) = 3072 + (y 1).val; omega))
  unfold k0_pay31
  pointwise
  blk_ext

theorem head_piece (x0 : Vec Ideal S512x1024 .f32) (x1 : Vec Ideal S1x6x1024 .f32) (x2 : Vec Ideal S1x1024 .f32) (x3 : Vec Ideal S1024x5632 .bf16) (x4 : Vec Ideal S1024x128 .bf16) (o : ℕ)
    (inb : ∀ e, (![o, 0] : Fin 2 → ℕ) e + (![256, 1024] : Fin 2 → ℕ) e ≤ (![512, 1024] : Fin 2 → ℕ) e) (b h p : ℕ)
    (hs : S256x1536.Slices ![0, p] S256x64) (inb' : ∀ e, (![b, 0, h, 0, 0] : Fin 5 → ℕ) e + (![1, 1, 1, 256, 64] : Fin 5 → ℕ) e ≤ (![2, 1, 8, 256, 64] : Fin 5 → ℕ) e)
    (q : ℕ) (hq : q + 512 ≤ 5664) (hb : o = 256 * b) (hp : p = q + 64 * h) (hl : p + 64 ≤ 1536) (y : S1x1x1x256x64.Idx) :
    shapeCast S1x1x1x256x64 (extractStridedSlice S256x64 ![0, p] (k0_pay12 (normB (k0_pay3 x1) (View.ld x0 (Rect.unit (s := S512x1024) ![o, 0] ![256, 1024] inb)) x2) (View.ld x3 (Rect.unit ![0, 0] ![1024, 1536] inb_S1024x5632_S1024x1536_0_0))) hs) shapeCasts_S256x64_S1x1x1x256x64 y
      = heads q hq x0 x1 x2 x3 x4 ((Rect.unit (s := S2x1x8x256x64) ![b, 0, h, 0, 0] ![1, 1, 1, 256, 64] inb').emb y) := by
  have h0 : (y 0).val = 0 := Nat.lt_one_iff.mp (y 0).isLt
  have h2 : (y 2).val = 0 := Nat.lt_one_iff.mp (y 2).isLt
  exact (head_at _ p hs y hl).trans (dot_row x0 x1 x2 x3 x4 o inb _ _ _ _
    (by show 256 * (b + 1 * (y 0).val) + (0 + 1 * (y 3).val) = o + (y 3).val; omega)
    (by show q + (64 * (h + 1 * (y 2).val) + (0 + 1 * (y 4).val)) = p + (y 4).val; omega))

section
variable (c : Dev nD) (i : grid0.Coords) (arg1 : Memref sig .tc .vmem S512x1024 .f32) (harg1 : arg1.IsWhole) (arg2 : Memref sig .tc .vmem S1x6x1024 .f32) (harg2 : arg2.IsWhole)
  (arg3 : Memref sig .tc .vmem S1x1024 .f32) (harg3 : arg3.IsWhole) (arg4 : Memref sig .tc .vmem S1024x5632 .bf16) (harg4 : arg4.IsWhole)
  (arg5 : Memref sig .tc .vmem S1024x128 .bf16) (harg5 : arg5.IsWhole) (arg6 : Memref sig .tc .vmem S8x1536 .f32) (harg6 : arg6.IsWhole)
  (arg7 : Memref sig .tc .vmem S512x1536 .bf16) (harg7 : arg7.IsWhole) (arg8 : Memref sig .tc .vmem S512x1536 .bf16) (harg8 : arg8.IsWhole)
  (arg9 : Memref sig .tc .vmem S512x2560 .bf16) (harg9 : arg9.IsWhole) (arg10 : Memref sig .tc .vmem S512x128 .f32) (harg10 : arg10.IsWhole)
  (arg11 : Memref sig .tc .vmem S2x1x8x256x64 .f32) (harg11 : arg11.IsWhole) (arg12 : Memref sig .tc .vmem S2x1x8x256x64 .f32) (harg12 : arg12.IsWhole)
  (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32)

theorem out_qkv : out0_A_6 c i arg1 harg1 arg2 harg2 arg3 harg3 arg4 harg4 arg5 harg5 arg6 harg6 arg7 harg7 arg8 harg8 arg9 harg9 arg10 harg10 arg11 harg11 arg12 harg12 x0 x1 x2 x3 x4 x5 = cols 0 (by omega) x0 x1 x2 x3 x4 := by
  funext y
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 x0 x1 x2 x3 x4 x5)]
  refine View.canon_apply_of_pieces (cols 0 (by omega) x0 x1 x2 x3 x4) _ ?_ y (cover0_A_6 c i arg1 harg1 arg2 harg2 arg3 harg3 arg4 harg4 arg5 harg5 arg6 harg6 arg7 harg7 arg8 harg8 arg9 harg9 arg10 harg10 arg11 harg11 arg12 harg12 x0 x1 x2 x3 x4 x5 y)
  unfold kernelRun0_A
  dsimp only
  sl_unfold_words
  simp only [View.readAt_eq_ld, harg1.read_unread, harg2.read_unread, harg3.read_unread, harg4.read_unread, harg5.read_unread, whole2, whole3, p8, p51]
  rintro p hp j
  simp only [List.mem_cons, List.mem_nil_iff, or_false] at hp
  rcases hp with rfl | rfl
  · exact dot_piece x0 x1 x2 x3 x4 256 inb_S512x1024_S256x1024_256_0 inb_S512x1536_S256x1536_256_0 j
  · exact dot_piece x0 x1 x2 x3 x4 0 inb_S512x1024_S256x1024_0_0 inb_S512x1536_S256x1536_0_0 j

theorem out_gz : out0_A_8 c i arg1 harg1 arg2 harg2 arg3 harg3 arg4 harg4 arg5 harg5 arg6 harg6 arg7 harg7 arg8 harg8 arg9 harg9 arg10 harg10 arg11 harg11 arg12 harg12 x0 x1 x2 x3 x4 x5 = cols 3104 (by omega) x0 x1 x2 x3 x4 := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5)]
  refine View.canon_apply_of_pieces (cols 3104 (by omega) x0 x1 x2 x3 x4) _ ?_ y (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 y)
  unfold kernelRun0_A
  dsimp only
  sl_unfold_words
  simp only [View.readAt_eq_ld, harg1.read_unread, harg2.read_unread, harg3.read_unread, harg4.read_unread, harg5.read_unread, whole2, whole3, p8, p51]
  rintro p hp j
  simp only [List.mem_cons, List.mem_nil_iff, or_false] at hp
  rcases hp with rfl | rfl
  · exact gates_piece x0 x1 x2 x3 x4 256 inb_S512x1024_S256x1024_256_0 inb_S512x2560_S256x2560_256_0 j
  · exact gates_piece x0 x1 x2 x3 x4 0 inb_S512x1024_S256x1024_0_0 inb_S512x2560_S256x2560_0_0 j

theorem out_ba : out0_A_9 c i arg1 harg1 arg2 harg2 arg3 harg3 arg4 harg4 arg5 harg5 arg6 harg6 arg7 harg7 arg8 harg8 arg9 harg9 arg10 harg10 arg11 harg11 arg12 harg12 x0 x1 x2 x3 x4 x5 = cols 3072 (by omega) x0 x1 x2 x3 x4 := by
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5)]
  refine View.canon_apply_of_pieces (cols 3072 (by omega) x0 x1 x2 x3 x4) _ ?_ y (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 y)
  unfold kernelRun0_A
  dsimp only
  sl_unfold_words
  simp only [View.readAt_eq_ld, harg1.read_unread, harg2.read_unread, harg3.read_unread, harg4.read_unread, harg5.read_unread, whole2, whole3, p8, p51]
  rintro p hp j
  simp only [List.mem_cons, List.mem_nil_iff, or_false] at hp
  rcases hp with rfl | rfl
  · exact beta_piece x0 x1 x2 x3 x4 256 inb_S512x1024_S256x1024_256_0 inb_S512x128_S256x128_256_0 j
  · exact beta_piece x0 x1 x2 x3 x4 0 inb_S512x1024_S256x1024_0_0 inb_S512x128_S256x128_0_0 j

theorem out_kc : out0_A_10 c i arg1 harg1 arg2 harg2 arg3 harg3 arg4 harg4 arg5 harg5 arg6 harg6 arg7 harg7 arg8 harg8 arg9 harg9 arg10 harg10 arg11 harg11 arg12 harg12 x0 x1 x2 x3 x4 x5 = heads 512 (by omega) x0 x1 x2 x3 x4 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5)]
  refine View.canon_apply_of_pieces (heads 512 (by omega) x0 x1 x2 x3 x4) _ ?_ y (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 y)
  unfold kernelRun0_A
  dsimp only
  sl_unfold_words
  simp only [View.readAt_eq_ld, harg1.read_unread, harg2.read_unread, harg3.read_unread, harg4.read_unread, harg5.read_unread, whole2, whole3, p8, p51]
  rintro p hp j
  simp only [List.mem_cons, List.mem_nil_iff, or_false] at hp
  rcases hp with rfl | rfl | rfl | rfl | rfl | rfl | rfl | rfl | rfl | rfl | rfl | rfl | rfl | rfl | rfl | rfl
  · exact head_piece x0 x1 x2 x3 x4 256 inb_S512x1024_S256x1024_256_0 1 7 960 slices_S256x1536_o0_960_S256x64 inb_S2x1x8x256x64_S1x1x1x256x64_1_0_7_0_0 512 (by omega) rfl rfl (by omega) j
  · exact head_piece x0 x1 x2 x3 x4 256 inb_S512x1024_S256x1024_256_0 1 6 896 slices_S256x1536_o0_896_S256x64 inb_S2x1x8x256x64_S1x1x1x256x64_1_0_6_0_0 512 (by omega) rfl rfl (by omega) j
  · exact head_piece x0 x1 x2 x3 x4 256 inb_S512x1024_S256x1024_256_0 1 5 832 slices_S256x1536_o0_832_S256x64 inb_S2x1x8x256x64_S1x1x1x256x64_1_0_5_0_0 512 (by omega) rfl rfl (by omega) j
  · exact head_piece x0 x1 x2 x3 x4 256 inb_S512x1024_S256x1024_256_0 1 4 768 slices_S256x1536_o0_768_S256x64 inb_S2x1x8x256x64_S1x1x1x256x64_1_0_4_0_0 512 (by omega) rfl rfl (by omega) j
  · exact head_piece x0 x1 x2 x3 x4 256 inb_S512x1024_S256x1024_256_0 1 3 704 slices_S256x1536_o0_704_S256x64 inb_S2x1x8x256x64_S1x1x1x256x64_1_0_3_0_0 512 (by omega) rfl rfl (by omega) j
  · exact head_piece x0 x1 x2 x3 x4 256 inb_S512x1024_S256x1024_256_0 1 2 640 slices_S256x1536_o0_640_S256x64 inb_S2x1x8x256x64_S1x1x1x256x64_1_0_2_0_0 512 (by omega) rfl rfl (by omega) j
  · exact head_piece x0 x1 x2 x3 x4 256 inb_S512x1024_S256x1024_256_0 1 1 576 slices_S256x1536_o0_576_S256x64 inb_S2x1x8x256x64_S1x1x1x256x64_1_0_1_0_0 512 (by omega) rfl rfl (by omega) j
  · exact head_piece x0 x1 x2 x3 x4 256 inb_S512x1024_S256x1024_256_0 1 0 512 slices_S256x1536_o0_512_S256x64 inb_S2x1x8x256x64_S1x1x1x256x64_1_0_0_0_0 512 (by omega) rfl rfl (by omega) j
  · exact head_piece x0 x1 x2 x3 x4 0 inb_S512x1024_S256x1024_0_0 0 7 960 slices_S256x1536_o0_960_S256x64 inb_S2x1x8x256x64_S1x1x1x256x64_0_0_7_0_0 512 (by omega) rfl rfl (by omega) j
  · exact head_piece x0 x1 x2 x3 x4 0 inb_S512x1024_S256x1024_0_0 0 6 896 slices_S256x1536_o0_896_S256x64 inb_S2x1x8x256x64_S1x1x1x256x64_0_0_6_0_0 512 (by omega) rfl rfl (by omega) j
  · exact head_piece x0 x1 x2 x3 x4 0 inb_S512x1024_S256x1024_0_0 0 5 832 slices_S256x1536_o0_832_S256x64 inb_S2x1x8x256x64_S1x1x1x256x64_0_0_5_0_0 512 (by omega) rfl rfl (by omega) j
  · exact head_piece x0 x1 x2 x3 x4 0 inb_S512x1024_S256x1024_0_0 0 4 768 slices_S256x1536_o0_768_S256x64 inb_S2x1x8x256x64_S1x1x1x256x64_0_0_4_0_0 512 (by omega) rfl rfl (by omega) j
  · exact head_piece x0 x1 x2 x3 x4 0 inb_S512x1024_S256x1024_0_0 0 3 704 slices_S256x1536_o0_704_S256x64 inb_S2x1x8x256x64_S1x1x1x256x64_0_0_3_0_0 512 (by omega) rfl rfl (by omega) j
  · exact head_piece x0 x1 x2 x3 x4 0 inb_S512x1024_S256x1024_0_0 0 2 640 slices_S256x1536_o0_640_S256x64 inb_S2x1x8x256x64_S1x1x1x256x64_0_0_2_0_0 512 (by omega) rfl rfl (by omega) j
  · exact head_piece x0 x1 x2 x3 x4 0 inb_S512x1024_S256x1024_0_0 0 1 576 slices_S256x1536_o0_576_S256x64 inb_S2x1x8x256x64_S1x1x1x256x64_0_0_1_0_0 512 (by omega) rfl rfl (by omega) j
  · exact head_piece x0 x1 x2 x3 x4 0 inb_S512x1024_S256x1024_0_0 0 0 512 slices_S256x1536_o0_512_S256x64 inb_S2x1x8x256x64_S1x1x1x256x64_0_0_0_0_0 512 (by omega) rfl rfl (by omega) j

theorem out_vc : out0_A_11 c i arg1 harg1 arg2 harg2 arg3 harg3 arg4 harg4 arg5 harg5 arg6 harg6 arg7 harg7 arg8 harg8 arg9 harg9 arg10 harg10 arg11 harg11 arg12 harg12 x0 x1 x2 x3 x4 x5 = heads 1024 (by omega) x0 x1 x2 x3 x4 := by
  funext y
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5)]
  refine View.canon_apply_of_pieces (heads 1024 (by omega) x0 x1 x2 x3 x4) _ ?_ y (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 y)
  unfold kernelRun0_A
  dsimp only
  sl_unfold_words
  simp only [View.readAt_eq_ld, harg1.read_unread, harg2.read_unread, harg3.read_unread, harg4.read_unread, harg5.read_unread, whole2, whole3, p8, p51]
  rintro p hp j
  simp only [List.mem_cons, List.mem_nil_iff, or_false] at hp
  rcases hp with rfl | rfl | rfl | rfl | rfl | rfl | rfl | rfl | rfl | rfl | rfl | rfl | rfl | rfl | rfl | rfl
  · exact head_piece x0 x1 x2 x3 x4 256 inb_S512x1024_S256x1024_256_0 1 7 1472 slices_S256x1536_o0_1472_S256x64 inb_S2x1x8x256x64_S1x1x1x256x64_1_0_7_0_0 1024 (by omega) rfl rfl (by omega) j
  · exact head_piece x0 x1 x2 x3 x4 256 inb_S512x1024_S256x1024_256_0 1 6 1408 slices_S256x1536_o0_1408_S256x64 inb_S2x1x8x256x64_S1x1x1x256x64_1_0_6_0_0 1024 (by omega) rfl rfl (by omega) j
  · exact head_piece x0 x1 x2 x3 x4 256 inb_S512x1024_S256x1024_256_0 1 5 1344 slices_S256x1536_o0_1344_S256x64 inb_S2x1x8x256x64_S1x1x1x256x64_1_0_5_0_0 1024 (by omega) rfl rfl (by omega) j
  · exact head_piece x0 x1 x2 x3 x4 256 inb_S512x1024_S256x1024_256_0 1 4 1280 slices_S256x1536_o0_1280_S256x64 inb_S2x1x8x256x64_S1x1x1x256x64_1_0_4_0_0 1024 (by omega) rfl rfl (by omega) j
  · exact head_piece x0 x1 x2 x3 x4 256 inb_S512x1024_S256x1024_256_0 1 3 1216 slices_S256x1536_o0_1216_S256x64 inb_S2x1x8x256x64_S1x1x1x256x64_1_0_3_0_0 1024 (by omega) rfl rfl (by omega) j
  · exact head_piece x0 x1 x2 x3 x4 256 inb_S512x1024_S256x1024_256_0 1 2 1152 slices_S256x1536_o0_1152_S256x64 inb_S2x1x8x256x64_S1x1x1x256x64_1_0_2_0_0 1024 (by omega) rfl rfl (by omega) j
  · exact head_piece x0 x1 x2 x3 x4 256 inb_S512x1024_S256x1024_256_0 1 1 1088 slices_S256x1536_o0_1088_S256x64 inb_S2x1x8x256x64_S1x1x1x256x64_1_0_1_0_0 1024 (by omega) rfl rfl (by omega) j
  · exact head_piece x0 x1 x2 x3 x4 256 inb_S512x1024_S256x1024_256_0 1 0 1024 slices_S256x1536_o0_1024_S256x64 inb_S2x1x8x256x64_S1x1x1x256x64_1_0_0_0_0 1024 (by omega) rfl rfl (by omega) j
  · exact head_piece x0 x1 x2 x3 x4 0 inb_S512x1024_S256x1024_0_0 0 7 1472 slices_S256x1536_o0_1472_S256x64 inb_S2x1x8x256x64_S1x1x1x256x64_0_0_7_0_0 1024 (by omega) rfl rfl (by omega) j
  · exact head_piece x0 x1 x2 x3 x4 0 inb_S512x1024_S256x1024_0_0 0 6 1408 slices_S256x1536_o0_1408_S256x64 inb_S2x1x8x256x64_S1x1x1x256x64_0_0_6_0_0 1024 (by omega) rfl rfl (by omega) j
  · exact head_piece x0 x1 x2 x3 x4 0 inb_S512x1024_S256x1024_0_0 0 5 1344 slices_S256x1536_o0_1344_S256x64 inb_S2x1x8x256x64_S1x1x1x256x64_0_0_5_0_0 1024 (by omega) rfl rfl (by omega) j
  · exact head_piece x0 x1 x2 x3 x4 0 inb_S512x1024_S256x1024_0_0 0 4 1280 slices_S256x1536_o0_1280_S256x64 inb_S2x1x8x256x64_S1x1x1x256x64_0_0_4_0_0 1024 (by omega) rfl rfl (by omega) j
  · exact head_piece x0 x1 x2 x3 x4 0 inb_S512x1024_S256x1024_0_0 0 3 1216 slices_S256x1536_o0_1216_S256x64 inb_S2x1x8x256x64_S1x1x1x256x64_0_0_3_0_0 1024 (by omega) rfl rfl (by omega) j
  · exact head_piece x0 x1 x2 x3 x4 0 inb_S512x1024_S256x1024_0_0 0 2 1152 slices_S256x1536_o0_1152_S256x64 inb_S2x1x8x256x64_S1x1x1x256x64_0_0_2_0_0 1024 (by omega) rfl rfl (by omega) j
  · exact head_piece x0 x1 x2 x3 x4 0 inb_S512x1024_S256x1024_0_0 0 1 1088 slices_S256x1536_o0_1088_S256x64 inb_S2x1x8x256x64_S1x1x1x256x64_0_0_1_0_0 1024 (by omega) rfl rfl (by omega) j
  · exact head_piece x0 x1 x2 x3 x4 0 inb_S512x1024_S256x1024_0_0 0 0 1024 slices_S256x1536_o0_1024_S256x64 inb_S2x1x8x256x64_S1x1x1x256x64_0_0_0_0_0 1024 (by omega) rfl rfl (by omega) j

end

end Cert.Kernel4Ideal.In

end
-- ==== Proof.InRef.lean ====
module

public import proofs.«01_k».proof.Proof.Gen.Reference4Ideal.Run
public import proofs.«01_k».proof.Proof.MergeRef

@[expose] public section

set_option maxRecDepth 16384

noncomputable section

namespace Cert.Reference4Ideal.In

open Cert.Reference4Ideal Cert.Reference4Ideal.Gen Cert.Merge Idealize.ShloMosaic Idealize.ShloMosaic.TcCoe Idealize.SL.Sem
open Cert.Reference2Ideal.Merge (modsR mods_val vecR rmsR modR mod_val)

/-! The reference's five results, each as one function of the projected tokens, and their entries. -/

theorem vec0 (m : FVec Ideal S8x6x1024 .f32) :
    shapeCast S1x1024 (extractStridedSlice S1x1x1024 ![0, 0, 0] (modsR m) slices_S1x6x1024_S1x1x1024_0_0_0) shapeCasts_S1x1x1024_S1x1024 = vecR 0 m := by
  funext y
  unfold vecR
  refine Eq.trans ?_ (mods_val m 0 (y 1))
  pointwise
  blk_ext

theorem vec1 (m : FVec Ideal S8x6x1024 .f32) :
    shapeCast S1x1024 (extractStridedSlice S1x1x1024 ![0, 1, 0] (modsR m) slices_S1x6x1024_S1x1x1024_0_1_0) shapeCasts_S1x1x1024_S1x1024 = vecR 1 m := by
  funext y
  unfold vecR
  refine Eq.trans ?_ (mods_val m 1 (y 1))
  pointwise
  blk_ext

/-- The tokens projected. -/
def PROJ (x : FVec Ideal S32x256x1024 .f32) (m : FVec Ideal S8x6x1024 .f32) (w : FVec Ideal S1024 .f32) (wi : FVec Ideal S1024x5664 .f32) : FVec Ideal S32x256x5664 .f32 :=
  Host.dotGeneral dot_S32x256x1024_S1024x5664_S32x256x5664_2_0_01_1_n_n none (modR (rmsR x w)
    (shapeCast S1x1024 (extractStridedSlice S1x1x1024 ![0, 1, 0] (modsR m) slices_S1x6x1024_S1x1x1024_0_1_0) shapeCasts_S1x1x1024_S1x1024)
    (shapeCast S1x1024 (extractStridedSlice S1x1x1024 ![0, 0, 0] (modsR m) slices_S1x6x1024_S1x1x1024_0_0_0) shapeCasts_S1x1x1024_S1x1024)) wi

theorem dot_val (h : FVec Ideal S32x256x1024 .f32) (w : FVec Ideal S1024x5664 .f32) (b : Fin 32) (t : Fin 256) (j : Fin 5664) :
    (Host.dotGeneral dot_S32x256x1024_S1024x5664_S32x256x5664_2_0_01_1_n_n none h w : FVec Ideal S32x256x5664 .f32) (ix3 b t j) = proj (fun k => h (ix3 b t k)) (fun k j => w (ix2 k j)) j := by
  unfold proj
  pointwise

theorem proj_val (x : FVec Ideal S32x256x1024 .f32) (m : FVec Ideal S8x6x1024 .f32) (w : FVec Ideal S1024 .f32) (wi : FVec Ideal S1024x5664 .f32) (b : Fin 32) (t : Fin 256) (j : Fin 5664) :
    PROJ x m w wi (ix3 b t j) = proj (pre (fun j => x (ix3 b t j)) (fun j => w (ix1 j)) (fun j => m (ix3 (4 : Fin 8) (1 : Fin 6) j)) (fun j => m (ix3 (4 : Fin 8) (0 : Fin 6) j)))
      (fun k j => wi (ix2 k j)) j := by
  unfold PROJ
  rw [vec0, vec1, dot_val, mod_val]
  rfl

def QKV (p : FVec Ideal S32x256x5664 .f32) : FVec Ideal S8192x1536 .bf16 :=
  truncf .bf16 (shapeCast S8192x1536 (concatenate S32x256x1536 2 [⟨S32x256x512, extractStridedSlice S32x256x512 ![0, 0, 0] p slices_S32x256x5664_S32x256x512_0_0_0⟩,
    ⟨S32x256x512, extractStridedSlice S32x256x512 ![0, 0, 512] p slices_S32x256x5664_S32x256x512_0_0_512⟩,
    ⟨S32x256x512, extractStridedSlice S32x256x512 ![0, 0, 1024] p slices_S32x256x5664_S32x256x512_0_0_1024⟩] concatenates_S32x256x512_S32x256x512_S32x256x512_S32x256x1536_d2) shapeCasts_S32x256x1536_S8192x1536) bitsLt_bf16_f32

def GATES (p : FVec Ideal S32x256x5664 .f32) : FVec Ideal S8192x2560 .bf16 :=
  truncf .bf16 (shapeCast S8192x2560 (concatenate S32x256x2560 2 [⟨S32x256x512, extractStridedSlice S32x256x512 ![0, 0, 3104] p slices_S32x256x5664_S32x256x512_0_0_3104⟩,
    ⟨S32x256x1024, extractStridedSlice S32x256x1024 ![0, 0, 3616] p slices_S32x256x5664_S32x256x1024_0_0_3616⟩,
    ⟨S32x256x1024, extractStridedSlice S32x256x1024 ![0, 0, 4640] p slices_S32x256x5664_S32x256x1024_0_0_4640⟩] concatenates_S32x256x512_S32x256x1024_S32x256x1024_S32x256x2560_d2) shapeCasts_S32x256x2560_S8192x2560) bitsLt_bf16_f32

def BETA (p : FVec Ideal S32x256x5664 .f32) : FVec Ideal S8192x128 .f32 :=
  shapeCast S8192x128 (concatenate S32x256x128 2 [⟨S32x256x16, extractStridedSlice S32x256x16 ![0, 0, 3072] p slices_S32x256x5664_S32x256x16_0_0_3072⟩,
    ⟨S32x256x16, extractStridedSlice S32x256x16 ![0, 0, 3088] p slices_S32x256x5664_S32x256x16_0_0_3088⟩,
    ⟨S32x256x96, extractStridedSlice S32x256x96 ![0, 0, 0] (extractStridedSlice S32x256x512 ![0, 0, 3104] p slices_S32x256x5664_S32x256x512_0_0_3104) slices_S32x256x512_S32x256x96_0_0_0⟩]
    concatenates_S32x256x16_S32x256x16_S32x256x96_S32x256x128_d2) shapeCasts_S32x256x128_S8192x128

def HEADS (o : ℕ) (hs : S32x256x5664.Slices ![0, 0, o] S32x256x512) (p : FVec Ideal S32x256x5664 .f32) : FVec Ideal S32x1x8x256x64 .f32 :=
  broadcastInDim S32x1x8x256x64 ![0, 2, 3, 4] bcast_S32x8x256x64_S32x1x8x256x64_0_2_3_4 (transpose S32x8x256x64 [0, 2, 1, 3]
    (shapeCast S32x256x8x64 (extractStridedSlice S32x256x512 ![0, 0, o] p hs) shapeCasts_S32x256x512_S32x256x8x64) transposes_S32x256x8x64_S32x8x256x64_0_2_1_3)

theorem qkv_val (p : FVec Ideal S32x256x5664 .f32) (n : Fin 8192) (j : Fin 1536) :
    QKV p (ix2 n j) = p (ix3 ⟨n / 256, by omega⟩ ⟨n % 256, by omega⟩ ⟨0 + j, by omega⟩) := by
  unfold QKV
  pointwise
  blk_point

theorem gates_val (p : FVec Ideal S32x256x5664 .f32) (n : Fin 8192) (j : Fin 2560) :
    GATES p (ix2 n j) = p (ix3 ⟨n / 256, by omega⟩ ⟨n % 256, by omega⟩ ⟨3104 + j, by omega⟩) := by
  unfold GATES
  pointwise
  blk_point

theorem beta_val (p : FVec Ideal S32x256x5664 .f32) (n : Fin 8192) (j : Fin 128) :
    BETA p (ix2 n j) = p (ix3 ⟨n / 256, by omega⟩ ⟨n % 256, by omega⟩ ⟨3072 + j, by omega⟩) := by
  unfold BETA
  pointwise
  blk_point

theorem heads_val (o : ℕ) (ho : o + 512 ≤ 5664) (hs : S32x256x5664.Slices ![0, 0, o] S32x256x512) (p : FVec Ideal S32x256x5664 .f32) (y : S32x1x8x256x64.Idx) :
    HEADS o hs p y = p (ix3 (n0 := 32) (n1 := 256) (n2 := 5664) (y 0) (y 3) ⟨o + (64 * (y 2).val + (y 4).val), by have : (y 2).val < 8 := (y 2).isLt; have : (y 4).val < 64 := (y 4).isLt; omega⟩) := by
  unfold HEADS
  pointwise
  blk_ext

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = QKV (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v52) = GATES (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v44) = BETA (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v47) = HEADS 512 slices_S32x256x5664_S32x256x512_0_0_512 (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v50) = HEADS 1024 slices_S32x256x5664_S32x256x512_0_0_1024 (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2.1.trans rfl, (h c).2.2.1.trans rfl, (h c).2.2.2.1.trans rfl, (h c).2.2.2.2.1.trans rfl, (h c).2.2.2.2.2⟩) (Value.run m ρ)

end Cert.Reference4Ideal.In

end
-- ==== Proof.InVal.lean ====
module

public import proofs.«01_k».proof.Proof.InOut
public import proofs.«01_k».proof.Proof.InRef
public import proofs.«01_k».proof.Proof.MergeVal

@[expose] public section

set_option maxRecDepth 16384

noncomputable section

namespace Cert.Kernel4Ideal.In

open Cert.Kernel4Ideal Cert.Kernel4Ideal.Gen Cert.Merge Idealize.ShloMosaic Idealize.ShloMosaic.TcCoe Idealize.SL.Sem
open Idealize.ShloMosaic.Pipeline (Dat)
open Cert.Kernel2Ideal.Sub (rows rows_val vrow vrow_val)
open Cert.Reference4Ideal.In (PROJ proj_val QKV GATES BETA HEADS qkv_val gates_val beta_val heads_val)

/-- The weight's last columns, filled up with the value `v`. -/
def wlast (w : FVec Ideal S1024x5664 .f32) (v : FVec Ideal S_ .bf16) : FVec Ideal S1024x128 .bf16 :=
  pad S1024x128 ![0, 0] ![0, 96] ![0, 0] (extractStridedSlice S1024x32 ![0, 5632] (truncf .bf16 w bitsLt_bf16_f32) slices_S1024x5664_S1024x32_0_5632) v
    pads_S1024x32_S1024x128_000_0960 h_S_

variable (m : (ℓ : Loc nD τ sig) → Buf (Elt Ideal) ℓ)

theorem staged_x (c : Dev nD) : V m c main_v1 = rows (m ((c.tc : Thread nD τ).loc main_arg0)) := rfl
theorem staged_n (c : Dev nD) : V m c main_v2 = vrow (m ((c.tc : Thread nD τ).loc main_arg2)) := rfl
theorem staged_l (c : Dev nD) : ∃ v, V m c main_v5 = wlast (m ((c.tc : Thread nD τ).loc main_arg3)) v := ⟨_, rfl⟩

theorem idx : ∀ t : Fin cfg0.N, win0_0.index t = ![t.val, 0] ∧ win0_1.index t = ![4, 0, 0] ∧ win0_2.index t = ![0, 0] ∧ win0_3.index t = ![0, 0] ∧ win0_4.index t = ![0, 0] :=
  (by decide +kernel : ∀ t : Fin grid0.N, _)

theorem ido : ∀ t : Fin cfg0.N, win0_6.index t = ![t.val, 0] ∧ win0_8.index t = ![t.val, 0] ∧ win0_9.index t = ![t.val, 0] ∧ win0_10.index t = ![t.val, 0, 0, 0, 0]
    ∧ win0_11.index t = ![t.val, 0, 0, 0, 0] :=
  (by decide +kernel : ∀ t : Fin grid0.N, _)

theorem x_at (c : Dev nD) (t : Fin cfg0.N) (r : Fin 512) (j : Fin 1024) (n : Fin 8192) (hn : n.val = 512 * t + r) :
    iblk m c 0 t (ix2 r j) = m ((c.tc : Thread nD τ).loc main_arg0) (ix3 ⟨n / 256, by omega⟩ ⟨n % 256, by omega⟩ j) := by
  refine Eq.trans ?_ (rows_val (m ((c.tc : Thread nD τ).loc main_arg0)) n j)
  rw [← staged_x m c]
  blk_ext [iblk, idx t]

theorem m_at (c : Dev nD) (t : Fin cfg0.N) (k : Fin 6) (j : Fin 1024) :
    iblk m c 1 t (ix3 (0 : Fin 1) k j) = m ((c.tc : Thread nD τ).loc main_arg1) (ix3 (4 : Fin 8) k j) := by
  rw [← V_main_arg1 m c]
  blk_ext [iblk, idx t]

theorem n_at (c : Dev nD) (t : Fin cfg0.N) (j : Fin 1024) : iblk m c 2 t (ix2 (0 : Fin 1) j) = m ((c.tc : Thread nD τ).loc main_arg2) (ix1 j) := by
  refine Eq.trans ?_ (vrow_val (m ((c.tc : Thread nD τ).loc main_arg2)) j)
  rw [← staged_n m c]
  blk_ext [iblk, idx t]

theorem w_at (c : Dev nD) (t : Fin cfg0.N) (k : Fin 1024) (j : Fin 5632) : X0_3 m c t (ix2 k j) = m ((c.tc : Thread nD τ).loc main_arg3) (ix2 k ⟨j, by omega⟩) := by
  unfold X0_3 Pipeline.Window.fill
  rw [dif_pos (moved0_3 t _)]
  show _ = V m c main_v3 (ix2 k ⟨j, by omega⟩)
  blk_ext [iblk, idx t]

theorem wlast_val (w : FVec Ideal S1024x5664 .f32) (v : FVec Ideal S_ .bf16) (k : Fin 1024) (j : Fin 32) : wlast w v (ix2 k ⟨j, by omega⟩) = w (ix2 k ⟨5632 + j, by omega⟩) := by
  unfold wlast
  pointwise

theorem l_at (c : Dev nD) (t : Fin cfg0.N) (k : Fin 1024) (j : Fin 32) : iblk m c 4 t (ix2 k ⟨j, by omega⟩) = m ((c.tc : Thread nD τ).loc main_arg3) (ix2 k ⟨5632 + j, by omega⟩) := by
  obtain ⟨v, hv⟩ := staged_l m c
  refine Eq.trans ?_ (wlast_val (m ((c.tc : Thread nD τ).loc main_arg3)) v k j)
  rw [← hv]
  blk_ext [iblk, idx t]

/-- The weight's two blocks are the weight. -/
theorem wcol_eq (c : Dev nD) (t : Fin cfg0.N) : wcol (X0_3 m c t) (iblk m c 4 t) = fun k j => m ((c.tc : Thread nD τ).loc main_arg3) (ix2 k j) := by
  funext k j
  unfold wcol
  rcases Nat.lt_or_ge j.val 5632 with h | h
  · rw [dif_pos h]
    exact w_at m c t k ⟨j, h⟩
  · rw [dif_neg (Nat.not_lt.mpr h)]
    refine (l_at m c t k ⟨j - 5632, by omega⟩).trans (congrArg _ (congrArg (ix2 k) (Fin.ext ?_)))
    show 5632 + (j.val - 5632) = j.val
    omega

/-- The reference's projected tokens at device `c`'s arguments. -/
def tok (c : Dev nD) : FVec Ideal Cert.Reference4Ideal.S32x256x5664 .f32 :=
  PROJ (m ((c.tc : Thread nD τ).loc main_arg0)) (m ((c.tc : Thread nD τ).loc main_arg1)) (m ((c.tc : Thread nD τ).loc main_arg2)) (m ((c.tc : Thread nD τ).loc main_arg3))

theorem row_at (c : Dev nD) (t : Fin cfg0.N) (r : Fin 512) (j : Fin 5664) (n : Fin 8192) (hn : n.val = 512 * t + r) :
    prow (iblk m c 0 t) (iblk m c 1 t) (iblk m c 2 t) (X0_3 m c t) (iblk m c 4 t) r j = tok m c (ix3 ⟨n / 256, by omega⟩ ⟨n % 256, by omega⟩ j) := by
  unfold prow tok
  rw [proj_val, wcol_eq]
  simp only [fun j => x_at m c t r j n hn, m_at, n_at]

theorem outs_qkv (c : Dev nD) (t : Fin cfg0.N) : (outsAt0 m c t).1 = cols 0 (by omega) (iblk m c 0 t) (iblk m c 1 t) (iblk m c 2 t) (X0_3 m c t) (iblk m c 4 t) := by
  unfold outsAt0
  dsimp only
  exact out_qkv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (X0_3 m c t) (iblk m c 4 t) (iblk m c 5 t)

theorem point_qkv (c : Dev nD) (t : Fin cfg0.N) (ht : t.val < 16) (r : Fin 512) (j : Fin 1536) : (outsAt0 m c t).1 (ix2 r j) = QKV (tok m c) (ix2 ⟨512 * t + r, by omega⟩ j) := by
  rw [outs_qkv, qkv_val]
  exact row_at m c t r _ _ rfl

theorem final_qkv (c : Dev nD) : (dats m 0 c).arrAt 6 cfg0.N = QKV (tok m c) := by
  refine (dats m 0 c).arrAt_eq_of_covers 6 _ (by decide +kernel) fun t _ y => ?_
  have ht : t.val < 16 := lt_of_lt_of_eq t.isLt (by decide +kernel)
  blk_simp
  rw [after0_6]
  have ey : y = ix2 (n0 := 512) (n1 := 1536) (y 0) (y 1) := by
    blk_ext
  have ez : (win0_6.blk t).view.emb y = ix2 (n0 := 8192) (n1 := 1536) ⟨512 * t + (y 0 : ℕ), by have : (y 0 : ℕ) < 512 := (y 0).isLt; clear * - this ht; omega⟩ (y 1) := by
    blk_ext [ido t]
  rw [ez]
  exact (congrArg _ ey).trans (point_qkv m c t ht (y 0) (y 1))

theorem outs_gz (c : Dev nD) (t : Fin cfg0.N) : (outsAt0 m c t).2.2.1 = cols 3104 (by omega) (iblk m c 0 t) (iblk m c 1 t) (iblk m c 2 t) (X0_3 m c t) (iblk m c 4 t) := by
  unfold outsAt0
  dsimp only
  exact out_gz c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (X0_3 m c t) (iblk m c 4 t) (iblk m c 5 t)

theorem point_gz (c : Dev nD) (t : Fin cfg0.N) (ht : t.val < 16) (r : Fin 512) (j : Fin 2560) : (outsAt0 m c t).2.2.1 (ix2 r j) = GATES (tok m c) (ix2 ⟨512 * t + r, by omega⟩ j) := by
  rw [outs_gz, gates_val]
  exact row_at m c t r _ _ rfl

theorem final_gz (c : Dev nD) : (dats m 0 c).arrAt 8 cfg0.N = GATES (tok m c) := by
  refine (dats m 0 c).arrAt_eq_of_covers 8 _ (by decide +kernel) fun t _ y => ?_
  have ht : t.val < 16 := lt_of_lt_of_eq t.isLt (by decide +kernel)
  blk_simp
  rw [after0_8]
  have ey : y = ix2 (n0 := 512) (n1 := 2560) (y 0) (y 1) := by
    blk_ext
  have ez : (win0_8.blk t).view.emb y = ix2 (n0 := 8192) (n1 := 2560) ⟨512 * t + (y 0 : ℕ), by have : (y 0 : ℕ) < 512 := (y 0).isLt; clear * - this ht; omega⟩ (y 1) := by
    blk_ext [ido t]
  rw [ez]
  exact (congrArg _ ey).trans (point_gz m c t ht (y 0) (y 1))

theorem outs_ba (c : Dev nD) (t : Fin cfg0.N) : (outsAt0 m c t).2.2.2.1 = cols 3072 (by omega) (iblk m c 0 t) (iblk m c 1 t) (iblk m c 2 t) (X0_3 m c t) (iblk m c 4 t) := by
  unfold outsAt0
  dsimp only
  exact out_ba c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (X0_3 m c t) (iblk m c 4 t) (iblk m c 5 t)

theorem point_ba (c : Dev nD) (t : Fin cfg0.N) (ht : t.val < 16) (r : Fin 512) (j : Fin 128) : (outsAt0 m c t).2.2.2.1 (ix2 r j) = BETA (tok m c) (ix2 ⟨512 * t + r, by omega⟩ j) := by
  rw [outs_ba, beta_val]
  exact row_at m c t r _ _ rfl

theorem final_ba (c : Dev nD) : (dats m 0 c).arrAt 9 cfg0.N = BETA (tok m c) := by
  refine (dats m 0 c).arrAt_eq_of_covers 9 _ (by decide +kernel) fun t _ y => ?_
  have ht : t.val < 16 := lt_of_lt_of_eq t.isLt (by decide +kernel)
  blk_simp
  rw [after0_9]
  have ey : y = ix2 (n0 := 512) (n1 := 128) (y 0) (y 1) := by
    blk_ext
  have ez : (win0_9.blk t).view.emb y = ix2 (n0 := 8192) (n1 := 128) ⟨512 * t + (y 0 : ℕ), by have : (y 0 : ℕ) < 512 := (y 0).isLt; clear * - this ht; omega⟩ (y 1) := by
    blk_ext [ido t]
  rw [ez]
  exact (congrArg _ ey).trans (point_ba m c t ht (y 0) (y 1))

theorem heads_at (c : Dev nD) (t : Fin cfg0.N) (ht : t.val < 16) (o : ℕ) (ho : o + 512 ≤ 5664) (y : S2x1x8x256x64.Idx) (z : S32x1x8x256x64.Idx)
    (hz0 : (z 0).val = 2 * t + (y 0).val) (hz2 : (z 2).val = (y 2).val) (hz3 : (z 3).val = (y 3).val) (hz4 : (z 4).val = (y 4).val) :
    heads o ho (iblk m c 0 t) (iblk m c 1 t) (iblk m c 2 t) (X0_3 m c t) (iblk m c 4 t) y
      = tok m c (ix3 (n0 := 32) (n1 := 256) (n2 := 5664) (z 0) (z 3) ⟨o + (64 * (z 2).val + (z 4).val), by have : (z 2).val < 8 := (z 2).isLt; have : (z 4).val < 64 := (z 4).isLt; omega⟩) := by
  have h0 : (y 0).val < 2 := (y 0).isLt
  have h3 : (y 3).val < 256 := (y 3).isLt
  unfold heads
  refine (row_at m c t _ _ ⟨512 * t + (256 * (y 0).val + (y 3).val), by omega⟩ rfl).trans (congrArg (tok m c) ?_)
  rw [show (⟨(512 * t.val + (256 * (y 0).val + (y 3).val)) / 256, by omega⟩ : Fin 32) = z 0 from Fin.ext (by show _ / 256 = (z 0).val; omega),
    show (⟨(512 * t.val + (256 * (y 0).val + (y 3).val)) % 256, by omega⟩ : Fin 256) = z 3 from Fin.ext (by show _ % 256 = (z 3).val; omega)]
  exact congrArg (ix3 (n0 := 32) (n1 := 256) (n2 := 5664) (z 0) (z 3)) (Fin.ext (by show o + (64 * (y 2).val + (y 4).val) = o + (64 * (z 2).val + (z 4).val); omega))

theorem outs_kc (c : Dev nD) (t : Fin cfg0.N) : (outsAt0 m c t).2.2.2.2.1 = heads 512 (by omega) (iblk m c 0 t) (iblk m c 1 t) (iblk m c 2 t) (X0_3 m c t) (iblk m c 4 t) := by
  unfold outsAt0
  dsimp only
  exact out_kc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (X0_3 m c t) (iblk m c 4 t) (iblk m c 5 t)

theorem point_kc (c : Dev nD) (t : Fin cfg0.N) (ht : t.val < 16) (a : Fin 2) (b : Fin 1) (h : Fin 8) (r : Fin 256) (d : Fin 64) :
    (outsAt0 m c t).2.2.2.2.1 (ix5 a b h r d) = HEADS 512 Cert.Reference4Ideal.Gen.slices_S32x256x5664_S32x256x512_0_0_512 (tok m c) (ix5 ⟨2 * t + a, by omega⟩ b h r d) := by
  rw [outs_kc, heads_val 512 (by omega)]
  exact heads_at m c t ht 512 (by omega) _ (ix5 (n0 := 32) (n1 := 1) (n2 := 8) (n3 := 256) (n4 := 64) ⟨2 * t + a, by omega⟩ b h r d) rfl rfl rfl rfl

theorem final_kc (c : Dev nD) : (dats m 0 c).arrAt 10 cfg0.N = HEADS 512 Cert.Reference4Ideal.Gen.slices_S32x256x5664_S32x256x512_0_0_512 (tok m c) := by
  refine (dats m 0 c).arrAt_eq_of_covers 10 _ (by decide +kernel) fun t _ y => ?_
  have ht : t.val < 16 := lt_of_lt_of_eq t.isLt (by decide +kernel)
  blk_simp
  rw [after0_10]
  have ey : y = ix5 (n0 := 2) (n1 := 1) (n2 := 8) (n3 := 256) (n4 := 64) (y 0) (y 1) (y 2) (y 3) (y 4) := by
    blk_ext
  have ez : (win0_10.blk t).view.emb y = ix5 (n0 := 32) (n1 := 1) (n2 := 8) (n3 := 256) (n4 := 64) ⟨2 * t + (y 0 : ℕ), by have : (y 0 : ℕ) < 2 := (y 0).isLt; clear * - this ht; omega⟩ (y 1) (y 2) (y 3) (y 4) := by
    blk_ext [ido t]
  rw [ez]
  exact (congrArg _ ey).trans (point_kc m c t ht (y 0) (y 1) (y 2) (y 3) (y 4))

theorem outs_vc (c : Dev nD) (t : Fin cfg0.N) : (outsAt0 m c t).2.2.2.2.2 = heads 1024 (by omega) (iblk m c 0 t) (iblk m c 1 t) (iblk m c 2 t) (X0_3 m c t) (iblk m c 4 t) := by
  unfold outsAt0
  dsimp only
  exact out_vc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (X0_3 m c t) (iblk m c 4 t) (iblk m c 5 t)

theorem point_vc (c : Dev nD) (t : Fin cfg0.N) (ht : t.val < 16) (a : Fin 2) (b : Fin 1) (h : Fin 8) (r : Fin 256) (d : Fin 64) :
    (outsAt0 m c t).2.2.2.2.2 (ix5 a b h r d) = HEADS 1024 Cert.Reference4Ideal.Gen.slices_S32x256x5664_S32x256x512_0_0_1024 (tok m c) (ix5 ⟨2 * t + a, by omega⟩ b h r d) := by
  rw [outs_vc, heads_val 1024 (by omega)]
  exact heads_at m c t ht 1024 (by omega) _ (ix5 (n0 := 32) (n1 := 1) (n2 := 8) (n3 := 256) (n4 := 64) ⟨2 * t + a, by omega⟩ b h r d) rfl rfl rfl rfl

theorem final_vc (c : Dev nD) : (dats m 0 c).arrAt 11 cfg0.N = HEADS 1024 Cert.Reference4Ideal.Gen.slices_S32x256x5664_S32x256x512_0_0_1024 (tok m c) := by
  refine (dats m 0 c).arrAt_eq_of_covers 11 _ (by decide +kernel) fun t _ y => ?_
  have ht : t.val < 16 := lt_of_lt_of_eq t.isLt (by decide +kernel)
  blk_simp
  rw [after0_11]
  have ey : y = ix5 (n0 := 2) (n1 := 1) (n2 := 8) (n3 := 256) (n4 := 64) (y 0) (y 1) (y 2) (y 3) (y 4) := by
    blk_ext
  have ez : (win0_11.blk t).view.emb y = ix5 (n0 := 32) (n1 := 1) (n2 := 8) (n3 := 256) (n4 := 64) ⟨2 * t + (y 0 : ℕ), by have : (y 0 : ℕ) < 2 := (y 0).isLt; clear * - this ht; omega⟩ (y 1) (y 2) (y 3) (y 4) := by
    blk_ext [ido t]
  rw [ez]
  exact (congrArg _ ey).trans (point_vc m c t ht (y 0) (y 1) (y 2) (y 3) (y 4))

end Cert.Kernel4Ideal.In

end
-- ==== Proof.ConvRow.lean ====
module

public import proofs.«01_k».proof.Proof.MergeRow

@[expose] public section

set_option maxRecDepth 16384

noncomputable section

namespace Cert.Conv

open Idealize.ShloMosaic

/-- A sequence of 256 with two zeros before and after it. -/
def pad2 (P : Fin 256 → EReal) (n : ℕ) : EReal := if h : 2 ≤ n ∧ n < 258 then P ⟨n - 2, by omega⟩ else 0

/-- The centred convolution of a sequence with five weights. -/
def conv (P : Fin 256 → EReal) (w : Fin 5 → EReal) (t : ℕ) : EReal :=
  pad2 P t * w 0 + pad2 P (t + 1) * w 1 + pad2 P (t + 2) * w 2 + pad2 P (t + 3) * w 3 + pad2 P (t + 4) * w 4

/-- The terms from the centre outwards. -/
theorem conv_centre (P : Fin 256 → EReal) (w : Fin 5 → EReal) (t : ℕ) :
    pad2 P (t + 2) * w 2 + pad2 P (t + 1) * w 1 + pad2 P (t + 3) * w 3 + pad2 P t * w 0 + pad2 P (t + 4) * w 4 = conv P w t := by
  unfold conv
  ac_rfl

def silu (x : EReal) : EReal := x * Ideal.logistic x

/-- The norm's factor of a head. -/
def unit (Y : Fin 64 → EReal) : EReal := Ideal.rsqrt ((∑ e, Y e * Y e) + Ideal.ofBits .f32 0x358637BD#32)

/-- Queries and keys divided by their head's length, values as they are. -/
def normed (y : Fin 1536 → EReal) (j : Fin 1536) : EReal :=
  if j.val < 1024 then y j * unit (fun e => y ⟨64 * (j.val / 64) + e.val, by omega⟩) else y j

/-- The sum over the pair's lanes of one head is the sum over the head. -/
theorem sum_pair (f : Fin 128 → EReal) (j : Fin 128) :
    (∑ k : Fin 128, f k * (if k.val / 64 = j.val / 64 then 1 else 0)) = ∑ e : Fin 64, f ⟨64 * (j.val / 64) + e.val, by omega⟩ := by
  refine (Fin.sum_univ_add (a := 64) (b := 64) (fun i : Fin (64 + 64) => f i * (if i.val / 64 = j.val / 64 then (1 : EReal) else 0))).trans ?_
  rcases Nat.lt_or_ge j.val 64 with h | h
  · have e : j.val / 64 = 0 := by omega
    rw [Finset.sum_eq_zero (s := Finset.univ) (f := fun i : Fin 64 => f (Fin.natAdd 64 i) * (if (Fin.natAdd 64 i).val / 64 = j.val / 64 then (1 : EReal) else 0))
      fun i _ => by rw [if_neg (by simp only [Fin.val_natAdd]; omega), mul_zero], add_zero]
    refine Finset.sum_congr rfl fun i _ => ?_
    rw [if_pos (by simp only [Fin.val_castAdd]; omega), mul_one]
    exact congrArg f (Fin.ext (by simp only [Fin.val_castAdd]; omega))
  · have e : j.val / 64 = 1 := by omega
    rw [Finset.sum_eq_zero (s := Finset.univ) (f := fun i : Fin 64 => f (Fin.castAdd 64 i) * (if (Fin.castAdd 64 i).val / 64 = j.val / 64 then (1 : EReal) else 0))
      fun i _ => by rw [if_neg (by simp only [Fin.val_castAdd]; omega), mul_zero], zero_add]
    refine Finset.sum_congr rfl fun i _ => ?_
    rw [if_pos (by simp only [Fin.val_natAdd]; omega), mul_one]
    exact congrArg f (Fin.ext (by simp only [Fin.val_natAdd]; omega))

end Cert.Conv

end
-- ==== Proof.ConvBlock.lean ====
module

public import proofs.«01_k».proof.Proof.InOut
public import proofs.«01_k».proof.Proof.ConvRow

@[expose] public section

set_option maxRecDepth 16384

noncomputable section

namespace Cert.Kernel4Ideal.Conv

open Cert.Kernel4Ideal Cert.Kernel4Ideal.Gen Cert.Merge Cert.Conv Cert.Kernel4Ideal.In Idealize.ShloMosaic Idealize.ShloMosaic.TcCoe Idealize.SL.Sem
open Cert.Kernel2Ideal.Sub (ld_at whole2 whole3)

/-! The convolved outputs of one sub-tile, which is one sequence of 256 tokens. -/

/-- The matrix of ones between lanes of one head. -/
def ones : FVec Ideal S128x128 .bf16 := k0_pay7 (iota .tc S128x128 32 [1] iota_S128x128_d1_w32) k0_pay4 (64#32) k0_pay5 k0_pay6

/-- A lane's head, as the integer division rounds it. -/
def quo (a : Fin 128) : BitVec 32 :=
  Scalar.select
    (IntOp.andi
      (IntOp.cmpi CmpIPredicate.ne
        (IntOp.subi (BitVec.setWidth 32 (IntOp.cmpi CmpIPredicate.sgt (BitVec.ofNat 32 a.val) 0#32))
          (BitVec.setWidth 32 (IntOp.cmpi CmpIPredicate.slt (BitVec.ofNat 32 a.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 a.val) 64#32) 0#32))
    (IntOp.subi (IntOp.divsi ArithUnit.vector (BitVec.ofNat 32 a.val) 64#32) 1#32)
    (IntOp.divsi ArithUnit.vector (BitVec.ofNat 32 a.val) 64#32)

theorem quo_eq : ∀ a : Fin 128, quo a = BitVec.ofNat 32 (a.val / 64) := by decide +kernel

theorem ones_at (a b : Fin 128) : ones (ix2 a b) = if a.val / 64 = b.val / 64 then 1 else 0 := by
  unfold ones k0_pay7 k0_pay4 k0_pay5 k0_pay6
  pointwise
  show Scalar.select (IntOp.cmpi CmpIPredicate.eq (quo a) (quo b)) 1 0 = _
  rw [quo_eq, quo_eq]
  rcases (by omega : a.val / 64 = 0 ∨ a.val / 64 = 1) with ha | ha <;> rcases (by omega : b.val / 64 = 0 ∨ b.val / 64 = 1) with hb | hb <;> rw [ha, hb] <;> simp [Scalar.select, IntOp.cmpi]

def padB (P : FVec Ideal S256x1536 .f32) : FVec Ideal S272x1536 .f32 :=
  concatenate S272x1536 0 [⟨S8x1536, broadcast S8x1536 (Scalar.ofBits .f32 0x00000000#32)⟩, ⟨S256x1536, P⟩, ⟨S8x1536, broadcast S8x1536 (Scalar.ofBits .f32 0x00000000#32)⟩]
    concatenates_S8x1536_S256x1536_S8x1536_S272x1536_d0

theorem pad_at (P : FVec Ideal S256x1536 .f32) (n : ℕ) (hn : n < 260) (j : Fin 1536) : padB P (ix2 ⟨6 + n, by omega⟩ j) = pad2 (fun t => P (ix2 t j)) n := by
  unfold padB pad2
  pointwise
  by_cases h : n < 2
  · rw [dif_pos (by omega), dif_neg (by omega)]
  · rw [dif_neg (by omega)]
    by_cases h' : n < 258
    · rw [dif_pos (by omega), dif_pos (by omega)]
      exact congrArg P (congrArg (fun a => ix2 a j) (Fin.ext (by show 6 + n - 8 = n - 2; omega)))
    · rw [dif_neg (by omega), dif_neg (by omega)]

/-- The convolution and its silu. -/
def convB (P : FVec Ideal S256x1536 .f32) (c2 c1 c3 c0 c4 : FVec Ideal S1x1536 .f32) : FVec Ideal S256x1536 .f32 :=
  k0_pay11 (padB P) (extractStridedSlice S256x1536 ![8, 0] (padB P) slices_S272x1536_o8_0_S256x1536) c2 c1 c3 c0 c4

theorem act_at (Q : FVec Ideal S272x1536 .f32) (c2 c1 c3 c0 c4 : FVec Ideal S1x1536 .f32) (i : Fin 256) (j : Fin 1536) :
    k0_pay11 Q (extractStridedSlice S256x1536 ![8, 0] Q slices_S272x1536_o8_0_S256x1536) c2 c1 c3 c0 c4 (ix2 i j)
      = silu (Q (ix2 ⟨6 + (i.val + 2), by omega⟩ j) * c2 (ix2 (0 : Fin 1) j) + Q (ix2 ⟨6 + (i.val + 1), by omega⟩ j) * c1 (ix2 (0 : Fin 1) j)
        + Q (ix2 ⟨6 + (i.val + 3), by omega⟩ j) * c3 (ix2 (0 : Fin 1) j) + Q (ix2 ⟨6 + i.val, by omega⟩ j) * c0 (ix2 (0 : Fin 1) j)
        + Q (ix2 ⟨6 + (i.val + 4), by omega⟩ j) * c4 (ix2 (0 : Fin 1) j)) := by
  unfold k0_pay11 silu
  simp only [shapeCast_id]
  pointwise
  rw [half_f32, logistic_tanh]
  simp only [show 6 + (i.val + 2) = 8 + i.val by omega, show 6 + (i.val + 1) = 7 + i.val by omega, show 6 + (i.val + 3) = 9 + i.val by omega,
    show 6 + (i.val + 4) = 10 + i.val by omega]

theorem conv_at (P : FVec Ideal S256x1536 .f32) (c2 c1 c3 c0 c4 : FVec Ideal S1x1536 .f32) (w : Fin 5 → EReal) (i : Fin 256) (j : Fin 1536)
    (h0 : c0 (ix2 (0 : Fin 1) j) = w 0) (h1 : c1 (ix2 (0 : Fin 1) j) = w 1) (h2 : c2 (ix2 (0 : Fin 1) j) = w 2) (h3 : c3 (ix2 (0 : Fin 1) j) = w 3) (h4 : c4 (ix2 (0 : Fin 1) j) = w 4) :
    convB P c2 c1 c3 c0 c4 (ix2 i j) = silu (conv (fun t => P (ix2 t j)) w i) := by
  unfold convB
  rw [act_at, ← conv_centre, h0, h1, h2, h3, h4, pad_at P _ (by omega), pad_at P _ (by omega), pad_at P _ (by omega), pad_at P _ (by omega), pad_at P _ (by omega)]

/-- Eight columns of 128 are normed, head by head. -/
def normC (M : FVec Ideal S128x128 .bf16) (Y : FVec Ideal S256x1536 .f32) (o : ℕ) (hs : S256x1536.Slices ![0, o] S256x128) : FVec Ideal S256x128 .bf16 :=
  let a := extractStridedSlice S256x128 ![0, o] Y hs
  let b := mulf a a
  let hi : FVec Ideal S256x128 .bf16 := truncf .bf16 b bitsLt_bf16_f32
  let lo : FVec Ideal S256x128 .bf16 := truncf .bf16 (subf b (extf .f32 hi bitsLt_bf16_f32)) bitsLt_bf16_f32
  let s : FVec Ideal S256x128 .f32 := matmul dot_S256x256_S256x128_S256x128_1_0_0_1_n_n none (concatenate S256x256 1 [⟨S256x128, hi⟩, ⟨S256x128, lo⟩] concatenates_S256x128_S256x128_S256x256_d1)
    (concatenate S256x128 0 [⟨S128x128, M⟩, ⟨S128x128, M⟩] concatenates_S128x128_S128x128_S256x128_d0) (constant S256x128 .f32 0x00000000#32)
  truncf .bf16 (mulf a (rsqrt (addf s (broadcast S256x128 (Scalar.ofBits .f32 0x358637BD#32))))) bitsLt_bf16_f32

theorem normC_at (Y : FVec Ideal S256x1536 .f32) (o : ℕ) (ho : o + 128 ≤ 1536) (hs : S256x1536.Slices ![0, o] S256x128) (i : Fin 256) (j : Fin 128)
    (f : Fin 1536 → ℝ) (hf : ∀ j, Y (ix2 i j) = (f j : EReal)) :
    normC ones Y o hs (ix2 i j) = Y (ix2 i ⟨o + j, by omega⟩) * unit (fun e => Y (ix2 i ⟨o + (64 * (j.val / 64) + e.val), by omega⟩)) := by
  unfold normC unit
  pointwise
  simp only [ones_at, hf, ← EReal.coe_mul, ← EReal.coe_sub, sub_self, EReal.coe_zero, zero_mul, Finset.sum_const_zero, add_zero]
  rw [sum_pair (fun x => ((f ⟨o + x.val, by omega⟩ * f ⟨o + x.val, by omega⟩ : ℝ) : EReal)) j]

end Cert.Kernel4Ideal.Conv

end
-- ==== Proof.ConvOut.lean ====
module

public import proofs.«01_k».proof.Proof.ConvBlock

@[expose] public section

set_option maxRecDepth 16384

noncomputable section

namespace Cert.Kernel4Ideal.Conv

open Cert.Kernel4Ideal Cert.Kernel4Ideal.Gen Cert.Merge Cert.Conv Cert.Kernel4Ideal.In Idealize.ShloMosaic Idealize.ShloMosaic.TcCoe Idealize.SL.Sem
open Cert.Kernel2Ideal.Sub (ld_at whole2 whole3)

/-- Row `r` of the convolved columns, before the norm: the rows `256 * (r / 256)` to `256 * (r / 256) + 255` are one sequence. -/
def crow (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (r : Fin 512) (j : Fin 1536) : EReal :=
  silu (conv (fun t => prow x0 x1 x2 x3 x4 ⟨256 * (r.val / 256) + t.val, by omega⟩ ⟨1536 + j.val, by omega⟩) (fun s => x5 (ix2 ⟨s.val, by omega⟩ j)) (r.val % 256))

/-- The block of convolved, normed rows. -/
def cblk (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (y : S512x1536.Idx) : EReal :=
  normed (crow x0 x1 x2 x3 x4 x5 (y 0)) (y 1)

/-- The convolved rows of the sequence that begins at row `o`. -/
def seqB (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (o : ℕ)
    (inb : ∀ e, (![o, 0] : Fin 2 → ℕ) e + (![256, 1024] : Fin 2 → ℕ) e ≤ (![512, 1024] : Fin 2 → ℕ) e) : FVec Ideal S256x1536 .f32 :=
  convB (k0_pay12 (normB (k0_pay3 x1) (View.ld x0 (Rect.unit (s := S512x1024) ![o, 0] ![256, 1024] inb)) x2) (View.ld x3 (Rect.unit ![0, 1536] ![1024, 1536] inb_S1024x5632_S1024x1536_0_1536)))
    (View.ld x5 (Rect.unit ![2, 0] ![1, 1536] inb_S8x1536_S1x1536_2_0)) (View.ld x5 (Rect.unit ![1, 0] ![1, 1536] inb_S8x1536_S1x1536_1_0))
    (View.ld x5 (Rect.unit ![3, 0] ![1, 1536] inb_S8x1536_S1x1536_3_0)) (View.ld x5 (Rect.unit ![0, 0] ![1, 1536] inb_S8x1536_S1x1536_0_0))
    (View.ld x5 (Rect.unit ![4, 0] ![1, 1536] inb_S8x1536_S1x1536_4_0))

theorem mid_row (x0 : Vec Ideal S512x1024 .f32) (x1 : Vec Ideal S1x6x1024 .f32) (x2 : Vec Ideal S1x1024 .f32) (x3 : Vec Ideal S1024x5632 .bf16) (x4 : Vec Ideal S1024x128 .bf16) (o : ℕ)
    (inb : ∀ e, (![o, 0] : Fin 2 → ℕ) e + (![256, 1024] : Fin 2 → ℕ) e ≤ (![512, 1024] : Fin 2 → ℕ) e) (i : Fin 256) (j : Fin 1536) (r : Fin 512) (c : Fin 5664)
    (hr : (r : ℕ) = o + i) (hc : (c : ℕ) = 1536 + j) :
    k0_pay12 (normB (k0_pay3 x1) (View.ld x0 (Rect.unit (s := S512x1024) ![o, 0] ![256, 1024] inb)) x2)
        (View.ld x3 (Rect.unit ![0, 1536] ![1024, 1536] inb_S1024x5632_S1024x1536_0_1536)) (ix2 i j) = prow x0 x1 x2 x3 x4 r c := by
  rw [dot_val, norm_row x0 x1 x2 o inb i r hr]
  unfold prow proj
  refine Finset.sum_congr rfl fun k _ => congrArg _ ?_
  unfold wcol
  rw [dif_pos (by omega)]
  exact ld_at x3 0 1536 inb_S1024x5632_S1024x1536_0_1536 k j k _ (Nat.zero_add _).symm hc

theorem seq_at (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (o : ℕ)
    (inb : ∀ e, (![o, 0] : Fin 2 → ℕ) e + (![256, 1024] : Fin 2 → ℕ) e ≤ (![512, 1024] : Fin 2 → ℕ) e) (ho : o = 0 ∨ o = 256) (i : Fin 256) (j : Fin 1536) (r : Fin 512) (hr : (r : ℕ) = o + i) :
    seqB x0 x1 x2 x3 x4 x5 o inb (ix2 i j) = crow x0 x1 x2 x3 x4 x5 r j := by
  unfold seqB crow
  have hi := i.isLt
  rw [conv_at _ _ _ _ _ _ (fun s => x5 (ix2 ⟨s.val, by omega⟩ j)) i j
    (ld_at x5 0 0 inb_S8x1536_S1x1536_0_0 0 j ⟨0, by omega⟩ j rfl (Nat.zero_add _).symm) (ld_at x5 1 0 inb_S8x1536_S1x1536_1_0 0 j ⟨1, by omega⟩ j rfl (Nat.zero_add _).symm)
    (ld_at x5 2 0 inb_S8x1536_S1x1536_2_0 0 j ⟨2, by omega⟩ j rfl (Nat.zero_add _).symm) (ld_at x5 3 0 inb_S8x1536_S1x1536_3_0 0 j ⟨3, by omega⟩ j rfl (Nat.zero_add _).symm)
    (ld_at x5 4 0 inb_S8x1536_S1x1536_4_0 0 j ⟨4, by omega⟩ j rfl (Nat.zero_add _).symm), show r.val % 256 = i.val by omega]
  exact congrArg silu (congrArg (fun P => conv P _ _) (funext fun t => mid_row x0 x1 x2 x3 x4 o inb t j _ _ (by show 256 * (r.val / 256) + t.val = o + t.val; omega) rfl))

theorem norm_piece (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (o : ℕ)
    (inb : ∀ e, (![o, 0] : Fin 2 → ℕ) e + (![256, 1024] : Fin 2 → ℕ) e ≤ (![512, 1024] : Fin 2 → ℕ) e) (ho : o = 0 ∨ o = 256) (p : ℕ) (hp : 128 * (p / 128) = p) (hq : p + 128 ≤ 1024) (hs : S256x1536.Slices ![0, p] S256x128)
    (inb' : ∀ e, (![o, p] : Fin 2 → ℕ) e + (![256, 128] : Fin 2 → ℕ) e ≤ (![512, 1536] : Fin 2 → ℕ) e)
    (f : Fin 512 → Fin 1536 → ℝ) (hf : ∀ r j, crow x0 x1 x2 x3 x4 x5 r j = (f r j : EReal)) (y : S256x128.Idx) :
    normC ones (seqB x0 x1 x2 x3 x4 x5 o inb) p hs y = cblk x0 x1 x2 x3 x4 x5 ((Rect.unit (s := S512x1536) ![o, p] ![256, 128] inb').emb y) := by
  have h0 : (y 0).val < 256 := (y 0).isLt
  have h1 : (y 1).val < 128 := (y 1).isLt
  have hr : ∀ j, seqB x0 x1 x2 x3 x4 x5 o inb (ix2 (y 0) j) = crow x0 x1 x2 x3 x4 x5 ⟨o + (y 0).val, by omega⟩ j := fun j => seq_at x0 x1 x2 x3 x4 x5 o inb ho (y 0) j _ rfl
  refine (congrArg _ (eq_ix2 (n0 := 256) (n1 := 128) y)).trans ((normC_at _ p (by omega) hs (y 0) (y 1) (f ⟨o + (y 0).val, by omega⟩) fun j => (hr j).trans (hf _ j)).trans ?_)
  have e0 : (Rect.unit (s := S512x1536) ![o, p] ![256, 128] inb').emb y 0 = (⟨o + (y 0).val, by omega⟩ : Fin 512) := Fin.ext (by show o + 1 * (y 0).val = o + (y 0).val; omega)
  have e1 : (Rect.unit (s := S512x1536) ![o, p] ![256, 128] inb').emb y 1 = (⟨p + (y 1).val, by omega⟩ : Fin 1536) := Fin.ext (by show p + 1 * (y 1).val = p + (y 1).val; omega)
  unfold cblk normed
  rw [e0, e1, if_pos (by show p + (y 1).val < 1024; omega)]
  simp only [hr]
  refine congrArg (fun u => _ * unit u) (funext fun e => congrArg (crow x0 x1 x2 x3 x4 x5 _) (Fin.ext ?_))
  show p + (64 * ((y 1).val / 64) + e.val) = 64 * ((p + (y 1).val) / 64) + e.val
  omega

theorem value_piece (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (o : ℕ)
    (inb : ∀ e, (![o, 0] : Fin 2 → ℕ) e + (![256, 1024] : Fin 2 → ℕ) e ≤ (![512, 1024] : Fin 2 → ℕ) e) (ho : o = 0 ∨ o = 256) (p : ℕ) (hp : 1024 ≤ p) (hq : p + 128 ≤ 1536) (hs : S256x1536.Slices ![0, p] S256x128)
    (inb' : ∀ e, (![o, p] : Fin 2 → ℕ) e + (![256, 128] : Fin 2 → ℕ) e ≤ (![512, 1536] : Fin 2 → ℕ) e) (y : S256x128.Idx) :
    truncf (F := Ideal) .bf16 (extractStridedSlice S256x128 ![0, p] (seqB x0 x1 x2 x3 x4 x5 o inb) hs) bitsLt_bf16_f32 y
      = cblk x0 x1 x2 x3 x4 x5 ((Rect.unit (s := S512x1536) ![o, p] ![256, 128] inb').emb y) := by
  have h0 : (y 0).val < 256 := (y 0).isLt
  have h1 : (y 1).val < 128 := (y 1).isLt
  have e0 : (Rect.unit (s := S512x1536) ![o, p] ![256, 128] inb').emb y 0 = (⟨o + (y 0).val, by omega⟩ : Fin 512) := Fin.ext (by show o + 1 * (y 0).val = o + (y 0).val; omega)
  have e1 : (Rect.unit (s := S512x1536) ![o, p] ![256, 128] inb').emb y 1 = (⟨p + (y 1).val, by omega⟩ : Fin 1536) := Fin.ext (by show p + 1 * (y 1).val = p + (y 1).val; omega)
  unfold cblk normed
  rw [e0, e1, if_neg (by show ¬ p + (y 1).val < 1024; omega)]
  refine Eq.trans ?_ (seq_at x0 x1 x2 x3 x4 x5 o inb ho (y 0) ⟨p + (y 1).val, by omega⟩ _ rfl)
  pointwise
  blk_ext

theorem seq_first (v : FVec Ideal S6x1024 .f32) (x : FVec Ideal S256x1024 .f32) (w : FVec Ideal S1x1024 .f32) (W : FVec Ideal S1024x1536 .bf16) (c2 c1 c3 c0 c4 : FVec Ideal S1x1536 .f32) :
    k0_pay11 (k0_pay9 v x w W) (k0_pay10 v x w W) c2 c1 c3 c0 c4 = convB (k0_pay12 (normB v x w) W) c2 c1 c3 c0 c4 := by
  rw [← p8]
  rfl

theorem seq_second (v : FVec Ideal S6x1024 .f32) (x : FVec Ideal S256x1024 .f32) (w : FVec Ideal S1x1024 .f32) (W : FVec Ideal S1024x1536 .bf16) (c2 c1 c3 c0 c4 : FVec Ideal S1x1536 .f32) :
    k0_pay54 (k0_pay52 v x w W) (k0_pay53 v x w W) c2 c1 c3 c0 c4 = convB (k0_pay12 (normB v x w) W) c2 c1 c3 c0 c4 := by
  rw [← p51]
  rfl

section
variable (c : Dev nD) (i : grid0.Coords) (arg1 : Memref sig .tc .vmem S512x1024 .f32) (harg1 : arg1.IsWhole) (arg2 : Memref sig .tc .vmem S1x6x1024 .f32) (harg2 : arg2.IsWhole)
  (arg3 : Memref sig .tc .vmem S1x1024 .f32) (harg3 : arg3.IsWhole) (arg4 : Memref sig .tc .vmem S1024x5632 .bf16) (harg4 : arg4.IsWhole)
  (arg5 : Memref sig .tc .vmem S1024x128 .bf16) (harg5 : arg5.IsWhole) (arg6 : Memref sig .tc .vmem S8x1536 .f32) (harg6 : arg6.IsWhole)
  (arg7 : Memref sig .tc .vmem S512x1536 .bf16) (harg7 : arg7.IsWhole) (arg8 : Memref sig .tc .vmem S512x1536 .bf16) (harg8 : arg8.IsWhole)
  (arg9 : Memref sig .tc .vmem S512x2560 .bf16) (harg9 : arg9.IsWhole) (arg10 : Memref sig .tc .vmem S512x128 .f32) (harg10 : arg10.IsWhole)
  (arg11 : Memref sig .tc .vmem S2x1x8x256x64 .f32) (harg11 : arg11.IsWhole) (arg12 : Memref sig .tc .vmem S2x1x8x256x64 .f32) (harg12 : arg12.IsWhole)
  (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32)

theorem out_dq (f : Fin 512 → Fin 1536 → ℝ) (hf : ∀ r j, crow x0 x1 x2 x3 x4 x5 r j = (f r j : EReal)) : out0_A_7 c i arg1 harg1 arg2 harg2 arg3 harg3 arg4 harg4 arg5 harg5 arg6 harg6 arg7 harg7 arg8 harg8 arg9 harg9 arg10 harg10 arg11 harg11 arg12 harg12 x0 x1 x2 x3 x4 x5 = cblk x0 x1 x2 x3 x4 x5 := by
  funext y
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5)]
  refine View.canon_apply_of_pieces (cblk x0 x1 x2 x3 x4 x5) _ ?_ y (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 y)
  unfold kernelRun0_A
  dsimp only
  sl_unfold_words
  simp only [View.readAt_eq_ld, harg1.read_unread, harg2.read_unread, harg3.read_unread, harg4.read_unread, harg5.read_unread, harg6.read_unread, whole2, whole3, seq_first, seq_second]
  rintro p hp j
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl
  · exact value_piece x0 x1 x2 x3 x4 x5 256 inb_S512x1024_S256x1024_256_0 (by omega) 1408 (by omega) (by omega) slices_S256x1536_o0_1408_S256x128 inb_S512x1536_S256x128_256_1408 j
  · exact value_piece x0 x1 x2 x3 x4 x5 256 inb_S512x1024_S256x1024_256_0 (by omega) 1280 (by omega) (by omega) slices_S256x1536_o0_1280_S256x128 inb_S512x1536_S256x128_256_1280 j
  · exact value_piece x0 x1 x2 x3 x4 x5 256 inb_S512x1024_S256x1024_256_0 (by omega) 1152 (by omega) (by omega) slices_S256x1536_o0_1152_S256x128 inb_S512x1536_S256x128_256_1152 j
  · exact value_piece x0 x1 x2 x3 x4 x5 256 inb_S512x1024_S256x1024_256_0 (by omega) 1024 (by omega) (by omega) slices_S256x1536_o0_1024_S256x128 inb_S512x1536_S256x128_256_1024 j
  · exact norm_piece x0 x1 x2 x3 x4 x5 256 inb_S512x1024_S256x1024_256_0 (by omega) 896 (by omega) (by omega) slices_S256x1536_o0_896_S256x128 inb_S512x1536_S256x128_256_896 f hf j
  · exact norm_piece x0 x1 x2 x3 x4 x5 256 inb_S512x1024_S256x1024_256_0 (by omega) 768 (by omega) (by omega) slices_S256x1536_o0_768_S256x128 inb_S512x1536_S256x128_256_768 f hf j
  · exact norm_piece x0 x1 x2 x3 x4 x5 256 inb_S512x1024_S256x1024_256_0 (by omega) 640 (by omega) (by omega) slices_S256x1536_o0_640_S256x128 inb_S512x1536_S256x128_256_640 f hf j
  · exact norm_piece x0 x1 x2 x3 x4 x5 256 inb_S512x1024_S256x1024_256_0 (by omega) 512 (by omega) (by omega) slices_S256x1536_o0_512_S256x128 inb_S512x1536_S256x128_256_512 f hf j
  · exact norm_piece x0 x1 x2 x3 x4 x5 256 inb_S512x1024_S256x1024_256_0 (by omega) 384 (by omega) (by omega) slices_S256x1536_o0_384_S256x128 inb_S512x1536_S256x128_256_384 f hf j
  · exact norm_piece x0 x1 x2 x3 x4 x5 256 inb_S512x1024_S256x1024_256_0 (by omega) 256 (by omega) (by omega) slices_S256x1536_o0_256_S256x128 inb_S512x1536_S256x128_256_256 f hf j
  · exact norm_piece x0 x1 x2 x3 x4 x5 256 inb_S512x1024_S256x1024_256_0 (by omega) 128 (by omega) (by omega) slices_S256x1536_o0_128_S256x128 inb_S512x1536_S256x128_256_128 f hf j
  · exact norm_piece x0 x1 x2 x3 x4 x5 256 inb_S512x1024_S256x1024_256_0 (by omega) 0 (by omega) (by omega) slices_S256x1536_o0_0_S256x128 inb_S512x1536_S256x128_256_0 f hf j
  · exact value_piece x0 x1 x2 x3 x4 x5 0 inb_S512x1024_S256x1024_0_0 (by omega) 1408 (by omega) (by omega) slices_S256x1536_o0_1408_S256x128 inb_S512x1536_S256x128_0_1408 j
  · exact value_piece x0 x1 x2 x3 x4 x5 0 inb_S512x1024_S256x1024_0_0 (by omega) 1280 (by omega) (by omega) slices_S256x1536_o0_1280_S256x128 inb_S512x1536_S256x128_0_1280 j
  · exact value_piece x0 x1 x2 x3 x4 x5 0 inb_S512x1024_S256x1024_0_0 (by omega) 1152 (by omega) (by omega) slices_S256x1536_o0_1152_S256x128 inb_S512x1536_S256x128_0_1152 j
  · exact value_piece x0 x1 x2 x3 x4 x5 0 inb_S512x1024_S256x1024_0_0 (by omega) 1024 (by omega) (by omega) slices_S256x1536_o0_1024_S256x128 inb_S512x1536_S256x128_0_1024 j
  · exact norm_piece x0 x1 x2 x3 x4 x5 0 inb_S512x1024_S256x1024_0_0 (by omega) 896 (by omega) (by omega) slices_S256x1536_o0_896_S256x128 inb_S512x1536_S256x128_0_896 f hf j
  · exact norm_piece x0 x1 x2 x3 x4 x5 0 inb_S512x1024_S256x1024_0_0 (by omega) 768 (by omega) (by omega) slices_S256x1536_o0_768_S256x128 inb_S512x1536_S256x128_0_768 f hf j
  · exact norm_piece x0 x1 x2 x3 x4 x5 0 inb_S512x1024_S256x1024_0_0 (by omega) 640 (by omega) (by omega) slices_S256x1536_o0_640_S256x128 inb_S512x1536_S256x128_0_640 f hf j
  · exact norm_piece x0 x1 x2 x3 x4 x5 0 inb_S512x1024_S256x1024_0_0 (by omega) 512 (by omega) (by omega) slices_S256x1536_o0_512_S256x128 inb_S512x1536_S256x128_0_512 f hf j
  · exact norm_piece x0 x1 x2 x3 x4 x5 0 inb_S512x1024_S256x1024_0_0 (by omega) 384 (by omega) (by omega) slices_S256x1536_o0_384_S256x128 inb_S512x1536_S256x128_0_384 f hf j
  · exact norm_piece x0 x1 x2 x3 x4 x5 0 inb_S512x1024_S256x1024_0_0 (by omega) 256 (by omega) (by omega) slices_S256x1536_o0_256_S256x128 inb_S512x1536_S256x128_0_256 f hf j
  · exact norm_piece x0 x1 x2 x3 x4 x5 0 inb_S512x1024_S256x1024_0_0 (by omega) 128 (by omega) (by omega) slices_S256x1536_o0_128_S256x128 inb_S512x1536_S256x128_0_128 f hf j
  · exact norm_piece x0 x1 x2 x3 x4 x5 0 inb_S512x1024_S256x1024_0_0 (by omega) 0 (by omega) (by omega) slices_S256x1536_o0_0_S256x128 inb_S512x1536_S256x128_0_0 f hf j

end

end Cert.Kernel4Ideal.Conv

end
-- ==== Proof.ConvRef.lean ====
module

public import proofs.«01_k».proof.Proof.Gen.Reference5Ideal.Run
public import proofs.«01_k».proof.Proof.InRef
public import proofs.«01_k».proof.Proof.ConvRow

@[expose] public section

set_option maxRecDepth 16384

noncomputable section

namespace Cert.Reference5Ideal.Conv

open Cert.Reference5Ideal Cert.Reference5Ideal.Gen Cert.Merge Cert.Conv Idealize.ShloMosaic Idealize.ShloMosaic.TcCoe Idealize.SL.Sem
open Cert.Reference4Ideal.In (PROJ)

/-! The reference's convolved columns as a function of the projected tokens, and their entries. -/

/-- The middle columns, two rows of zeros before and after each sequence. -/
def PADDED (p : FVec Ideal S32x256x5664 .f32) : FVec Ideal S32x260x1536 .f32 :=
  pad S32x260x1536 ![0, 2, 0] ![0, 2, 0] ![0, 0, 0] (extractStridedSlice S32x256x1536 ![0, 0, 1536] p slices_S32x256x5664_S32x256x1536_0_0_1536)
    (sitofp .f32 (constantI S_ 32 0#32)) pads_S32x256x1536_S32x260x1536_000_220_000 h_S_

theorem padded_val (p : FVec Ideal S32x256x5664 .f32) (b : Fin 32) (n : Fin 260) (j : Fin 1536) :
    PADDED p (ix3 b n j) = pad2 (fun t => p (ix3 b t ⟨1536 + j.val, by omega⟩)) n.val := by
  unfold PADDED pad2
  pointwise
  have hn := n.isLt
  have hz : (FloatOps.sitofp (F := Ideal) .f32 (0#32) : EReal) = 0 := by
    show (((0#32).toInt : ℝ) : EReal) = 0
    simp
  by_cases h : 2 ≤ n.val ∧ n.val < 258
  · rw [dif_pos ⟨h.1, by omega⟩, dif_pos h]
  · rw [dif_neg (by omega), dif_neg h]
    exact hz

/-- One shifted product. -/
def TAP (q : FVec Ideal S32x260x1536 .f32) (w : FVec Ideal S5x1536 .f32) (o : ℕ) (hq : S32x260x1536.Slices ![0, o, 0] S32x256x1536)
    (hw : S5x1536.Slices ![o, 0] S1x1536) : FVec Ideal S32x256x1536 .f32 :=
  mulf (extractStridedSlice S32x256x1536 ![0, o, 0] q hq)
    (broadcastInDim S32x256x1536 ![0, 1, 2] bcast_S1x1x1536_S32x256x1536_0_1_2 (broadcastInDim S1x1x1536 ![2] bcast_S1536_S1x1x1536_2
      (shapeCast _ (extractStridedSlice S1x1536 ![o, 0] w hw) shapeCasts_S1x1536_S1536)))

theorem tap_val (q : FVec Ideal S32x260x1536 .f32) (w : FVec Ideal S5x1536 .f32) (o : ℕ) (ho : o < 5) (hq : S32x260x1536.Slices ![0, o, 0] S32x256x1536)
    (hw : S5x1536.Slices ![o, 0] S1x1536) (b : Fin 32) (t : Fin 256) (j : Fin 1536) :
    TAP q w o hq hw (ix3 b t j) = q (ix3 b ⟨t + o, by omega⟩ j) * w (ix2 ⟨o, ho⟩ j) := by
  unfold TAP
  pointwise
  rw [show (⟨o + t.val, by omega⟩ : Fin 260) = ⟨t.val + o, by omega⟩ from Fin.ext (Nat.add_comm _ _)]

def CONV (q : FVec Ideal S32x260x1536 .f32) (w : FVec Ideal S5x1536 .f32) : FVec Ideal S32x256x1536 .f32 :=
  addf (addf (addf (addf (TAP q w 0 slices_S32x260x1536_S32x256x1536_0_0_0 slices_S5x1536_S1x1536_0_0) (TAP q w 1 slices_S32x260x1536_S32x256x1536_0_1_0 slices_S5x1536_S1x1536_1_0))
    (TAP q w 2 slices_S32x260x1536_S32x256x1536_0_2_0 slices_S5x1536_S1x1536_2_0)) (TAP q w 3 slices_S32x260x1536_S32x256x1536_0_3_0 slices_S5x1536_S1x1536_3_0))
    (TAP q w 4 slices_S32x260x1536_S32x256x1536_0_4_0 slices_S5x1536_S1x1536_4_0)

/-- A row before the norm. -/
def crowR (p : FVec Ideal S32x256x5664 .f32) (w : FVec Ideal S5x1536 .f32) (b : Fin 32) (t : Fin 256) (j : Fin 1536) : EReal :=
  silu (conv (fun t => p (ix3 b t ⟨1536 + j.val, by omega⟩)) (fun s => w (ix2 s j)) t.val)

theorem conv_val (p : FVec Ideal S32x256x5664 .f32) (w : FVec Ideal S5x1536 .f32) (b : Fin 32) (t : Fin 256) (j : Fin 1536) :
    CONV (PADDED p) w (ix3 b t j) = conv (fun t => p (ix3 b t ⟨1536 + j.val, by omega⟩)) (fun s => w (ix2 s j)) t.val := by
  show TAP _ _ 0 _ _ _ + TAP _ _ 1 _ _ _ + TAP _ _ 2 _ _ _ + TAP _ _ 3 _ _ _ + TAP _ _ 4 _ _ _ = _
  simp only [tap_val _ _ 0 (by omega), tap_val _ _ 1 (by omega), tap_val _ _ 2 (by omega), tap_val _ _ 3 (by omega), tap_val _ _ 4 (by omega), padded_val]
  rfl

def SILU (z : FVec Ideal S32x256x1536 .f32) : FVec Ideal S32x256x1536 .f32 :=
  mulf z (Host.divf (broadcastInDim S32x256x1536 ![] bcast_S_S32x256x1536 (constant S_ .f32 0x3F800000#32)) (addf (broadcastInDim S32x256x1536 ![] bcast_S_S32x256x1536 (constant S_ .f32 0x3F800000#32)) (Host.exp (Host.negf z))))

theorem silu_val (z : FVec Ideal S32x256x1536 .f32) (b : Fin 32) (t : Fin 256) (j : Fin 1536) : SILU z (ix3 b t j) = silu (z (ix3 b t j)) := by
  unfold SILU silu Ideal.logistic
  simp only [← one_f32]
  pointwise

/-- Eight heads of a token, each divided by its length. -/
def NORM (y : FVec Ideal S32x256x1536 .f32) (o : ℕ) (hs : S32x256x1536.Slices ![0, 0, o] S32x256x512) : FVec Ideal S32x256x512 .f32 :=
  let h : FVec Ideal S32x256x8x64 .f32 := shapeCast _ (extractStridedSlice S32x256x512 ![0, 0, o] y hs) shapeCasts_S32x256x512_S32x256x8x64
  shapeCast _ (mulf h (broadcastInDim S32x256x8x64 ![0, 1, 2, 3] bcast_S32x256x8x1_S32x256x8x64_0_1_2_3 (Host.rsqrt (addf (broadcastInDim S32x256x8x1 ![0, 1, 2] bcast_S32x256x8_S32x256x8x1_0_1_2
    (Host.reduceAdd (mulf h h) (constant S_ .f32 0x00000000#32) reducesTo_S32x256x8x64_S32x256x8_d3 h_S_)) (broadcastInDim S32x256x8x1 ![] bcast_S_S32x256x8x1 (constant S_ .f32 0x358637BD#32)))))) shapeCasts_S32x256x8x64_S32x256x512

theorem norm_val (y : FVec Ideal S32x256x1536 .f32) (o : ℕ) (ho : o + 512 ≤ 1536) (hs : S32x256x1536.Slices ![0, 0, o] S32x256x512) (b : Fin 32) (t : Fin 256) (j : Fin 512) :
    NORM y o hs (ix3 b t j) = y (ix3 b t ⟨o + j, by omega⟩) * unit (fun e => y (ix3 b t ⟨o + (64 * (j.val / 64) + e.val), by omega⟩)) := by
  unfold NORM unit
  pointwise
  simp only [Nat.mul_comm (j.val / 64) 64]

def DQKV (p : FVec Ideal S32x256x5664 .f32) (w : FVec Ideal S5x1536 .f32) : FVec Ideal S8192x1536 .bf16 :=
  let y := SILU (CONV (PADDED p) w)
  truncf .bf16 (shapeCast S8192x1536 (concatenate S32x256x1536 2 [⟨S32x256x512, NORM y 0 slices_S32x256x1536_S32x256x512_0_0_0⟩, ⟨S32x256x512, NORM y 512 slices_S32x256x1536_S32x256x512_0_0_512⟩,
    ⟨S32x256x512, extractStridedSlice S32x256x512 ![0, 0, 1024] y slices_S32x256x1536_S32x256x512_0_0_1024⟩] concatenates_S32x256x512_S32x256x512_S32x256x512_S32x256x1536_d2) shapeCasts_S32x256x1536_S8192x1536) bitsLt_bf16_f32

theorem dqkv_val (p : FVec Ideal S32x256x5664 .f32) (w : FVec Ideal S5x1536 .f32) (n : Fin 8192) (j : Fin 1536) :
    DQKV p w (ix2 n j) = normed (crowR p w ⟨n / 256, by omega⟩ ⟨n % 256, by omega⟩) j := by
  have hy : ∀ b t j, SILU (CONV (PADDED p) w) (ix3 b t j) = crowR p w b t j := fun b t j => by
    rw [silu_val, conv_val]
    rfl
  have hj := j.isLt
  unfold DQKV normed
  pointwise
  by_cases h : j.val < 512
  · rw [dif_pos h, if_pos (show j.val < 1024 by omega), norm_val _ 0 (by omega)]
    simp only [hy, Nat.zero_add]
  · rw [dif_neg h]
    by_cases h' : j.val < 1024
    · rw [dif_pos (show j.val - 512 < 512 by omega), if_pos h', norm_val _ 512 (by omega)]
      simp only [hy, show 512 + (j.val - 512) = j.val by omega, show ∀ e, 512 + (64 * ((j.val - 512) / 64) + e) = 64 * (j.val / 64) + e by intro e; omega]
    · rw [dif_neg (show ¬ j.val - 512 < 512 by omega), if_neg h', hy]
      exact congrArg (crowR p w _ _) (Fin.ext (by show 1024 + (j.val - 512 - 512) = j.val; omega))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = DQKV (PROJ (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2⟩) (Value.run m ρ)

end Cert.Reference5Ideal.Conv

end
-- ==== Proof.ConvReal.lean ====
module

public import proofs.«01_k».proof.Proof.Gen.Pre_finite_in
public import proofs.«01_k».proof.Proof.ConvRow
public import proofs.«01_k».proof.Proof.Finite

@[expose] public section

set_option maxRecDepth 16384

noncomputable section

namespace Cert.Conv

open Cert.Merge Idealize.ShloMosaic

/-- The value is a real. -/
def IsReal (x : EReal) : Prop := ∃ r : ℝ, x = (r : EReal)

namespace IsReal

theorem zero : IsReal 0 := ⟨0, EReal.coe_zero.symm⟩
theorem one : IsReal 1 := ⟨1, EReal.coe_one.symm⟩

theorem add {x y : EReal} (hx : IsReal x) (hy : IsReal y) : IsReal (x + y) := by
  obtain ⟨r, rfl⟩ := hx
  obtain ⟨s, rfl⟩ := hy
  exact ⟨r + s, (EReal.coe_add r s).symm⟩

theorem mul {x y : EReal} (hx : IsReal x) (hy : IsReal y) : IsReal (x * y) := by
  obtain ⟨r, rfl⟩ := hx
  obtain ⟨s, rfl⟩ := hy
  exact ⟨r * s, (EReal.coe_mul r s).symm⟩

theorem sum {ι : Type} (s : Finset ι) (f : ι → EReal) (h : ∀ i, IsReal (f i)) : IsReal (∑ i ∈ s, f i) :=
  Finset.sum_induction f IsReal (fun _ _ => add) zero fun i _ => h i

theorem logistic {x : EReal} (hx : IsReal x) : IsReal (Ideal.logistic x) := by
  obtain ⟨r, rfl⟩ := hx
  exact ⟨_, Ideal.logistic_coe r⟩

theorem silu {x : EReal} (hx : IsReal x) : IsReal (silu x) := hx.mul hx.logistic

theorem pad2 {P : Fin 256 → EReal} (h : ∀ t, IsReal (P t)) (n : ℕ) : IsReal (pad2 P n) := by
  unfold Conv.pad2
  split
  · exact h _
  · exact zero

theorem conv {P : Fin 256 → EReal} {w : Fin 5 → EReal} (h : ∀ t, IsReal (P t)) (hw : ∀ s, IsReal (w s)) (t : ℕ) : IsReal (conv P w t) :=
  (((((pad2 h _).mul (hw _)).add ((pad2 h _).mul (hw _))).add ((pad2 h _).mul (hw _))).add ((pad2 h _).mul (hw _))).add ((pad2 h _).mul (hw _))

theorem proj {n k : ℕ} {r : Fin n → EReal} {w : Fin n → Fin k → EReal} (h : ∀ x, IsReal (r x)) (hw : ∀ x j, IsReal (w x j)) (i : Fin k) : IsReal (proj r w i) :=
  sum _ _ fun x => (h x).mul (hw x i)

theorem n_f32 : Ideal.ofBits .f32 0x44800000#32 = ((1024 : ℝ) : EReal) := by
  simp [Ideal.ofBits, Ideal.ieee]; exact (EReal.coe_mul _ _).symm.trans (congrArg _ (by norm_num))

theorem eps_f32 : ∃ e : ℝ, 0 < e ∧ Ideal.ofBits .f32 0x358637BD#32 = (e : EReal) := by
  simp [Ideal.ofBits, Ideal.ieee]
  exact ⟨_, by positivity, (EReal.coe_mul _ _).symm⟩

theorem sum_coe {n : ℕ} (f : Fin n → ℝ) : (∑ i, (f i : EReal)) = ((∑ i, f i : ℝ) : EReal) := by
  induction n with
  | zero => simp
  | succ n ih => rw [Fin.sum_univ_succ, Fin.sum_univ_succ, ih, ← EReal.coe_add]

theorem rms {y w : Fin 1024 → EReal} (h : ∀ i, IsReal (y i)) (hw : ∀ i, IsReal (w i)) (i : Fin 1024) : IsReal (rms y w i) := by
  refine ((h i).mul ?_).mul (hw i)
  choose f hf using h
  obtain ⟨e, he, ee⟩ := eps_f32
  have p : 0 < (∑ x, f x * f x) * (1 / 1024) + e := add_pos_of_nonneg_of_pos (mul_nonneg (Finset.sum_nonneg fun x _ => mul_self_nonneg (f x)) (by norm_num)) he
  simp only [hf, ← EReal.coe_mul]
  rw [sum_coe, n_f32, Ideal.div_coe (by norm_num), ee, ← EReal.coe_mul, ← EReal.coe_add, Ideal.rsqrt_coe, if_neg p.le.not_gt, if_neg p.ne']
  exact ⟨_, rfl⟩

theorem pre {x w sc sh : Fin 1024 → EReal} (hx : ∀ i, IsReal (x i)) (hw : ∀ i, IsReal (w i)) (hc : ∀ i, IsReal (sc i)) (hs : ∀ i, IsReal (sh i)) (i : Fin 1024) : IsReal (pre x w sc sh i) :=
  ((rms hx hw i).mul (one.add (hc i))).add (hs i)

end IsReal

end Cert.Conv

namespace Cert.Pre_finite_in.Reals

open Cert.Pre_finite_in Cert.Pre_finite_in.Gen Cert.Soft Cert.Conv Idealize.ShloMosaic Idealize.ShloMosaic.TcCoe Idealize.SL.Sem
open Cert.Pre_finite_qk.Reals (fold_one real_of_abs_lt)

theorem real_of_bit (x : EReal) (h : BitVec.ofBool (decide (FloatOps.absf (F := Ideal) (φ := .f32) x < (⊤ : EReal))) = 1#1) : IsReal x := by
  refine real_of_abs_lt x ?_
  by_contra hn
  rw [show decide (FloatOps.absf (F := Ideal) (φ := .f32) x < (⊤ : EReal)) = false from decide_eq_false hn] at h
  exact absurd h (by decide)

/-- A test of every entry that gives true says that every entry is a real. -/
theorem all_real {s : Shape} {dims : List (Fin s.rank)} (X : FVec Ideal s .f32) (hb : S_.BroadcastsInDim s (![] : Fin 0 → Fin s.rank)) (hr : s.ReducesTo dims S_) (h0 : 0 < S_.numel)
    (h : Host.reduce IntOp.andi (cmpf .olt (Host.absf X) (broadcastInDim s ![] hb (constant (F := Ideal) S_ .f32 0x7F800000#32))) (constantI S_ 1 1#1) hr h0 ix0 = 1#1)
    (j : s.Idx) : IsReal (X j) := by
  rw [Host.reduce_eq_fold] at h
  have := fold_one _ _ h j (Finset.mem_filter.mpr ⟨Finset.mem_univ _, funext fun k : Fin 0 => k.elim0⟩)
  refine real_of_bit (X j) ?_
  rw [← posInf_f32]
  exact this

theorem reals (x : FVec Ideal S32x256x1024 .f32) (m : FVec Ideal S8x6x1024 .f32) (n : FVec Ideal S1024 .f32) (w : FVec Ideal S1024x5664 .f32) (k : FVec Ideal S5x1536 .f32)
    (h : Cert.Pre_finite_in.fn (F := Ideal) x m n w k = fun _ => 1#1) :
    (∀ j, IsReal (x j)) ∧ (∀ j, IsReal (m j)) ∧ (∀ j, IsReal (n j)) ∧ (∀ j, IsReal (w j)) ∧ ∀ j, IsReal (k j) := by
  have h2 : ∀ p q : BitVec 1, IntOp.andi p q = 1#1 → p = 1#1 ∧ q = 1#1 := by decide
  have a := h2 _ _ (congrFun h ix0)
  have b := h2 _ _ a.1
  have c := h2 _ _ b.1
  have d := h2 _ _ c.1
  exact ⟨all_real x bcast_S_S32x256x1024 reducesTo_S32x256x1024_S_d0_1_2 h_S_ d.1, all_real m bcast_S_S8x6x1024 reducesTo_S8x6x1024_S_d0_1_2 h_S_ d.2,
    all_real n bcast_S_S1024 reducesTo_S1024_S_d0 h_S_ c.2, all_real w bcast_S_S1024x5664 reducesTo_S1024x5664_S_d0_1 h_S_ b.2, all_real k bcast_S_S5x1536 reducesTo_S5x1536_S_d0_1 h_S_ a.2⟩

end Cert.Pre_finite_in.Reals

end
-- ==== Proof.ConvVal.lean ====
module

public import proofs.«01_k».proof.Proof.ConvOut
public import proofs.«01_k».proof.Proof.ConvRef
public import proofs.«01_k».proof.Proof.ConvReal
public import proofs.«01_k».proof.Proof.InVal

@[expose] public section

set_option maxRecDepth 16384

noncomputable section

namespace Cert.Kernel4Ideal.Conv

open Cert.Kernel4Ideal Cert.Kernel4Ideal.Gen Cert.Merge Cert.Conv Cert.Kernel4Ideal.In Idealize.ShloMosaic Idealize.ShloMosaic.TcCoe Idealize.SL.Sem
open Idealize.ShloMosaic.Pipeline (Dat)
open Cert.Reference4Ideal.In (PROJ proj_val)
open Cert.Reference5Ideal.Conv (DQKV dqkv_val crowR)

/-- The convolution's weights, filled up with three rows of the value `v`. -/
def wrows (w : FVec Ideal S5x1536 .f32) (v : FVec Ideal S_ .f32) : FVec Ideal S8x1536 .f32 :=
  pad S8x1536 ![0, 0] ![3, 0] ![0, 0] w v pads_S5x1536_S8x1536_030_000 h_S_

theorem wrows_val (w : FVec Ideal S5x1536 .f32) (v : FVec Ideal S_ .f32) (s : Fin 5) (j : Fin 1536) : wrows w v (ix2 ⟨s, by omega⟩ j) = w (ix2 s j) := by
  unfold wrows
  pointwise

variable (m : (ℓ : Loc nD τ sig) → Buf (Elt Ideal) ℓ)

theorem staged_k (c : Dev nD) : ∃ v, V m c main_v0 = wrows (m ((c.tc : Thread nD τ).loc main_arg4)) v := ⟨_, rfl⟩

theorem idk : ∀ t : Fin cfg0.N, win0_5.index t = ![0, 0] ∧ win0_7.index t = ![t.val, 0] :=
  (by decide +kernel : ∀ t : Fin grid0.N, _)

theorem k_at (c : Dev nD) (t : Fin cfg0.N) (s : Fin 5) (j : Fin 1536) : iblk m c 5 t (ix2 ⟨s, by omega⟩ j) = m ((c.tc : Thread nD τ).loc main_arg4) (ix2 s j) := by
  obtain ⟨v, hv⟩ := staged_k m c
  refine Eq.trans ?_ (wrows_val (m ((c.tc : Thread nD τ).loc main_arg4)) v s j)
  rw [← hv]
  blk_ext [iblk, idk t]

theorem crow_at (c : Dev nD) (t : Fin cfg0.N) (r : Fin 512) (j : Fin 1536) (n : Fin 8192) (hn : n.val = 512 * t + r) :
    crow (iblk m c 0 t) (iblk m c 1 t) (iblk m c 2 t) (X0_3 m c t) (iblk m c 4 t) (iblk m c 5 t) r j
      = crowR (tok m c) (m ((c.tc : Thread nD τ).loc main_arg4)) ⟨n / 256, by omega⟩ ⟨n % 256, by omega⟩ j := by
  unfold crow crowR
  have hr := r.isLt
  simp only [k_at]
  rw [show n.val % 256 = r.val % 256 by omega]
  refine congrArg silu (congrArg (fun P => conv P _ _) (funext fun u => ?_))
  have hu := u.isLt
  refine (row_at m c t _ _ ⟨512 * t + (256 * (r.val / 256) + u.val), by omega⟩ rfl).trans (congrArg (tok m c) ?_)
  rw [show (⟨(512 * t.val + (256 * (r.val / 256) + u.val)) / 256, by omega⟩ : Fin 32) = ⟨n / 256, by omega⟩ from Fin.ext (by show _ / 256 = n.val / 256; omega),
    show (⟨(512 * t.val + (256 * (r.val / 256) + u.val)) % 256, by omega⟩ : Fin 256) = u from Fin.ext (by show _ % 256 = u.val; omega)]

/-- Every argument is a real, entry by entry. -/
def Real5 (c : Dev nD) : Prop :=
  (∀ j, IsReal (m ((c.tc : Thread nD τ).loc main_arg0) j)) ∧ (∀ j, IsReal (m ((c.tc : Thread nD τ).loc main_arg1) j)) ∧ (∀ j, IsReal (m ((c.tc : Thread nD τ).loc main_arg2) j))
    ∧ (∀ j, IsReal (m ((c.tc : Thread nD τ).loc main_arg3) j)) ∧ ∀ j, IsReal (m ((c.tc : Thread nD τ).loc main_arg4) j)

theorem real_row (c : Dev nD) (h : Real5 m c) (b : Fin 32) (t : Fin 256) (j : Fin 1536) : IsReal (crowR (tok m c) (m ((c.tc : Thread nD τ).loc main_arg4)) b t j) := by
  obtain ⟨h0, h1, h2, h3, h4⟩ := h
  refine IsReal.silu (IsReal.conv (fun u => ?_) (fun s => h4 _) _)
  unfold tok
  rw [proj_val]
  exact IsReal.proj (fun x => IsReal.pre (fun _ => h0 _) (fun _ => h2 _) (fun _ => h1 _) (fun _ => h1 _) x) (fun _ _ => h3 _) _

theorem outs_dq (c : Dev nD) (t : Fin cfg0.N) (ht : t.val < 16) (h : Real5 m c) :
    (outsAt0 m c t).2.1 = cblk (iblk m c 0 t) (iblk m c 1 t) (iblk m c 2 t) (X0_3 m c t) (iblk m c 4 t) (iblk m c 5 t) := by
  have hf : ∀ r j, ∃ f : ℝ, crow (iblk m c 0 t) (iblk m c 1 t) (iblk m c 2 t) (X0_3 m c t) (iblk m c 4 t) (iblk m c 5 t) r j = (f : EReal) := fun r j => by
    rw [crow_at m c t r j ⟨512 * t + r, by omega⟩ rfl]
    exact real_row m c h _ _ j
  choose f hf using hf
  unfold outsAt0
  dsimp only
  exact out_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (X0_3 m c t) (iblk m c 4 t) (iblk m c 5 t) f hf

theorem point_dq (c : Dev nD) (t : Fin cfg0.N) (ht : t.val < 16) (h : Real5 m c) (r : Fin 512) (j : Fin 1536) :
    (outsAt0 m c t).2.1 (ix2 r j) = DQKV (tok m c) (m ((c.tc : Thread nD τ).loc main_arg4)) (ix2 ⟨512 * t + r, by omega⟩ j) := by
  rw [outs_dq m c t ht h, dqkv_val]
  exact congrArg (fun y => normed y j) (funext fun j => crow_at m c t r j _ rfl)

/-- The convolved array, whenever every argument is finite. -/
theorem final_dq (c : Dev nD) (h : Real5 m c) : (dats m 0 c).arrAt 7 cfg0.N = DQKV (tok m c) (m ((c.tc : Thread nD τ).loc main_arg4)) := by
  refine (dats m 0 c).arrAt_eq_of_covers 7 _ (by decide +kernel) fun t _ y => ?_
  have ht : t.val < 16 := lt_of_lt_of_eq t.isLt (by decide +kernel)
  blk_simp
  rw [after0_7]
  have ey : y = ix2 (n0 := 512) (n1 := 1536) (y 0) (y 1) := by
    blk_ext
  have ez : (win0_7.blk t).view.emb y = ix2 (n0 := 8192) (n1 := 1536) ⟨512 * t + (y 0 : ℕ), by have : (y 0 : ℕ) < 512 := (y 0).isLt; clear * - this ht; omega⟩ (y 1) := by
    blk_ext [idk t]
  rw [ez]
  exact (congrArg _ ey).trans (point_dq m c t ht h (y 0) (y 1))

end Cert.Kernel4Ideal.Conv

end
-- ==== Proof.AdaVal.lean ====
module

public import proofs.«01_k».proof.Proof.Gen.Kernel6Ideal.Value
public import proofs.«01_k».proof.Proof.Gen.Reference6Ideal.Run
public import proofs.«01_k».proof.Proof.MergeOut

@[expose] public section

set_option maxRecDepth 16384

noncomputable section

namespace Cert.Merge

open Idealize.ShloMosaic

/-- A condition vector through silu. -/
def silu {n : ℕ} (v : Fin n → EReal) (i : Fin n) : EReal := v i * Ideal.logistic (v i)

end Cert.Merge

namespace Cert.Reference6Ideal.Ada

open Cert.Reference6Ideal Cert.Reference6Ideal.Gen Cert.Merge Idealize.ShloMosaic Idealize.ShloMosaic.TcCoe Idealize.SL.Sem

/-- The condition vectors one under the other: the samples', the prompt's, and rows of zeros. -/
def conds (a : FVec Ideal S4x1024 .f32) (b : FVec Ideal S1024 .f32) : FVec Ideal S8x1024 .f32 :=
  concatenate S8x1024 0 [⟨S4x1024, a⟩, ⟨S1x1024, broadcastInDim S1x1024 ![1] bcast_S1024_S1x1024_1 b⟩,
    ⟨S3x1024, broadcastInDim S3x1024 ![] bcast_S_S3x1024 (constant S_ .f32 0x00000000#32)⟩] concatenates_S4x1024_S1x1024_S3x1024_S8x1024_d0

def siluR (z : FVec Ideal S8x1024 .f32) : FVec Ideal S8x1024 .f32 :=
  mulf z (Host.divf (broadcastInDim S8x1024 ![] bcast_S_S8x1024 (constant S_ .f32 0x3F800000#32))
    (addf (broadcastInDim S8x1024 ![] bcast_S_S8x1024 (constant S_ .f32 0x3F800000#32)) (Host.exp (Host.negf z))))

theorem silu_val (z : FVec Ideal S8x1024 .f32) (i : Fin 8) (j : Fin 1024) : siluR z (ix2 i j) = silu (fun j => z (ix2 i j)) j := by
  unfold siluR silu Ideal.logistic
  simp only [← one_f32]
  pointwise

/-- The modulation vectors of an array of condition vectors. -/
def MODS (v : FVec Ideal S8x1024 .f32) (w : FVec Ideal S1024x6144 .f32) (b : FVec Ideal S6144 .f32) : FVec Ideal S8x6144 .f32 :=
  addf (Host.dotGeneral dot_S8x1024_S1024x6144_S8x6144_1_0_0_1_n_n none (siluR v) w)
    (broadcastInDim S8x6144 ![0, 1] bcast_S1x6144_S8x6144_0_1 (broadcastInDim S1x6144 ![1] bcast_S6144_S1x6144_1 b))

theorem dot_val (z : FVec Ideal S8x1024 .f32) (w : FVec Ideal S1024x6144 .f32) (i : Fin 8) (j : Fin 6144) :
    Host.dotGeneral dot_S8x1024_S1024x6144_S8x6144_1_0_0_1_n_n none z w (ix2 i j) = proj (fun k => z (ix2 i k)) (fun k j => w (ix2 k j)) j := by
  unfold proj
  pointwise

theorem mods_val (v : FVec Ideal S8x1024 .f32) (w : FVec Ideal S1024x6144 .f32) (b : FVec Ideal S6144 .f32) (i : Fin 8) (j : Fin 6144) :
    MODS v w b (ix2 i j) = proj (silu fun k => v (ix2 i k)) (fun k j => w (ix2 k j)) j + b (ix1 j) := by
  refine Eq.trans ?_ (congrArg (· + b (ix1 j)) ((dot_val (siluR v) w i j).trans (congrArg (proj · (fun k j => w (ix2 k j)) j) (funext fun k => silu_val v i k))))
  unfold MODS
  generalize Host.dotGeneral dot_S8x1024_S1024x6144_S8x6144_1_0_0_1_n_n none (siluR v) w = d
  pointwise

/-- The run's result is that array of the arguments, which stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = MODS (conds (m ((c.tc : Thread nD τ).loc main_arg0)) (m ((c.tc : Thread nD τ).loc main_arg1)))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2⟩) (Value.run m ρ)

end Cert.Reference6Ideal.Ada

namespace Cert.Kernel6Ideal.Ada

open Cert.Kernel6Ideal Cert.Kernel6Ideal.Gen Cert.Merge Idealize.ShloMosaic Idealize.ShloMosaic.TcCoe Idealize.SL.Sem
open Idealize.ShloMosaic.Pipeline (Dat)
open Cert.Kernel2Ideal.Sub (whole2)
open Cert.Reference6Ideal.Ada (conds MODS mods_val)

def siluB (z : FVec Ideal S8x1024 .f32) : FVec Ideal S8x1024 .f32 :=
  mulf z (addf (mulf (broadcast S8x1024 (Scalar.ofBits .f32 0x3F000000#32)) (tanh (mulf (broadcast S8x1024 (Scalar.ofBits .f32 0x3F000000#32)) z)))
    (broadcast S8x1024 (Scalar.ofBits .f32 0x3F000000#32)))

theorem silu_val (z : FVec Ideal S8x1024 .f32) (i : Fin 8) (j : Fin 1024) : siluB z (ix2 i j) = silu (fun j => z (ix2 i j)) j := by
  unfold siluB silu
  pointwise
  rw [half_f32, logistic_tanh]

def dotB (z : FVec Ideal S8x1024 .f32) (w : FVec Ideal S1024x1024 .f32) : FVec Ideal S8x1024 .f32 :=
  matmul dot_S8x1024_S1024x1024_S8x1024_1_0_0_1_n_n none (truncf .bf16 z bitsLt_bf16_f32) (truncf .bf16 w bitsLt_bf16_f32) (constant S8x1024 .f32 0x00000000#32)

theorem dot_val (z : FVec Ideal S8x1024 .f32) (w : FVec Ideal S1024x1024 .f32) (i : Fin 8) (j : Fin 1024) :
    dotB z w (ix2 i j) = proj (fun k => z (ix2 i k)) (fun k j => w (ix2 k j)) j := by
  unfold dotB proj
  pointwise

theorem pay_eq (v : FVec Ideal S8x1024 .f32) (w : FVec Ideal S1024x1024 .f32) (b : FVec Ideal S1x1024 .f32) :
    k0_pay1 v w b = addf (dotB (siluB v) w) (broadcastTo S8x1024 b broadcasts_S1x1024_S8x1024) := by
  unfold k0_pay1 dotB siluB
  simp only [shapeCast_id]

/-- A row of a block of columns. -/
theorem pay_val (v : FVec Ideal S8x1024 .f32) (w : FVec Ideal S1024x1024 .f32) (b : FVec Ideal S1x1024 .f32) (i : Fin 8) (j : Fin 1024) :
    k0_pay1 (F := Ideal) v w b (ix2 i j) = proj (silu fun k => v (ix2 i k)) (fun k j => w (ix2 k j)) j + b (ix2 (0 : Fin 1) j) := by
  rw [pay_eq]
  refine Eq.trans ?_ (congrArg (· + b (ix2 (0 : Fin 1) j)) ((dot_val (siluB v) w i j).trans (congrArg (proj · (fun k j => w (ix2 k j)) j) (funext fun k => silu_val v i k))))
  generalize dotB (siluB v) w = d
  pointwise

theorem out_val (x0 : Vec Ideal S8x1024 .f32) (x1 : Vec Ideal S1024x1024 .f32) (x2 : Vec Ideal S1x1024 .f32) (i : Fin 8) (j : Fin 1024) :
    out0_3 (F := Ideal) x0 x1 x2 (ix2 i j) = proj (silu fun k => x0 (ix2 i k)) (fun k j => x1 (ix2 k j)) j + x2 (ix2 (0 : Fin 1) j) := by
  unfold out0_3
  canon_tiles x h
  have ex : x = ix2 (n0 := 8) (n1 := 1024) (x 0) (x 1) := by blk_ext
  rw [show i = x 0 from Fin.ext h0, show j = x 1 from Fin.ext h1, ex]
  unfold r0_0 r0_1 r0_2
  rw [whole2, whole2, whole2]
  exact pay_val x0 x1 x2 (x 0) (x 1)

variable (m : (ℓ : Loc nD τ sig) → Buf (Elt Ideal) ℓ)

def brow (w : FVec Ideal S6144 .f32) : FVec Ideal S1x6144 .f32 := shapeCast S1x6144 w shapeCasts_S6144_S1x6144

theorem brow_val (w : FVec Ideal S6144 .f32) (j : Fin 6144) : brow w (ix2 (0 : Fin 1) j) = w (ix1 j) := by
  unfold brow
  pointwise

theorem staged_c (c : Dev nD) : V m c main_v2 = conds (m ((c.tc : Thread nD τ).loc main_arg0)) (m ((c.tc : Thread nD τ).loc main_arg1)) := rfl
theorem staged_b (c : Dev nD) : V m c main_v3 = brow (m ((c.tc : Thread nD τ).loc main_arg3)) := rfl

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem c_at (c : Dev nD) (t : Fin cfg0.N) (i : Fin 8) (k : Fin 1024) :
    iblk m c 0 t (ix2 i k) = conds (m ((c.tc : Thread nD τ).loc main_arg0)) (m ((c.tc : Thread nD τ).loc main_arg1)) (ix2 i k) := by
  rw [← staged_c m c]
  blk_ext [iblk, idx t]

theorem w_at (c : Dev nD) (t : Fin cfg0.N) (k j : Fin 1024) (n : Fin 6144) (hn : n.val = 1024 * t + j) :
    iblk m c 1 t (ix2 k j) = m ((c.tc : Thread nD τ).loc main_arg2) (ix2 k n) := by
  rw [← V_main_arg2 m c]
  blk_ext [iblk, idx t]

theorem b_at (c : Dev nD) (t : Fin cfg0.N) (j : Fin 1024) (n : Fin 6144) (hn : n.val = 1024 * t + j) :
    iblk m c 2 t (ix2 (0 : Fin 1) j) = m ((c.tc : Thread nD τ).loc main_arg3) (ix1 n) := by
  refine Eq.trans ?_ (brow_val (m ((c.tc : Thread nD τ).loc main_arg3)) n)
  rw [← staged_b m c]
  blk_ext [iblk, idx t]

/-- The reference's result at device `c`'s arguments. -/
def refAt (c : Dev nD) : FVec Ideal S8x6144 .f32 :=
  MODS (conds (m ((c.tc : Thread nD τ).loc main_arg0)) (m ((c.tc : Thread nD τ).loc main_arg1))) (m ((c.tc : Thread nD τ).loc main_arg2)) (m ((c.tc : Thread nD τ).loc main_arg3))

theorem point (c : Dev nD) (t : Fin cfg0.N) (ht : t.val < 6) (i : Fin 8) (j : Fin 1024) :
    out0_3 (F := Ideal) (iblk m c 0 t) (iblk m c 1 t) (iblk m c 2 t) (ix2 i j) = refAt m c (ix2 i ⟨1024 * t + j, by omega⟩) := by
  rw [out_val]
  unfold refAt
  rw [mods_val, b_at m c t j ⟨1024 * t + j, by omega⟩ rfl]
  unfold proj
  simp only [c_at, fun k => w_at m c t k j ⟨1024 * t + j, by omega⟩ rfl]

/-- The output array is the reference's result. -/
theorem final (c : Dev nD) : (dats m 0 c).arrAt 3 cfg0.N = refAt m c := by
  refine (dats m 0 c).arrAt_eq_of_covers 3 _ (by decide +kernel) fun t _ y => ?_
  have ht : t.val < 6 := lt_of_lt_of_eq t.isLt (by decide +kernel)
  blk_simp
  rw [after0_3]
  have ey : y = ix2 (n0 := 8) (n1 := 1024) (y 0) (y 1) := by
    blk_ext
  have ez : (win0_3.blk t).view.emb y = ix2 (n0 := 8) (n1 := 6144) (y 0) ⟨1024 * t + (y 1 : ℕ), by have : (y 1 : ℕ) < 1024 := (y 1).isLt; clear * - this ht; omega⟩ := by
    blk_ext [idx t]
  rw [ez]
  exact (congrArg _ ey).trans (point m c t ht (y 0) (y 1))

end Cert.Kernel6Ideal.Ada

end
-- ==== Proof.SampOut.lean ====
module

public import proofs.«01_k».proof.Proof.Gen.Kernel7Ideal.Value
public import proofs.«01_k».proof.Proof.InOut

@[expose] public section

set_option maxRecDepth 16384

noncomputable section

namespace Cert.Kernel7Ideal.Samp

open Cert.Kernel7Ideal Cert.Kernel7Ideal.Gen Cert.Merge Idealize.ShloMosaic Idealize.ShloMosaic.TcCoe Idealize.SL.Sem
open Cert.Kernel2Ideal.Sub (ld_at whole2 whole3)
open Cert.Kernel4Ideal.In (normB prow cols dot_row)

/-! The samples' projection block by block: the prompt's steps again, and the rotary embedding of the query and key columns. -/

theorem p1 (x : Vec Ideal S1x6x1024 .f32) : k0_pay1 (F := Ideal) x = Cert.Kernel4Ideal.Gen.k0_pay3 (F := Ideal) x := rfl

theorem p6 (v : FVec Ideal S6x1024 .f32) (x : FVec Ideal S256x1024 .f32) (w : FVec Ideal S1x1024 .f32) : k0_pay6 v x w = normB v x w :=
  Cert.Kernel4Ideal.In.p8 v x w

theorem p47 (v : FVec Ideal S6x1024 .f32) (x : FVec Ideal S256x1024 .f32) (w : FVec Ideal S1x1024 .f32) : k0_pay47 v x w = normB v x w :=
  Cert.Kernel4Ideal.In.p8 v x w

theorem p57 (h : FVec Ideal S256x1024 .bf16) (w : FVec Ideal S1024x1536 .bf16) (a b : FVec Ideal S256x1024 .f32) :
    k0_pay57 h w a b = k0_pay21 (k0_pay18 h w) k0_pay19 (k0_pay20 h w) a b := rfl

/-- The lane that a query or key lane is paired with. -/
def mate (j : ℕ) : ℕ := if j % 32 < 16 then j + 16 else j - 16

theorem mate_lt (j : ℕ) (h : j < 1024) : mate j < 1024 := by
  unfold mate
  split <;> omega

theorem first_at (i : Fin 256) (j : Fin 1024) : k0_pay19 (ix2 i j) = if j.val % 32 < 16 then 1#1 else 0#1 := by
  revert j
  unfold k0_pay19
  pointwise
  decide +kernel

theorem rope_at (T C S : FVec Ideal S256x1024 .f32) (i : Fin 256) (j : Fin 1024) :
    k0_pay21 T k0_pay19 (dynamicRotate 1 1008#32 none T rotates_S256x1024_d1) C S (ix2 i j)
      = T (ix2 i j) * C (ix2 i j) + T (ix2 i ⟨mate j, mate_lt j j.isLt⟩) * S (ix2 i j) := by
  unfold k0_pay21
  simp only [shapeCast_id]
  pointwise
  rw [first_at]
  unfold mate
  by_cases h : j.val % 32 < 16
  · simp only [if_pos h]
    show _ + T (ix2 i _) * _ = _
    congr 4
    exact Fin.ext (by show (j.val + 1024 - 1008) % 1024 = j.val + 16; omega)
  · simp only [if_neg h]
    show _ + T (ix2 i _) * _ = _
    congr 4
    exact Fin.ext (by show (j.val + 1024 - 16) % 1024 = j.val - 16; omega)

variable (x0 : Vec Ideal S512x1024 .f32) (x1 : Vec Ideal S1x6x1024 .f32) (x2 : Vec Ideal S1x1024 .f32) (x3 : Vec Ideal S1024x5632 .bf16) (x4 : Vec Ideal S1024x128 .bf16)
  (x8 x9 : Vec Ideal S512x1024 .f32)

/-- Entry `c` of row `r` of the query, key and value columns, the first two turned by the angles of the tables. -/
def rcol (r : Fin 512) (c : Fin 1536) : EReal :=
  if h : c.val < 1024 then
    prow x0 x1 x2 x3 x4 r ⟨c, by omega⟩ * x8 (ix2 r ⟨c, h⟩) + prow x0 x1 x2 x3 x4 r ⟨mate c, lt_trans (mate_lt _ h) (by omega)⟩ * x9 (ix2 r ⟨c, h⟩)
  else prow x0 x1 x2 x3 x4 r ⟨c, by omega⟩

def rcols (y : S512x1536.Idx) : EReal := rcol x0 x1 x2 x3 x4 x8 x9 (y 0) (y 1)

theorem p17 (h : FVec Ideal S256x1024 .bf16) (w : FVec Ideal S1024x1536 .bf16) : k0_pay17 h w = Cert.Kernel4Ideal.Gen.k0_pay12 h w := rfl

theorem qk_row (o : ℕ) (inb : ∀ e, (![o, 0] : Fin 2 → ℕ) e + (![256, 1024] : Fin 2 → ℕ) e ≤ (![512, 1024] : Fin 2 → ℕ) e) (i : Fin 256) (j : Fin 1024) (r : Fin 512) (c : Fin 5664)
    (hr : (r : ℕ) = o + i) (hc : (c : ℕ) = j) :
    k0_pay18 (normB (k0_pay1 x1) (View.ld x0 (Rect.unit (s := S512x1024) ![o, 0] ![256, 1024] inb)) x2) (View.ld x3 (Rect.unit ![0, 0] ![1024, 1536] inb_S1024x5632_S1024x1536_0_0)) (ix2 i j)
      = prow x0 x1 x2 x3 x4 r c := by
  refine Eq.trans ?_ (dot_row x0 x1 x2 x3 x4 o inb i ⟨j, by omega⟩ r c hr hc)
  unfold k0_pay18
  rw [p17, p1]
  pointwise
  blk_ext

theorem rope_row (o : ℕ) (inb : ∀ e, (![o, 0] : Fin 2 → ℕ) e + (![256, 1024] : Fin 2 → ℕ) e ≤ (![512, 1024] : Fin 2 → ℕ) e) (i : Fin 256) (j : Fin 1024) (r : Fin 512) (c : Fin 1536)
    (hr : (r : ℕ) = o + i) (hc : (c : ℕ) = j) :
    k0_pay21 (k0_pay18 (normB (k0_pay1 x1) (View.ld x0 (Rect.unit (s := S512x1024) ![o, 0] ![256, 1024] inb)) x2) (View.ld x3 (Rect.unit ![0, 0] ![1024, 1536] inb_S1024x5632_S1024x1536_0_0))) k0_pay19
        (k0_pay20 (normB (k0_pay1 x1) (View.ld x0 (Rect.unit (s := S512x1024) ![o, 0] ![256, 1024] inb)) x2) (View.ld x3 (Rect.unit ![0, 0] ![1024, 1536] inb_S1024x5632_S1024x1536_0_0)))
        (View.ld x8 (Rect.unit (s := S512x1024) ![o, 0] ![256, 1024] inb)) (View.ld x9 (Rect.unit (s := S512x1024) ![o, 0] ![256, 1024] inb)) (ix2 i j)
      = rcol x0 x1 x2 x3 x4 x8 x9 r c := by
  refine (rope_at _ _ _ i j).trans ?_
  have hj : c.val < 1024 := by omega
  unfold rcol
  rw [dif_pos hj, qk_row x0 x1 x2 x3 x4 o inb i j r ⟨c, by omega⟩ hr hc, qk_row x0 x1 x2 x3 x4 o inb i ⟨mate j, mate_lt _ j.isLt⟩ r ⟨mate c, lt_trans (mate_lt _ hj) (by omega)⟩ hr (congrArg mate hc),
    ld_at x8 o 0 inb i j r ⟨c, hj⟩ hr (hc.trans (Nat.zero_add _).symm), ld_at x9 o 0 inb i j r ⟨c, hj⟩ hr (hc.trans (Nat.zero_add _).symm)]

theorem rope_piece (o : ℕ) (inb : ∀ e, (![o, 0] : Fin 2 → ℕ) e + (![256, 1024] : Fin 2 → ℕ) e ≤ (![512, 1024] : Fin 2 → ℕ) e)
    (inb' : ∀ e, (![o, 0] : Fin 2 → ℕ) e + (![256, 1024] : Fin 2 → ℕ) e ≤ (![512, 1536] : Fin 2 → ℕ) e) (y : S256x1024.Idx) :
    k0_pay21 (k0_pay18 (normB (k0_pay1 x1) (View.ld x0 (Rect.unit (s := S512x1024) ![o, 0] ![256, 1024] inb)) x2) (View.ld x3 (Rect.unit ![0, 0] ![1024, 1536] inb_S1024x5632_S1024x1536_0_0))) k0_pay19
        (k0_pay20 (normB (k0_pay1 x1) (View.ld x0 (Rect.unit (s := S512x1024) ![o, 0] ![256, 1024] inb)) x2) (View.ld x3 (Rect.unit ![0, 0] ![1024, 1536] inb_S1024x5632_S1024x1536_0_0)))
        (View.ld x8 (Rect.unit (s := S512x1024) ![o, 0] ![256, 1024] inb)) (View.ld x9 (Rect.unit (s := S512x1024) ![o, 0] ![256, 1024] inb)) y
      = rcols x0 x1 x2 x3 x4 x8 x9 ((Rect.unit (s := S512x1536) ![o, 0] ![256, 1024] inb').emb y) :=
  (congrArg _ (eq_ix2 (n0 := 256) (n1 := 1024) y)).trans (rope_row x0 x1 x2 x3 x4 x8 x9 o inb _ _ _ _ (by show o + 1 * (y 0).val = o + (y 0).val; omega)
    (by show 0 + 1 * (y 1).val = (y 1).val; omega))

theorem value_piece (o : ℕ) (inb : ∀ e, (![o, 0] : Fin 2 → ℕ) e + (![256, 1024] : Fin 2 → ℕ) e ≤ (![512, 1024] : Fin 2 → ℕ) e)
    (inb' : ∀ e, (![o, 1024] : Fin 2 → ℕ) e + (![256, 512] : Fin 2 → ℕ) e ≤ (![512, 1536] : Fin 2 → ℕ) e) (y : S256x512.Idx) :
    k0_pay22 (k0_pay17 (normB (k0_pay1 x1) (View.ld x0 (Rect.unit (s := S512x1024) ![o, 0] ![256, 1024] inb)) x2) (View.ld x3 (Rect.unit ![0, 0] ![1024, 1536] inb_S1024x5632_S1024x1536_0_0))) y
      = rcols x0 x1 x2 x3 x4 x8 x9 ((Rect.unit (s := S512x1536) ![o, 1024] ![256, 512] inb').emb y) := by
  have hy : (y 1).val < 512 := (y 1).isLt
  unfold rcols rcol
  rw [dif_neg (by show ¬ (1024 + 1 * (y 1).val < 1024); omega)]
  refine Eq.trans ?_ (dot_row x0 x1 x2 x3 x4 o inb (y 0) ⟨1024 + (y 1).val, by omega⟩ _ _ (by show o + 1 * (y 0).val = o + (y 0).val; omega)
    (by show 1024 + 1 * (y 1).val = 1024 + (y 1).val; omega))
  unfold k0_pay22
  rw [p17, p1]
  pointwise
  blk_ext

section
variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x5632 .bf16) (harg4 : arg4.IsWhole)
  (arg5 : Memref sig .tc .vmem S1024x128 .bf16) (harg5 : arg5.IsWhole) (arg6 : Memref sig .tc .vmem S8x1536 .f32) (harg6 : arg6.IsWhole) (arg7 : Memref sig .tc .vmem S8x1024 .f32) (harg7 : arg7.IsWhole) (arg8 : Memref sig .tc .vmem S8x1024 .f32) (harg8 : arg8.IsWhole)
  (arg9 : Memref sig .tc .vmem S512x1024 .f32) (harg9 : arg9.IsWhole) (arg10 : Memref sig .tc .vmem S512x1024 .f32) (harg10 : arg10.IsWhole) (arg11 : Memref sig .tc .vmem S512x1536 .bf16) (harg11 : arg11.IsWhole) (arg12 : Memref sig .tc .vmem S512x1536 .bf16) (harg12 : arg12.IsWhole)
  (arg13 : Memref sig .tc .vmem S512x2560 .bf16) (harg13 : arg13.IsWhole) (arg14 : Memref sig .tc .vmem S512x128 .f32) (harg14 : arg14.IsWhole)
  (x5 : Vec Ideal S8x1536 .f32) (x6 x7 : Vec Ideal S8x1024 .f32)

theorem out_qkv : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = rcols x0 x1 x2 x3 x4 x8 x9 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces (rcols x0 x1 x2 x3 x4 x8 x9) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg9.read_unread, harg10.read_unread, whole2, whole3, p6, p47, p57, (rfl : k0_pay56 (F := Ideal) = k0_pay17)]
  rintro p hp j
  simp only [List.mem_cons, List.mem_nil_iff, or_false] at hp
  rcases hp with rfl | rfl | rfl | rfl
  · exact value_piece x0 x1 x2 x3 x4 x8 x9 256 inb_S512x1024_S256x1024_256_0 inb_S512x1536_S256x512_256_1024 j
  · exact rope_piece x0 x1 x2 x3 x4 x8 x9 256 inb_S512x1024_S256x1024_256_0 inb_S512x1536_S256x1024_256_0 j
  · exact value_piece x0 x1 x2 x3 x4 x8 x9 0 inb_S512x1024_S256x1024_0_0 inb_S512x1536_S256x512_0_1024 j
  · exact rope_piece x0 x1 x2 x3 x4 x8 x9 0 inb_S512x1024_S256x1024_0_0 inb_S512x1536_S256x1024_0_0 j

theorem out_gz : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = cols 3104 (by omega) x0 x1 x2 x3 x4 := by
  funext y
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces (cols 3104 (by omega) x0 x1 x2 x3 x4) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg9.read_unread, harg10.read_unread, whole2, whole3, p6, p47, p57, (rfl : k0_pay56 (F := Ideal) = k0_pay17)]
  rintro p hp j
  simp only [List.mem_cons, List.mem_nil_iff, or_false] at hp
  rcases hp with rfl | rfl
  · exact Cert.Kernel4Ideal.In.gates_piece x0 x1 x2 x3 x4 256 inb_S512x1024_S256x1024_256_0 inb_S512x2560_S256x2560_256_0 j
  · exact Cert.Kernel4Ideal.In.gates_piece x0 x1 x2 x3 x4 0 inb_S512x1024_S256x1024_0_0 inb_S512x2560_S256x2560_0_0 j

theorem out_ba : out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = cols 3072 (by omega) x0 x1 x2 x3 x4 := by
  funext y
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces (cols 3072 (by omega) x0 x1 x2 x3 x4) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg9.read_unread, harg10.read_unread, whole2, whole3, p6, p47, p57, (rfl : k0_pay56 (F := Ideal) = k0_pay17)]
  rintro p hp j
  simp only [List.mem_cons, List.mem_nil_iff, or_false] at hp
  rcases hp with rfl | rfl
  · exact Cert.Kernel4Ideal.In.beta_piece x0 x1 x2 x3 x4 256 inb_S512x1024_S256x1024_256_0 inb_S512x128_S256x128_256_0 j
  · exact Cert.Kernel4Ideal.In.beta_piece x0 x1 x2 x3 x4 0 inb_S512x1024_S256x1024_0_0 inb_S512x128_S256x128_0_0 j

end

end Cert.Kernel7Ideal.Samp

end
-- ==== Proof.SampRef.lean ====
module

public import proofs.«01_k».proof.Proof.Gen.Reference7Ideal.Run
public import proofs.«01_k».proof.Proof.MergeRef3

@[expose] public section

set_option maxRecDepth 16384

noncomputable section

namespace Cert.Reference7Ideal.Samp

open Cert.Reference7Ideal Cert.Reference7Ideal.Gen Cert.Merge Idealize.ShloMosaic Idealize.ShloMosaic.TcCoe Idealize.SL.Sem
open Cert.Reference3Ideal.Merge (modsR mods_val rmsR modR mod_val)

/-! The reference's three results, each as one function of the projected tokens, and their entries. -/

/-- One of the samples' six modulation vectors. -/
def vec0 (m : FVec Ideal S8x6x1024 .f32) : FVec Ideal S4x1x1024 .f32 :=
  shapeCast _ (extractStridedSlice S4x1x1x1024 ![0, 0, 0, 0] (modsR m) slices_S4x1x6x1024_S4x1x1x1024_0_0_0_0) shapeCasts_S4x1x1x1024_S4x1x1024

theorem vec0_val (m : FVec Ideal S8x6x1024 .f32) (b : Fin 4) (j : Fin 1024) : vec0 m (ix3 b (0 : Fin 1) j) = m (ix3 (⟨b, by omega⟩ : Fin 8) (0 : Fin 6) j) := by
  refine Eq.trans ?_ (mods_val m b 0 j)
  unfold vec0
  pointwise
  blk_ext

def vec1 (m : FVec Ideal S8x6x1024 .f32) : FVec Ideal S4x1x1024 .f32 :=
  shapeCast _ (extractStridedSlice S4x1x1x1024 ![0, 0, 1, 0] (modsR m) slices_S4x1x6x1024_S4x1x1x1024_0_0_1_0) shapeCasts_S4x1x1x1024_S4x1x1024

theorem vec1_val (m : FVec Ideal S8x6x1024 .f32) (b : Fin 4) (j : Fin 1024) : vec1 m (ix3 b (0 : Fin 1) j) = m (ix3 (⟨b, by omega⟩ : Fin 8) (1 : Fin 6) j) := by
  refine Eq.trans ?_ (mods_val m b 1 j)
  unfold vec1
  pointwise
  blk_ext

/-- The tokens projected. -/
def PROJ (x : FVec Ideal S4x1024x1024 .f32) (m : FVec Ideal S8x6x1024 .f32) (w : FVec Ideal S1024 .f32) (wi : FVec Ideal S1024x5664 .f32) : FVec Ideal S4x1024x5664 .f32 :=
  Host.dotGeneral dot_S4x1024x1024_S1024x5664_S4x1024x5664_2_0_01_1_n_n none (modR (rmsR x w) (vec1 m) (vec0 m)) wi

theorem dot_val (h : FVec Ideal S4x1024x1024 .f32) (w : FVec Ideal S1024x5664 .f32) (b : Fin 4) (t : Fin 1024) (j : Fin 5664) :
    (Host.dotGeneral dot_S4x1024x1024_S1024x5664_S4x1024x5664_2_0_01_1_n_n none h w : FVec Ideal S4x1024x5664 .f32) (ix3 b t j) = proj (fun k => h (ix3 b t k)) (fun k j => w (ix2 k j)) j := by
  unfold proj
  pointwise

theorem proj_val (x : FVec Ideal S4x1024x1024 .f32) (m : FVec Ideal S8x6x1024 .f32) (w : FVec Ideal S1024 .f32) (wi : FVec Ideal S1024x5664 .f32) (b : Fin 4) (t : Fin 1024) (j : Fin 5664) :
    PROJ x m w wi (ix3 b t j) = proj (pre (fun j => x (ix3 b t j)) (fun j => w (ix1 j)) (fun j => m (ix3 (⟨b, by omega⟩ : Fin 8) (1 : Fin 6) j)) (fun j => m (ix3 (⟨b, by omega⟩ : Fin 8) (0 : Fin 6) j)))
      (fun k j => wi (ix2 k j)) j := by
  unfold PROJ
  rw [dot_val, mod_val]
  simp only [vec0_val, vec1_val]

def GATES (p : FVec Ideal S4x1024x5664 .f32) : FVec Ideal S4096x2560 .bf16 :=
  truncf .bf16 (shapeCast S4096x2560 (concatenate S4x1024x2560 2 [⟨S4x1024x512, extractStridedSlice S4x1024x512 ![0, 0, 3104] p slices_S4x1024x5664_S4x1024x512_0_0_3104⟩,
    ⟨S4x1024x1024, extractStridedSlice S4x1024x1024 ![0, 0, 3616] p slices_S4x1024x5664_S4x1024x1024_0_0_3616⟩,
    ⟨S4x1024x1024, extractStridedSlice S4x1024x1024 ![0, 0, 4640] p slices_S4x1024x5664_S4x1024x1024_0_0_4640⟩] concatenates_S4x1024x512_S4x1024x1024_S4x1024x1024_S4x1024x2560_d2) shapeCasts_S4x1024x2560_S4096x2560) bitsLt_bf16_f32

def BETA (p : FVec Ideal S4x1024x5664 .f32) : FVec Ideal S4096x128 .f32 :=
  shapeCast S4096x128 (concatenate S4x1024x128 2 [⟨S4x1024x16, extractStridedSlice S4x1024x16 ![0, 0, 3072] p slices_S4x1024x5664_S4x1024x16_0_0_3072⟩,
    ⟨S4x1024x16, extractStridedSlice S4x1024x16 ![0, 0, 3088] p slices_S4x1024x5664_S4x1024x16_0_0_3088⟩,
    ⟨S4x1024x96, extractStridedSlice S4x1024x96 ![0, 0, 0] (extractStridedSlice S4x1024x512 ![0, 0, 3104] p slices_S4x1024x5664_S4x1024x512_0_0_3104) slices_S4x1024x512_S4x1024x96_0_0_0⟩]
    concatenates_S4x1024x16_S4x1024x16_S4x1024x96_S4x1024x128_d2) shapeCasts_S4x1024x128_S4096x128

theorem gates_val (p : FVec Ideal S4x1024x5664 .f32) (n : Fin 4096) (j : Fin 2560) :
    GATES p (ix2 n j) = p (ix3 ⟨n / 1024, by omega⟩ ⟨n % 1024, by omega⟩ ⟨3104 + j, by omega⟩) := by
  unfold GATES
  pointwise
  blk_point

theorem beta_val (p : FVec Ideal S4x1024x5664 .f32) (n : Fin 4096) (j : Fin 128) :
    BETA p (ix2 n j) = p (ix3 ⟨n / 1024, by omega⟩ ⟨n % 1024, by omega⟩ ⟨3072 + j, by omega⟩) := by
  unfold BETA
  pointwise
  blk_point

/-- A position's angles, over the heads' axis. -/
def wide (a : FVec Ideal S1024x16 .f32) : FVec Ideal S4x1024x8x16 .f32 :=
  broadcastInDim S4x1024x8x16 ![0, 1, 2, 3] bcast_S1x1024x1x16_S4x1024x8x16_0_1_2_3 (broadcastInDim S1x1024x1x16 ![1, 3] bcast_S1024x16_S1x1024x1x16_1_3 a)

theorem wide_val (a : FVec Ideal S1024x16 .f32) (b : Fin 4) (t : Fin 1024) (h : Fin 8) (j : Fin 16) : wide a (ix4 b t h j) = a (ix2 t j) := by
  unfold wide
  pointwise

/-- 32 lanes of every head turned by the angles with cosines `c` and sines `s`. -/
def ROT (x : FVec Ideal S4x1024x8x32 .f32) (c s : FVec Ideal S1024x16 .f32) : FVec Ideal S4x1024x8x32 .f32 :=
  concatenate S4x1024x8x32 3 [⟨S4x1024x8x16, subf (mulf (extractStridedSlice S4x1024x8x16 ![0, 0, 0, 0] x slices_S4x1024x8x32_S4x1024x8x16_0_0_0_0) (wide c))
      (mulf (extractStridedSlice S4x1024x8x16 ![0, 0, 0, 16] x slices_S4x1024x8x32_S4x1024x8x16_0_0_0_16) (wide s))⟩,
    ⟨S4x1024x8x16, addf (mulf (extractStridedSlice S4x1024x8x16 ![0, 0, 0, 0] x slices_S4x1024x8x32_S4x1024x8x16_0_0_0_0) (wide s))
      (mulf (extractStridedSlice S4x1024x8x16 ![0, 0, 0, 16] x slices_S4x1024x8x32_S4x1024x8x16_0_0_0_16) (wide c))⟩] concatenates_S4x1024x8x16_S4x1024x8x16_S4x1024x8x32_d3

theorem rot_lo (x : FVec Ideal S4x1024x8x32 .f32) (c s : FVec Ideal S1024x16 .f32) (b : Fin 4) (t : Fin 1024) (h : Fin 8) (j : Fin 16) :
    ROT x c s (ix4 b t h ⟨j, by omega⟩) = x (ix4 b t h ⟨j, by omega⟩) * c (ix2 t j) - x (ix4 b t h ⟨16 + j, by omega⟩) * s (ix2 t j) := by
  rw [← wide_val c b t h j, ← wide_val s b t h j]
  unfold ROT
  pointwise

theorem rot_hi (x : FVec Ideal S4x1024x8x32 .f32) (c s : FVec Ideal S1024x16 .f32) (b : Fin 4) (t : Fin 1024) (h : Fin 8) (j : Fin 16) :
    ROT x c s (ix4 b t h ⟨16 + j, by omega⟩) = x (ix4 b t h ⟨j, by omega⟩) * s (ix2 t j) + x (ix4 b t h ⟨16 + j, by omega⟩) * c (ix2 t j) := by
  rw [← wide_val c b t h j, ← wide_val s b t h j]
  unfold ROT
  pointwise

/-- The columns from `o` on as 8 heads of 64 lanes. -/
def SPLIT (o : ℕ) (hs : S4x1024x5664.Slices ![0, 0, o] S4x1024x512) (p : FVec Ideal S4x1024x5664 .f32) : FVec Ideal S4x1024x8x64 .f32 :=
  shapeCast _ (extractStridedSlice S4x1024x512 ![0, 0, o] p hs) shapeCasts_S4x1024x512_S4x1024x8x64

theorem split_val (o : ℕ) (ho : o + 512 ≤ 5664) (hs : S4x1024x5664.Slices ![0, 0, o] S4x1024x512) (p : FVec Ideal S4x1024x5664 .f32) (b : Fin 4) (t : Fin 1024) (h : Fin 8) (j : Fin 64) :
    SPLIT o hs p (ix4 b t h j) = p (ix3 b t ⟨o + (64 * h + j), by omega⟩) := by
  unfold SPLIT
  pointwise
  blk_ext

/-- 32 lanes and 32 lanes of every head side by side, all heads in one row. -/
def JOIN (u v : FVec Ideal S4x1024x8x32 .f32) : FVec Ideal S4x1024x512 .f32 :=
  shapeCast _ (concatenate S4x1024x8x64 3 [⟨S4x1024x8x32, u⟩, ⟨S4x1024x8x32, v⟩] concatenates_S4x1024x8x32_S4x1024x8x32_S4x1024x8x64_d3) shapeCasts_S4x1024x8x64_S4x1024x512

theorem join_lo (u v : FVec Ideal S4x1024x8x32 .f32) (b : Fin 4) (t : Fin 1024) (h : Fin 8) (j : Fin 32) :
    JOIN u v (ix3 b t ⟨64 * h + j, by omega⟩) = u (ix4 b t h j) := by
  unfold JOIN
  pointwise
  blk_point
  exfalso
  omega

theorem join_hi (u v : FVec Ideal S4x1024x8x32 .f32) (b : Fin 4) (t : Fin 1024) (h : Fin 8) (j : Fin 32) :
    JOIN u v (ix3 b t ⟨64 * h + (32 + j), by omega⟩) = v (ix4 b t h j) := by
  unfold JOIN
  pointwise
  blk_point
  exfalso
  omega

/-- The rotary embedding of 8 heads: 32 lanes by the row, 32 by the column. -/
def ROPE (x : FVec Ideal S4x1024x8x64 .f32) (cr sr cc sc : FVec Ideal S1024x16 .f32) : FVec Ideal S4x1024x512 .f32 :=
  JOIN (ROT (extractStridedSlice S4x1024x8x32 ![0, 0, 0, 0] x slices_S4x1024x8x64_S4x1024x8x32_0_0_0_0) cr sr)
    (ROT (extractStridedSlice S4x1024x8x32 ![0, 0, 0, 32] x slices_S4x1024x8x64_S4x1024x8x32_0_0_0_32) cc sc)

theorem lanes_r (x : FVec Ideal S4x1024x8x64 .f32) (b : Fin 4) (t : Fin 1024) (h : Fin 8) (j : Fin 32) :
    extractStridedSlice S4x1024x8x32 ![0, 0, 0, 0] x slices_S4x1024x8x64_S4x1024x8x32_0_0_0_0 (ix4 b t h j) = x (ix4 b t h ⟨j, by omega⟩) := by
  pointwise

theorem lanes_c (x : FVec Ideal S4x1024x8x64 .f32) (b : Fin 4) (t : Fin 1024) (h : Fin 8) (j : Fin 32) :
    extractStridedSlice S4x1024x8x32 ![0, 0, 0, 32] x slices_S4x1024x8x64_S4x1024x8x32_0_0_0_32 (ix4 b t h j) = x (ix4 b t h ⟨32 + j, by omega⟩) := by
  pointwise

/-- A turned entry: the `e`-th of 8 heads' lanes that begin at column `o` of a token's projected row `f`. -/
def lane (f : Fin 5664 → Ideal .f32) (cr sr cc sc : Fin 16 → Ideal .f32) (o : ℕ) (ho : o + 512 ≤ 5664) (e : Fin 512) : Ideal .f32 :=
  if h0 : e.val % 64 < 16 then f ⟨o + e, by omega⟩ * cr ⟨e.val % 16, by omega⟩ - f ⟨o + e + 16, by omega⟩ * sr ⟨e.val % 16, by omega⟩
  else if h1 : e.val % 64 < 32 then f ⟨o + e - 16, by omega⟩ * sr ⟨e.val % 16, by omega⟩ + f ⟨o + e, by omega⟩ * cr ⟨e.val % 16, by omega⟩
  else if h2 : e.val % 64 < 48 then f ⟨o + e, by omega⟩ * cc ⟨e.val % 16, by omega⟩ - f ⟨o + e + 16, by omega⟩ * sc ⟨e.val % 16, by omega⟩
  else f ⟨o + e - 16, by omega⟩ * sc ⟨e.val % 16, by omega⟩ + f ⟨o + e, by omega⟩ * cc ⟨e.val % 16, by omega⟩

theorem lane_val (o : ℕ) (ho : o + 512 ≤ 5664) (hs : S4x1024x5664.Slices ![0, 0, o] S4x1024x512) (p : FVec Ideal S4x1024x5664 .f32) (cr sr cc sc : FVec Ideal S1024x16 .f32)
    (b : Fin 4) (t : Fin 1024) (e : Fin 512) :
    ROPE (SPLIT o hs p) cr sr cc sc (ix3 b t e)
      = lane (fun j => p (ix3 b t j)) (fun j => cr (ix2 t j)) (fun j => sr (ix2 t j)) (fun j => cc (ix2 t j)) (fun j => sc (ix2 t j)) o ho e := by
  have hh : e.val / 64 < 8 := by omega
  unfold ROPE lane
  dsimp only
  split
  · rename_i h0
    refine (congrArg (fun e => JOIN _ _ (ix3 b t e)) (show e = ⟨64 * (⟨e.val / 64, hh⟩ : Fin 8) + (⟨(⟨e.val % 16, by omega⟩ : Fin 16), by omega⟩ : Fin 32), by omega⟩ from Fin.ext (by show e.val = 64 * (e.val / 64) + e.val % 16; omega))).trans ?_
    rw [join_lo, rot_lo, lanes_r, lanes_r, split_val o ho, split_val o ho]
    dsimp only
    blk_point
  · split
    · rename_i h0 h1
      refine (congrArg (fun e => JOIN _ _ (ix3 b t e)) (show e = ⟨64 * (⟨e.val / 64, hh⟩ : Fin 8) + (⟨16 + (⟨e.val % 16, by omega⟩ : Fin 16), by omega⟩ : Fin 32), by omega⟩ from Fin.ext (by show e.val = 64 * (e.val / 64) + (16 + e.val % 16); omega))).trans ?_
      rw [join_lo, rot_hi, lanes_r, lanes_r, split_val o ho, split_val o ho]
      dsimp only
      blk_point
    · split
      · rename_i h0 h1 h2
        refine (congrArg (fun e => JOIN _ _ (ix3 b t e)) (show e = ⟨64 * (⟨e.val / 64, hh⟩ : Fin 8) + (32 + (⟨(⟨e.val % 16, by omega⟩ : Fin 16), by omega⟩ : Fin 32)), by omega⟩ from Fin.ext (by show e.val = 64 * (e.val / 64) + (32 + e.val % 16); omega))).trans ?_
        rw [join_hi, rot_lo, lanes_c, lanes_c, split_val o ho, split_val o ho]
        dsimp only
        blk_point
      · rename_i h0 h1 h2
        refine (congrArg (fun e => JOIN _ _ (ix3 b t e)) (show e = ⟨64 * (⟨e.val / 64, hh⟩ : Fin 8) + (32 + (⟨16 + (⟨e.val % 16, by omega⟩ : Fin 16), by omega⟩ : Fin 32)), by omega⟩ from Fin.ext (by show e.val = 64 * (e.val / 64) + (32 + (16 + e.val % 16)); omega))).trans ?_
        rw [join_hi, rot_hi, lanes_c, lanes_c, split_val o ho, split_val o ho]
        dsimp only
        blk_point

/-- Three arrays of 512 columns side by side, the tokens in one column. -/
def CAT (u v w : FVec Ideal S4x1024x512 .f32) : FVec Ideal S4096x1536 .bf16 :=
  truncf .bf16 (shapeCast S4096x1536 (concatenate S4x1024x1536 2 [⟨S4x1024x512, u⟩, ⟨S4x1024x512, v⟩, ⟨S4x1024x512, w⟩]
    concatenates_S4x1024x512_S4x1024x512_S4x1024x512_S4x1024x1536_d2) shapeCasts_S4x1024x1536_S4096x1536) bitsLt_bf16_f32

theorem cat_val (u v w : FVec Ideal S4x1024x512 .f32) (n : Fin 4096) (j : Fin 1536) :
    CAT u v w (ix2 n j) = if h0 : j.val < 512 then u (ix3 ⟨n / 1024, by omega⟩ ⟨n % 1024, by omega⟩ ⟨j, h0⟩)
      else if h1 : j.val < 1024 then v (ix3 ⟨n / 1024, by omega⟩ ⟨n % 1024, by omega⟩ ⟨j - 512, by omega⟩)
      else w (ix3 ⟨n / 1024, by omega⟩ ⟨n % 1024, by omega⟩ ⟨j - 1024, by omega⟩) := by
  unfold CAT
  pointwise
  blk_point
  all_goals
    exfalso
    omega

def QKV (p : FVec Ideal S4x1024x5664 .f32) (cr sr cc sc : FVec Ideal S1024x16 .f32) : FVec Ideal S4096x1536 .bf16 :=
  CAT (ROPE (SPLIT 0 slices_S4x1024x5664_S4x1024x512_0_0_0 p) cr sr cc sc) (ROPE (SPLIT 512 slices_S4x1024x5664_S4x1024x512_0_0_512 p) cr sr cc sc)
    (extractStridedSlice S4x1024x512 ![0, 0, 1024] p slices_S4x1024x5664_S4x1024x512_0_0_1024)

theorem qkv_val (p : FVec Ideal S4x1024x5664 .f32) (cr sr cc sc : FVec Ideal S1024x16 .f32) (n : Fin 4096) (j : Fin 1536) :
    QKV p cr sr cc sc (ix2 n j)
      = if h0 : j.val < 512 then lane (fun k => p (ix3 ⟨n / 1024, by omega⟩ ⟨n % 1024, by omega⟩ k)) (fun k => cr (ix2 ⟨n % 1024, by omega⟩ k)) (fun k => sr (ix2 ⟨n % 1024, by omega⟩ k))
          (fun k => cc (ix2 ⟨n % 1024, by omega⟩ k)) (fun k => sc (ix2 ⟨n % 1024, by omega⟩ k)) 0 (by omega) ⟨j, h0⟩
        else if h1 : j.val < 1024 then lane (fun k => p (ix3 ⟨n / 1024, by omega⟩ ⟨n % 1024, by omega⟩ k)) (fun k => cr (ix2 ⟨n % 1024, by omega⟩ k)) (fun k => sr (ix2 ⟨n % 1024, by omega⟩ k))
          (fun k => cc (ix2 ⟨n % 1024, by omega⟩ k)) (fun k => sc (ix2 ⟨n % 1024, by omega⟩ k)) 512 (by omega) ⟨j - 512, by omega⟩
        else p (ix3 ⟨n / 1024, by omega⟩ ⟨n % 1024, by omega⟩ ⟨j, by omega⟩) := by
  unfold QKV
  rw [cat_val]
  split
  · exact lane_val 0 (by omega) _ p cr sr cc sc _ _ _
  · split
    · exact lane_val 512 (by omega) _ p cr sr cc sc _ _ _
    · pointwise
      blk_point

/-- The rows' and the columns' angles: no argument enters them. -/
def angR (V0 : Valuation τ sig (Elt Ideal)) : FVec Ideal S1024x16 .f32 := Value.res_main_v50 V0
def angC (V0 : Valuation τ sig (Elt Ideal)) : FVec Ideal S1024x16 .f32 := Value.res_main_v81 V0

theorem angR_eq (V0 V1 : Valuation τ sig (Elt Ideal)) : angR V0 = angR V1 := rfl
theorem angC_eq (V0 V1 : Valuation τ sig (Elt Ideal)) : angC V0 = angC V1 := rfl

/-- The first result at the angles. -/
def TURNED (V0 : Valuation τ sig (Elt Ideal)) (p : FVec Ideal S4x1024x5664 .f32) : FVec Ideal S4096x1536 .bf16 :=
  QKV p (Host.cos (angR V0)) (Host.sin (angR V0)) (Host.cos (angC V0)) (Host.sin (angC V0))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v174) = TURNED (Idealize.ShloMosaic.StableHlo.launchContents m c) (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v175) = GATES (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v173) = BETA (PROJ (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2.1.trans rfl, (h c).2.2.1.trans rfl, (h c).2.2.2⟩) (Value.run m ρ)

end Cert.Reference7Ideal.Samp

end
-- ==== Proof.SampVal.lean ====
module

public import proofs.«01_k».proof.Proof.SampOut
public import proofs.«01_k».proof.Proof.SampRef
public import proofs.«01_k».proof.Proof.InVal
public import proofs.«01_k».proof.Proof.MergeVal3

@[expose] public section

set_option maxRecDepth 16384

noncomputable section

namespace Cert.Kernel7Ideal.Samp

open Cert.Kernel7Ideal Cert.Kernel7Ideal.Gen Cert.Merge Idealize.ShloMosaic Idealize.ShloMosaic.TcCoe Idealize.SL.Sem
open Idealize.ShloMosaic.Pipeline (Dat)
open Cert.Kernel3Ideal.Sub (rows rows_val vrow vrow_val)
open Cert.Kernel4Ideal.In (prow cols wcol wlast wlast_val)
open Cert.Reference7Ideal.Samp (PROJ proj_val lane QKV GATES BETA TURNED qkv_val gates_val beta_val angR angC)

/-- Four arrays of 16 lanes side by side, over 16 heads. -/
def tab (u v w z : FVec Ideal S1024x16 .f32) : FVec Ideal S1024x1024 .f32 :=
  shapeCast S1024x1024 (broadcastInDim S1x1024x16x64 ![0, 1, 2, 3] bcast_S1x1024x1x64_S1x1024x16x64_0_1_2_3 (shapeCast S1x1024x1x64
    (concatenate S1024x64 1 [⟨S1024x32, concatenate S1024x32 1 [⟨S1024x16, u⟩, ⟨S1024x16, v⟩] concatenates_S1024x16_S1024x16_S1024x32_d1⟩,
      ⟨S1024x32, concatenate S1024x32 1 [⟨S1024x16, w⟩, ⟨S1024x16, z⟩] concatenates_S1024x16_S1024x16_S1024x32_d1⟩] concatenates_S1024x32_S1024x32_S1024x64_d1)
    shapeCasts_S1024x64_S1x1024x1x64)) shapeCasts_S1x1024x16x64_S1024x1024

theorem tab_val (u v w z : FVec Ideal S1024x16 .f32) (t j : Fin 1024) :
    tab u v w z (ix2 t j) = if j.val % 64 < 16 then u (ix2 t ⟨j % 16, by omega⟩) else if j.val % 64 < 32 then v (ix2 t ⟨j % 16, by omega⟩)
      else if j.val % 64 < 48 then w (ix2 t ⟨j % 16, by omega⟩) else z (ix2 t ⟨j % 16, by omega⟩) := by
  unfold tab
  pointwise
  blk_point
  all_goals
    exfalso
    omega

/-- The kernel's turn of a column is the reference's. -/
theorem turn (f : Fin 5664 → EReal) (cr sr cc sc : FVec Ideal S1024x16 .f32) (t : Fin 1024) (c : Fin 1024) (o : ℕ) (ho : o + 512 ≤ 5664) (h0 : o = 0 ∨ o = 512) (e : Fin 512) (he : c.val = o + e) :
    f ⟨c, by omega⟩ * tab cr cr cc cc (ix2 t c) + f ⟨mate c, lt_trans (mate_lt _ c.isLt) (by omega)⟩ * tab (Host.negf sr) sr (Host.negf sc) sc (ix2 t c)
      = lane f (fun j => cr (ix2 t j)) (fun j => sr (ix2 t j)) (fun j => cc (ix2 t j)) (fun j => sc (ix2 t j)) o ho e := by
  have kf : ∀ (a b : ℕ) (ha : a < 5664) (hb : b < 5664), a = b → f ⟨a, ha⟩ = f ⟨b, hb⟩ := by
    intro a b ha hb h
    subst h
    rfl
  have hl : (⟨c.val % 16, by omega⟩ : Fin 16) = ⟨e.val % 16, by omega⟩ := Fin.ext (by show c.val % 16 = e.val % 16; omega)
  have hn : ∀ (s : FVec Ideal S1024x16 .f32) (l : Fin 16), (Host.negf s : FVec Ideal S1024x16 .f32) (ix2 t l) = -s (ix2 t l) := by
    intro s l
    pointwise
  have hm : mate c.val = if e.val % 32 < 16 then c.val + 16 else c.val - 16 := by
    unfold mate
    split <;> split <;> omega
  rw [tab_val, tab_val, hl]
  unfold lane
  by_cases h1 : e.val % 64 < 16
  · have c1 : c.val % 64 < 16 := by omega
    rw [if_pos c1, if_pos c1, dif_pos h1, hn, mul_neg, ← sub_eq_add_neg, kf c (o + e) _ _ he, kf (mate c) (o + e + 16) _ _ (by rw [hm, if_pos (by omega)]; omega)]
  · have c1 : ¬c.val % 64 < 16 := by omega
    rw [if_neg c1, if_neg c1, dif_neg h1]
    by_cases h2 : e.val % 64 < 32
    · have c2 : c.val % 64 < 32 := by omega
      rw [if_pos c2, if_pos c2, dif_pos h2, add_comm, kf c (o + e) _ _ he, kf (mate c) (o + e - 16) _ _ (by rw [hm, if_neg (by omega)]; omega)]
    · have c2 : ¬c.val % 64 < 32 := by omega
      rw [if_neg c2, if_neg c2, dif_neg h2]
      by_cases h3 : e.val % 64 < 48
      · have c3 : c.val % 64 < 48 := by omega
        rw [if_pos c3, if_pos c3, dif_pos h3, hn, mul_neg, ← sub_eq_add_neg, kf c (o + e) _ _ he, kf (mate c) (o + e + 16) _ _ (by rw [hm, if_pos (by omega)]; omega)]
      · have c3 : ¬c.val % 64 < 48 := by omega
        rw [if_neg c3, if_neg c3, dif_neg h3, add_comm, kf c (o + e) _ _ he, kf (mate c) (o + e - 16) _ _ (by rw [hm, if_neg (by omega)]; omega)]

variable (m : (ℓ : Loc nD τ sig) → Buf (Elt Ideal) ℓ)

theorem staged_x (c : Dev nD) : V m c main_v1 = rows (m ((c.tc : Thread nD τ).loc main_arg0)) := rfl
theorem staged_n (c : Dev nD) : V m c main_v2 = vrow (m ((c.tc : Thread nD τ).loc main_arg2)) := rfl
theorem staged_l (c : Dev nD) : ∃ v, V m c main_v5 = wlast (m ((c.tc : Thread nD τ).loc main_arg3)) v := ⟨_, rfl⟩
/-- Positions times frequencies. -/
def ang (k : (⟨S1024, .i32⟩ : BufTy).Contents (Elt Ideal)) (f : FVec Ideal S16 .f32) : FVec Ideal S1024x16 .f32 :=
  mulf (broadcastInDim S1024x16 ![0, 1] bcast_S1024x1_S1024x16_0_1 (broadcastInDim S1024x1 ![0] bcast_S1024_S1024x1_0 (sitofp .f32 k)))
    (broadcastInDim S1024x16 ![0, 1] bcast_S1x16_S1024x16_0_1 (broadcastInDim S1x16 ![1] bcast_S16_S1x16_1 f))

/-- The arrays before the last stretch of host operations. -/
def W7 (c : Dev nD) : Valuation τ sig (Elt Ideal) :=
  StableHlo.after (List.flatten [hostOps0, hostOps0_1, hostOps0_2, hostOps0_3, hostOps0_4, hostOps0_5, hostOps0_6, hostOps0_7]) (fun b => m (c, b))

theorem V_eq (c : Dev nD) (b : Ref sig .tc) : V m c b = StableHlo.after hostOps0_8 (W7 m c) (Proc.devRef .tc b) := by
  unfold W7
  rw [← StableHlo.after_append]
  rfl

theorem last_cos (W : Valuation τ sig (Elt Ideal)) : StableHlo.after hostOps0_8 W (Proc.devRef .tc main_v45)
    = tab (Host.cos (W (Proc.devRef .tc main_v19) : FVec Ideal S1024x16 .f32)) (Host.cos (W (Proc.devRef .tc main_v19) : FVec Ideal S1024x16 .f32)) (Host.cos (ang (W (Proc.devRef .tc main_v20)) (W (Proc.devRef .tc main_v12))))
      (Host.cos (ang (W (Proc.devRef .tc main_v20)) (W (Proc.devRef .tc main_v12)))) := by
  after_results_simp
  rfl

theorem last_sin (W : Valuation τ sig (Elt Ideal)) : StableHlo.after hostOps0_8 W (Proc.devRef .tc main_v48)
    = tab (Host.negf (Host.sin (W (Proc.devRef .tc main_v19) : FVec Ideal S1024x16 .f32))) (Host.sin (W (Proc.devRef .tc main_v19) : FVec Ideal S1024x16 .f32)) (Host.negf (Host.sin (ang (W (Proc.devRef .tc main_v20)) (W (Proc.devRef .tc main_v12)))))
      (Host.sin (ang (W (Proc.devRef .tc main_v20)) (W (Proc.devRef .tc main_v12)))) := by
  after_results_simp
  rfl

set_option maxHeartbeats 4000000 in
theorem row_angles (V0 : Valuation Cert.Reference7Ideal.τ Cert.Reference7Ideal.sig (Elt Ideal)) (c : Dev nD) : W7 m c (Proc.devRef .tc main_v19) = angR V0 := rfl

/-- The frequencies. -/
def freqs : FVec Ideal S16 .f32 := Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

set_option maxHeartbeats 4000000 in
theorem freqs_eq (c : Dev nD) : W7 m c (Proc.devRef .tc main_v12) = freqs := rfl

/-- The remainders' divisor, with 1 for 0. -/
def dvs (k : (⟨S_, .i32⟩ : BufTy).Contents (Elt Ideal)) : (⟨S_, .i32⟩ : BufTy).Contents (Elt Ideal) := select (cmpi .eq k (constantI S_ 32 0#32)) (constantI S_ 32 1#32) k

/-- Remainders by `k`, those of another sign than the divisor's raised by the divisor. -/
def rmd (n : (⟨S1024, .i32⟩ : BufTy).Contents (Elt Ideal)) (k : (⟨S_, .i32⟩ : BufTy).Contents (Elt Ideal)) : (⟨S1024, .i32⟩ : BufTy).Contents (Elt Ideal) :=
  select (andi (cmpi .ne (cmpi .slt n (broadcastInDim S1024 ![] bcast_S_S1024 (constantI S_ 32 0#32))) (broadcastInDim S1024 ![] bcast_S_S1024 (cmpi .slt k (constantI S_ 32 0#32))))
    (cmpi .ne n (broadcastInDim S1024 ![] bcast_S_S1024 (constantI S_ 32 0#32)))) (addi n (broadcastInDim S1024 ![] bcast_S_S1024 k)) n

theorem col_step (W : Valuation τ sig (Elt Ideal)) : StableHlo.after hostOps0_7 W (Proc.devRef .tc main_v20)
    = rmd (Host.remsi (W (Proc.devRef .tc main_v6)) (broadcastInDim S1024 ![] bcast_S_S1024 (dvs (W (Proc.devRef .tc main_c_3))))) (dvs (W (Proc.devRef .tc main_c_3))) := by
  after_results_simp
  simp only [StableHlo.TRef.ofBuf_toBuf]
  rfl

/-- The arrays before the columns' remainders. -/
def W6 (c : Dev nD) : Valuation τ sig (Elt Ideal) :=
  StableHlo.after (List.flatten [hostOps0, hostOps0_1, hostOps0_2, hostOps0_3, hostOps0_4, hostOps0_5, hostOps0_6]) (fun b => m (c, b))

theorem W7_eq (c : Dev nD) (b : Ref sig .tc) : W7 m c (Proc.devRef .tc b) = StableHlo.after hostOps0_7 (W6 m c) (Proc.devRef .tc b) := by
  unfold W6
  rw [← StableHlo.after_append]
  rfl

theorem pos_eq (c : Dev nD) : W6 m c (Proc.devRef .tc main_v6) = iotaInDim S1024 32 0 := rfl
theorem div_eq (c : Dev nD) : W6 m c (Proc.devRef .tc main_c_3) = constantI S_ 32 64#32 := rfl

theorem col_angles (V0 : Valuation Cert.Reference7Ideal.τ Cert.Reference7Ideal.sig (Elt Ideal)) (c : Dev nD) : ang (W7 m c (Proc.devRef .tc main_v20)) (W7 m c (Proc.devRef .tc main_v12)) = angC V0 := by
  rw [W7_eq m c main_v20, col_step, pos_eq, div_eq, freqs_eq]
  rfl

theorem staged_cos (V0 : Valuation Cert.Reference7Ideal.τ Cert.Reference7Ideal.sig (Elt Ideal)) (c : Dev nD) :
    V m c main_v45 = tab (Host.cos (angR V0)) (Host.cos (angR V0)) (Host.cos (angC V0)) (Host.cos (angC V0)) := by
  rw [V_eq, last_cos, row_angles m V0 c, col_angles m V0 c]

theorem staged_sin (V0 : Valuation Cert.Reference7Ideal.τ Cert.Reference7Ideal.sig (Elt Ideal)) (c : Dev nD) :
    V m c main_v48 = tab (Host.negf (Host.sin (angR V0))) (Host.sin (angR V0)) (Host.negf (Host.sin (angC V0))) (Host.sin (angC V0)) := by
  rw [V_eq, last_sin, row_angles m V0 c, col_angles m V0 c]

theorem idx : ∀ t : Fin cfg0.N, win0_0.index t = ![t.val, 0] ∧ win0_1.index t = ![t.val / 2, 0, 0] ∧ win0_2.index t = ![0, 0] ∧ win0_3.index t = ![0, 0] ∧ win0_4.index t = ![0, 0]
    ∧ win0_8.index t = ![t.val % 2, 0] ∧ win0_9.index t = ![t.val % 2, 0] :=
  (by decide +kernel : ∀ t : Fin grid0.N, _)

theorem ido : ∀ t : Fin cfg0.N, win0_10.index t = ![t.val, 0] ∧ win0_12.index t = ![t.val, 0] ∧ win0_13.index t = ![t.val, 0] :=
  (by decide +kernel : ∀ t : Fin grid0.N, _)

theorem x_at (c : Dev nD) (t : Fin cfg0.N) (r : Fin 512) (j : Fin 1024) (n : Fin 4096) (hn : n.val = 512 * t + r) :
    iblk m c 0 t (ix2 r j) = m ((c.tc : Thread nD τ).loc main_arg0) (ix3 ⟨n / 1024, by omega⟩ ⟨n % 1024, by omega⟩ j) := by
  refine Eq.trans ?_ (rows_val (m ((c.tc : Thread nD τ).loc main_arg0)) n j)
  rw [← staged_x m c]
  blk_ext [iblk, idx t]

theorem m_at (c : Dev nD) (t : Fin cfg0.N) (k : Fin 6) (j : Fin 1024) (b : Fin 8) (hb : b.val = t / 2) :
    iblk m c 1 t (ix3 (0 : Fin 1) k j) = m ((c.tc : Thread nD τ).loc main_arg1) (ix3 b k j) := by
  rw [← V_main_arg1 m c]
  blk_ext [iblk, idx t]

theorem n_at (c : Dev nD) (t : Fin cfg0.N) (j : Fin 1024) : iblk m c 2 t (ix2 (0 : Fin 1) j) = m ((c.tc : Thread nD τ).loc main_arg2) (ix1 j) := by
  refine Eq.trans ?_ (vrow_val (m ((c.tc : Thread nD τ).loc main_arg2)) j)
  rw [← staged_n m c]
  blk_ext [iblk, idx t]

theorem w_at (c : Dev nD) (t : Fin cfg0.N) (k : Fin 1024) (j : Fin 5632) : X0_3 m c t (ix2 k j) = m ((c.tc : Thread nD τ).loc main_arg3) (ix2 k ⟨j, by omega⟩) := by
  unfold X0_3 Pipeline.Window.fill
  rw [dif_pos (moved0_3 t _)]
  show _ = V m c main_v3 (ix2 k ⟨j, by omega⟩)
  blk_ext [iblk, idx t]

theorem l_at (c : Dev nD) (t : Fin cfg0.N) (k : Fin 1024) (j : Fin 32) : iblk m c 4 t (ix2 k ⟨j, by omega⟩) = m ((c.tc : Thread nD τ).loc main_arg3) (ix2 k ⟨5632 + j, by omega⟩) := by
  obtain ⟨v, hv⟩ := staged_l m c
  refine Eq.trans ?_ (wlast_val (m ((c.tc : Thread nD τ).loc main_arg3)) v k j)
  rw [← hv]
  blk_ext [iblk, idx t]

theorem cos_at (c : Dev nD) (t : Fin cfg0.N) (r : Fin 512) (j : Fin 1024) (n : Fin 1024) (hn : n.val = 512 * (t.val % 2) + r) : iblk m c 8 t (ix2 r j) = V m c main_v45 (ix2 n j) := by
  blk_ext [iblk, idx t]

theorem sin_at (c : Dev nD) (t : Fin cfg0.N) (r : Fin 512) (j : Fin 1024) (n : Fin 1024) (hn : n.val = 512 * (t.val % 2) + r) : iblk m c 9 t (ix2 r j) = V m c main_v48 (ix2 n j) := by
  blk_ext [iblk, idx t]

/-- The weight's two blocks are the weight. -/
theorem wcol_eq (c : Dev nD) (t : Fin cfg0.N) : wcol (X0_3 m c t) (iblk m c 4 t) = fun k j => m ((c.tc : Thread nD τ).loc main_arg3) (ix2 k j) := by
  funext k j
  unfold wcol
  rcases Nat.lt_or_ge j.val 5632 with h | h
  · rw [dif_pos h]
    exact w_at m c t k ⟨j, h⟩
  · rw [dif_neg (Nat.not_lt.mpr h)]
    refine (l_at m c t k ⟨j - 5632, by omega⟩).trans (congrArg _ (congrArg (ix2 k) (Fin.ext ?_)))
    show 5632 + (j.val - 5632) = j.val
    omega

/-- The reference's projected tokens at device `c`'s arguments. -/
def tok (c : Dev nD) : FVec Ideal Cert.Reference7Ideal.S4x1024x5664 .f32 :=
  PROJ (m ((c.tc : Thread nD τ).loc main_arg0)) (m ((c.tc : Thread nD τ).loc main_arg1)) (m ((c.tc : Thread nD τ).loc main_arg2)) (m ((c.tc : Thread nD τ).loc main_arg3))

theorem row_at (c : Dev nD) (t : Fin cfg0.N) (r : Fin 512) (j : Fin 5664) (n : Fin 4096) (hn : n.val = 512 * t + r) :
    prow (iblk m c 0 t) (iblk m c 1 t) (iblk m c 2 t) (X0_3 m c t) (iblk m c 4 t) r j = tok m c (ix3 ⟨n / 1024, by omega⟩ ⟨n % 1024, by omega⟩ j) := by
  unfold prow tok
  rw [proj_val, wcol_eq]
  simp only [fun j => x_at m c t r j n hn, fun k j => m_at m c t k j ⟨n / 1024, by omega⟩ (by show n.val / 1024 = _; omega), n_at]

theorem outs_qkv (c : Dev nD) (t : Fin cfg0.N) : (outsAt0 m c t).1 = rcols (iblk m c 0 t) (iblk m c 1 t) (iblk m c 2 t) (X0_3 m c t) (iblk m c 4 t) (iblk m c 8 t) (iblk m c 9 t) := by
  unfold outsAt0
  dsimp only
  exact out_qkv (iblk m c 0 t) (iblk m c 1 t) (iblk m c 2 t) (X0_3 m c t) (iblk m c 4 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 5 t) (iblk m c 6 t) (iblk m c 7 t)

theorem point_qkv (V0 : Valuation Cert.Reference7Ideal.τ Cert.Reference7Ideal.sig (Elt Ideal)) (c : Dev nD) (t : Fin cfg0.N) (ht : t.val < 8) (r : Fin 512) (j : Fin 1536) :
    (outsAt0 m c t).1 (ix2 r j) = TURNED V0 (tok m c) (ix2 ⟨512 * t + r, by omega⟩ j) := by
  rw [outs_qkv]
  show rcol (iblk m c 0 t) (iblk m c 1 t) (iblk m c 2 t) (X0_3 m c t) (iblk m c 4 t) (iblk m c 8 t) (iblk m c 9 t) r j = _
  unfold TURNED rcol
  rw [qkv_val]
  by_cases h : j.val < 1024
  · rw [dif_pos h, row_at m c t r _ ⟨512 * t + r, by omega⟩ rfl, row_at m c t r _ ⟨512 * t + r, by omega⟩ rfl,
      cos_at m c t r ⟨j, h⟩ ⟨(512 * t + r) % 1024, by omega⟩ (by show (512 * t.val + r.val) % 1024 = _; omega),
      sin_at m c t r ⟨j, h⟩ ⟨(512 * t + r) % 1024, by omega⟩ (by show (512 * t.val + r.val) % 1024 = _; omega), staged_cos m V0 c, staged_sin m V0 c]
    by_cases h0 : j.val < 512
    · rw [dif_pos h0]
      exact turn (fun k => tok m c (ix3 ⟨(512 * t + r) / 1024, by omega⟩ ⟨(512 * t + r) % 1024, by omega⟩ k)) _ _ _ _ _ ⟨j, h⟩ 0 (by omega) (Or.inl rfl) ⟨j, h0⟩ (Nat.zero_add _).symm
    · rw [dif_neg h0, dif_pos h]
      exact turn (fun k => tok m c (ix3 ⟨(512 * t + r) / 1024, by omega⟩ ⟨(512 * t + r) % 1024, by omega⟩ k)) _ _ _ _ _ ⟨j, h⟩ 512 (by omega) (Or.inr rfl) ⟨j - 512, by omega⟩
        (by show j.val = 512 + (j.val - 512); omega)
  · rw [dif_neg h, dif_neg (by omega), dif_neg h]
    exact row_at m c t r _ _ rfl

theorem final_qkv (V0 : Valuation Cert.Reference7Ideal.τ Cert.Reference7Ideal.sig (Elt Ideal)) (c : Dev nD) : (dats m 0 c).arrAt 10 cfg0.N = TURNED V0 (tok m c) := by
  refine (dats m 0 c).arrAt_eq_of_covers 10 _ (by decide +kernel) fun t _ y => ?_
  have ht : t.val < 8 := lt_of_lt_of_eq t.isLt (by decide +kernel)
  blk_simp
  rw [after0_10]
  have ey : y = ix2 (n0 := 512) (n1 := 1536) (y 0) (y 1) := by
    blk_ext
  have ez : (win0_10.blk t).view.emb y = ix2 (n0 := 4096) (n1 := 1536) ⟨512 * t + (y 0 : ℕ), by have : (y 0 : ℕ) < 512 := (y 0).isLt; clear * - this ht; omega⟩ (y 1) := by
    blk_ext [ido t]
  rw [ez]
  exact (congrArg _ ey).trans (point_qkv m V0 c t ht (y 0) (y 1))

theorem outs_gz (c : Dev nD) (t : Fin cfg0.N) : (outsAt0 m c t).2.2.1 = cols 3104 (by omega) (iblk m c 0 t) (iblk m c 1 t) (iblk m c 2 t) (X0_3 m c t) (iblk m c 4 t) := by
  unfold outsAt0
  dsimp only
  exact out_gz (iblk m c 0 t) (iblk m c 1 t) (iblk m c 2 t) (X0_3 m c t) (iblk m c 4 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 5 t) (iblk m c 6 t) (iblk m c 7 t)

theorem point_gz (c : Dev nD) (t : Fin cfg0.N) (ht : t.val < 8) (r : Fin 512) (j : Fin 2560) : (outsAt0 m c t).2.2.1 (ix2 r j) = GATES (tok m c) (ix2 ⟨512 * t + r, by omega⟩ j) := by
  rw [outs_gz, gates_val]
  exact row_at m c t r _ _ rfl

theorem final_gz (c : Dev nD) : (dats m 0 c).arrAt 12 cfg0.N = GATES (tok m c) := by
  refine (dats m 0 c).arrAt_eq_of_covers 12 _ (by decide +kernel) fun t _ y => ?_
  have ht : t.val < 8 := lt_of_lt_of_eq t.isLt (by decide +kernel)
  blk_simp
  rw [after0_12]
  have ey : y = ix2 (n0 := 512) (n1 := 2560) (y 0) (y 1) := by
    blk_ext
  have ez : (win0_12.blk t).view.emb y = ix2 (n0 := 4096) (n1 := 2560) ⟨512 * t + (y 0 : ℕ), by have : (y 0 : ℕ) < 512 := (y 0).isLt; clear * - this ht; omega⟩ (y 1) := by
    blk_ext [ido t]
  rw [ez]
  exact (congrArg _ ey).trans (point_gz m c t ht (y 0) (y 1))

theorem outs_ba (c : Dev nD) (t : Fin cfg0.N) : (outsAt0 m c t).2.2.2 = cols 3072 (by omega) (iblk m c 0 t) (iblk m c 1 t) (iblk m c 2 t) (X0_3 m c t) (iblk m c 4 t) := by
  unfold outsAt0
  dsimp only
  exact out_ba (iblk m c 0 t) (iblk m c 1 t) (iblk m c 2 t) (X0_3 m c t) (iblk m c 4 t) (iblk m c 8 t) (iblk m c 9 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 5 t) (iblk m c 6 t) (iblk m c 7 t)

theorem point_ba (c : Dev nD) (t : Fin cfg0.N) (ht : t.val < 8) (r : Fin 512) (j : Fin 128) : (outsAt0 m c t).2.2.2 (ix2 r j) = BETA (tok m c) (ix2 ⟨512 * t + r, by omega⟩ j) := by
  rw [outs_ba, beta_val]
  exact row_at m c t r _ _ rfl

theorem final_ba (c : Dev nD) : (dats m 0 c).arrAt 13 cfg0.N = BETA (tok m c) := by
  refine (dats m 0 c).arrAt_eq_of_covers 13 _ (by decide +kernel) fun t _ y => ?_
  have ht : t.val < 8 := lt_of_lt_of_eq t.isLt (by decide +kernel)
  blk_simp
  rw [after0_13]
  have ey : y = ix2 (n0 := 512) (n1 := 128) (y 0) (y 1) := by
    blk_ext
  have ez : (win0_13.blk t).view.emb y = ix2 (n0 := 4096) (n1 := 128) ⟨512 * t + (y 0 : ℕ), by have : (y 0 : ℕ) < 512 := (y 0).isLt; clear * - this ht; omega⟩ (y 1) := by
    blk_ext [ido t]
  rw [ez]
  exact (congrArg _ ey).trans (point_ba m c t ht (y 0) (y 1))

end Cert.Kernel7Ideal.Samp

end
-- ==== Proof.SampConvRef.lean ====
module

public import proofs.«01_k».proof.Proof.Gen.Reference8Ideal.Run
public import proofs.«01_k».proof.Proof.SampRef
public import proofs.«01_k».proof.Proof.ConvRow

@[expose] public section

set_option maxRecDepth 16384

noncomputable section

namespace Cert.Conv

open Idealize.ShloMosaic

/-- A sequence of 1024 with two zeros before and after it. -/
def around (P : Fin 1024 → EReal) (n : ℕ) : EReal := if h : 2 ≤ n ∧ n < 1026 then P ⟨n - 2, by omega⟩ else 0

/-- Five shifted entries of a row of numbers, each by its weight. -/
def taps (q : ℕ → EReal) (w : Fin 5 → EReal) (t : ℕ) : EReal :=
  q t * w 0 + q (t + 1) * w 1 + q (t + 2) * w 2 + q (t + 3) * w 3 + q (t + 4) * w 4

/-- The terms from the centre outwards. -/
theorem taps_centre (q : ℕ → EReal) (w : Fin 5 → EReal) (t : ℕ) :
    q (t + 2) * w 2 + q (t + 1) * w 1 + q (t + 3) * w 3 + q t * w 0 + q (t + 4) * w 4 = taps q w t := by
  unfold taps
  ac_rfl

end Cert.Conv

namespace Cert.Reference8Ideal.Conv

open Cert.Reference8Ideal Cert.Reference8Ideal.Gen Cert.Merge Cert.Conv Idealize.ShloMosaic Idealize.ShloMosaic.TcCoe Idealize.SL.Sem
open Cert.Reference7Ideal.Samp (PROJ)

/-! The reference's convolved columns as a function of the projected tokens, and their entries. -/

/-- The middle columns, two rows of zeros before and after each sequence. -/
def PADDED (p : FVec Ideal S4x1024x5664 .f32) : FVec Ideal S4x1028x1536 .f32 :=
  pad S4x1028x1536 ![0, 2, 0] ![0, 2, 0] ![0, 0, 0] (extractStridedSlice S4x1024x1536 ![0, 0, 1536] p slices_S4x1024x5664_S4x1024x1536_0_0_1536)
    (sitofp .f32 (constantI S_ 32 0#32)) pads_S4x1024x1536_S4x1028x1536_000_220_000 h_S_

theorem padded_val (p : FVec Ideal S4x1024x5664 .f32) (b : Fin 4) (n : Fin 1028) (j : Fin 1536) :
    PADDED p (ix3 b n j) = around (fun t => p (ix3 b t ⟨1536 + j.val, by omega⟩)) n.val := by
  unfold PADDED around
  pointwise
  have hn := n.isLt
  have hz : (FloatOps.sitofp (F := Ideal) .f32 (0#32) : EReal) = 0 := by
    show (((0#32).toInt : ℝ) : EReal) = 0
    simp
  by_cases h : 2 ≤ n.val ∧ n.val < 1026
  · rw [dif_pos ⟨h.1, by omega⟩, dif_pos h]
  · rw [dif_neg (by omega), dif_neg h]
    exact hz

/-- One shifted product. -/
def TAP (q : FVec Ideal S4x1028x1536 .f32) (w : FVec Ideal S5x1536 .f32) (o : ℕ) (hq : S4x1028x1536.Slices ![0, o, 0] S4x1024x1536)
    (hw : S5x1536.Slices ![o, 0] S1x1536) : FVec Ideal S4x1024x1536 .f32 :=
  mulf (extractStridedSlice S4x1024x1536 ![0, o, 0] q hq)
    (broadcastInDim S4x1024x1536 ![0, 1, 2] bcast_S1x1x1536_S4x1024x1536_0_1_2 (broadcastInDim S1x1x1536 ![2] bcast_S1536_S1x1x1536_2
      (shapeCast _ (extractStridedSlice S1x1536 ![o, 0] w hw) shapeCasts_S1x1536_S1536)))

theorem tap_val (q : FVec Ideal S4x1028x1536 .f32) (w : FVec Ideal S5x1536 .f32) (o : ℕ) (ho : o < 5) (hq : S4x1028x1536.Slices ![0, o, 0] S4x1024x1536)
    (hw : S5x1536.Slices ![o, 0] S1x1536) (b : Fin 4) (t : Fin 1024) (j : Fin 1536) :
    TAP q w o hq hw (ix3 b t j) = q (ix3 b ⟨t + o, by omega⟩ j) * w (ix2 ⟨o, ho⟩ j) := by
  unfold TAP
  pointwise
  rw [show (⟨o + t.val, by omega⟩ : Fin 1028) = ⟨t.val + o, by omega⟩ from Fin.ext (Nat.add_comm _ _)]

def CONV (q : FVec Ideal S4x1028x1536 .f32) (w : FVec Ideal S5x1536 .f32) : FVec Ideal S4x1024x1536 .f32 :=
  addf (addf (addf (addf (TAP q w 0 slices_S4x1028x1536_S4x1024x1536_0_0_0 slices_S5x1536_S1x1536_0_0) (TAP q w 1 slices_S4x1028x1536_S4x1024x1536_0_1_0 slices_S5x1536_S1x1536_1_0))
    (TAP q w 2 slices_S4x1028x1536_S4x1024x1536_0_2_0 slices_S5x1536_S1x1536_2_0)) (TAP q w 3 slices_S4x1028x1536_S4x1024x1536_0_3_0 slices_S5x1536_S1x1536_3_0))
    (TAP q w 4 slices_S4x1028x1536_S4x1024x1536_0_4_0 slices_S5x1536_S1x1536_4_0)

/-- A row before the norm. -/
def crowR (p : FVec Ideal S4x1024x5664 .f32) (w : FVec Ideal S5x1536 .f32) (b : Fin 4) (t : Fin 1024) (j : Fin 1536) : EReal :=
  silu (taps (around fun t => p (ix3 b t ⟨1536 + j.val, by omega⟩)) (fun s => w (ix2 s j)) t.val)

theorem conv_val (p : FVec Ideal S4x1024x5664 .f32) (w : FVec Ideal S5x1536 .f32) (b : Fin 4) (t : Fin 1024) (j : Fin 1536) :
    CONV (PADDED p) w (ix3 b t j) = taps (around fun t => p (ix3 b t ⟨1536 + j.val, by omega⟩)) (fun s => w (ix2 s j)) t.val := by
  show TAP _ _ 0 _ _ _ + TAP _ _ 1 _ _ _ + TAP _ _ 2 _ _ _ + TAP _ _ 3 _ _ _ + TAP _ _ 4 _ _ _ = _
  simp only [tap_val _ _ 0 (by omega), tap_val _ _ 1 (by omega), tap_val _ _ 2 (by omega), tap_val _ _ 3 (by omega), tap_val _ _ 4 (by omega), padded_val]
  rfl

def SILU (z : FVec Ideal S4x1024x1536 .f32) : FVec Ideal S4x1024x1536 .f32 :=
  mulf z (Host.divf (broadcastInDim S4x1024x1536 ![] bcast_S_S4x1024x1536 (constant S_ .f32 0x3F800000#32)) (addf (broadcastInDim S4x1024x1536 ![] bcast_S_S4x1024x1536 (constant S_ .f32 0x3F800000#32)) (Host.exp (Host.negf z))))

theorem silu_val (z : FVec Ideal S4x1024x1536 .f32) (b : Fin 4) (t : Fin 1024) (j : Fin 1536) : SILU z (ix3 b t j) = silu (z (ix3 b t j)) := by
  unfold SILU silu Ideal.logistic
  simp only [← one_f32]
  pointwise

/-- Eight heads of a token, each divided by its length. -/
def NORM (y : FVec Ideal S4x1024x1536 .f32) (o : ℕ) (hs : S4x1024x1536.Slices ![0, 0, o] S4x1024x512) : FVec Ideal S4x1024x512 .f32 :=
  let h : FVec Ideal S4x1024x8x64 .f32 := shapeCast _ (extractStridedSlice S4x1024x512 ![0, 0, o] y hs) shapeCasts_S4x1024x512_S4x1024x8x64
  shapeCast _ (mulf h (broadcastInDim S4x1024x8x64 ![0, 1, 2, 3] bcast_S4x1024x8x1_S4x1024x8x64_0_1_2_3 (Host.rsqrt (addf (broadcastInDim S4x1024x8x1 ![0, 1, 2] bcast_S4x1024x8_S4x1024x8x1_0_1_2
    (Host.reduceAdd (mulf h h) (constant S_ .f32 0x00000000#32) reducesTo_S4x1024x8x64_S4x1024x8_d3 h_S_)) (broadcastInDim S4x1024x8x1 ![] bcast_S_S4x1024x8x1 (constant S_ .f32 0x358637BD#32)))))) shapeCasts_S4x1024x8x64_S4x1024x512

theorem norm_val (y : FVec Ideal S4x1024x1536 .f32) (o : ℕ) (ho : o + 512 ≤ 1536) (hs : S4x1024x1536.Slices ![0, 0, o] S4x1024x512) (b : Fin 4) (t : Fin 1024) (j : Fin 512) :
    NORM y o hs (ix3 b t j) = y (ix3 b t ⟨o + j, by omega⟩) * unit (fun e => y (ix3 b t ⟨o + (64 * (j.val / 64) + e.val), by omega⟩)) := by
  unfold NORM unit
  pointwise
  simp only [Nat.mul_comm (j.val / 64) 64]

def DQKV (p : FVec Ideal S4x1024x5664 .f32) (w : FVec Ideal S5x1536 .f32) : FVec Ideal S4096x1536 .bf16 :=
  let y := SILU (CONV (PADDED p) w)
  truncf .bf16 (shapeCast S4096x1536 (concatenate S4x1024x1536 2 [⟨S4x1024x512, NORM y 0 slices_S4x1024x1536_S4x1024x512_0_0_0⟩, ⟨S4x1024x512, NORM y 512 slices_S4x1024x1536_S4x1024x512_0_0_512⟩,
    ⟨S4x1024x512, extractStridedSlice S4x1024x512 ![0, 0, 1024] y slices_S4x1024x1536_S4x1024x512_0_0_1024⟩] concatenates_S4x1024x512_S4x1024x512_S4x1024x512_S4x1024x1536_d2) shapeCasts_S4x1024x1536_S4096x1536) bitsLt_bf16_f32

theorem dqkv_val (p : FVec Ideal S4x1024x5664 .f32) (w : FVec Ideal S5x1536 .f32) (n : Fin 4096) (j : Fin 1536) :
    DQKV p w (ix2 n j) = normed (crowR p w ⟨n / 1024, by omega⟩ ⟨n % 1024, by omega⟩) j := by
  have hy : ∀ b t j, SILU (CONV (PADDED p) w) (ix3 b t j) = crowR p w b t j := fun b t j => by
    rw [silu_val, conv_val]
    rfl
  have hj := j.isLt
  unfold DQKV normed
  pointwise
  by_cases h : j.val < 512
  · rw [dif_pos h, if_pos (show j.val < 1024 by omega), norm_val _ 0 (by omega)]
    simp only [hy, Nat.zero_add]
  · rw [dif_neg h]
    by_cases h' : j.val < 1024
    · rw [dif_pos (show j.val - 512 < 512 by omega), if_pos h', norm_val _ 512 (by omega)]
      simp only [hy, show 512 + (j.val - 512) = j.val by omega, show ∀ e, 512 + (64 * ((j.val - 512) / 64) + e) = 64 * (j.val / 64) + e by intro e; omega]
    · rw [dif_neg (show ¬ j.val - 512 < 512 by omega), if_neg h', hy]
      exact congrArg (crowR p w _ _) (Fin.ext (by show 1024 + (j.val - 512 - 512) = j.val; omega))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = DQKV (PROJ (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2⟩) (Value.run m ρ)

end Cert.Reference8Ideal.Conv

end
-- ==== Proof.SampTaps.lean ====
module

public import proofs.«01_k».proof.Proof.SampOut
public import proofs.«01_k».proof.Proof.SampConvRef
public import proofs.«01_k».proof.Proof.ConvOut

@[expose] public section

set_option maxRecDepth 16384

noncomputable section

namespace Cert.Kernel7Ideal.Taps

open Cert.Kernel7Ideal Cert.Kernel7Ideal.Gen Cert.Merge Cert.Conv Idealize.ShloMosaic Idealize.ShloMosaic.TcCoe Idealize.SL.Sem
open Cert.Kernel2Ideal.Sub (ld_at whole2 whole3 vecB)
open Cert.Kernel4Ideal.In (normB wcol norm_row vec0 vec1)
open Cert.Kernel4Ideal.Conv (ones normC normC_at act_at)

/-! The convolved columns of one sub-tile of 256 tokens, with eight rows of the neighbouring tokens before and after it. -/

theorem select_zero {α : Type} (a b : α) : Scalar.select (0#1) a b = b := rfl
theorem select_one {α : Type} (a b : α) : Scalar.select (1#1) a b = a := rfl
theorem bit_cases : ∀ c : BitVec 1, c = 0#1 ∨ c = 1#1 := by decide

/-- Eight normed, modulated rows. -/
theorem edge_row (v : FVec Ideal S6x1024 .f32) (x : FVec Ideal S8x1024 .f32) (w : FVec Ideal S1x1024 .f32) (i : Fin 8) (j : Fin 1024) :
    k0_pay10 v x w (ix2 i j) = pre (fun j => x (ix2 i j)) (fun j => w (ix2 (0 : Fin 1) j)) (fun j => v (ix2 1 j)) (fun j => v (ix2 0 j)) j := by
  unfold k0_pay10 pre rms
  simp only [shapeCast_id, vec0, vec1, ← one_f32]
  unfold vecB
  pointwise

/-- The rows before, of and after the sub-tile, projected. -/
def PROD (A : FVec Ideal S8x1024 .bf16) (H : FVec Ideal S256x1024 .bf16) (B : FVec Ideal S8x1024 .bf16) (W : FVec Ideal S1024x1536 .bf16) : FVec Ideal S272x1536 .f32 :=
  matmul dot_S272x1024_S1024x1536_S272x1536_1_0_0_1_n_n none
    (concatenate S272x1024 0 [⟨S8x1024, A⟩, ⟨S256x1024, H⟩, ⟨S8x1024, B⟩] concatenates_S8x1024_S256x1024_S8x1024_S272x1024_d0)
    (shapeCast S1024x1536 W shapeCasts_S1024x1536_S1024x1536) (constant S272x1536 .f32 0x00000000#32)

theorem prod_at (A : FVec Ideal S8x1024 .bf16) (H : FVec Ideal S256x1024 .bf16) (B : FVec Ideal S8x1024 .bf16) (W : FVec Ideal S1024x1536 .bf16) (n : Fin 272) (j : Fin 1536)
    (f : Fin 1024 → EReal) (hA : ∀ h : n.val < 8, ∀ k, A (ix2 ⟨n, h⟩ k) = f k) (hH : ∀ h : n.val - 8 < 256, 8 ≤ n.val → ∀ k, H (ix2 ⟨n - 8, h⟩ k) = f k)
    (hB : ∀ h : n.val - 264 < 8, 264 ≤ n.val → ∀ k, B (ix2 ⟨n - 264, h⟩ k) = f k) : PROD A H B W (ix2 n j) = proj f (fun k j => W (ix2 k j)) j := by
  unfold PROD proj
  simp only [shapeCast_id]
  pointwise
  refine Finset.sum_congr rfl fun k _ => congrArg (· * _) ?_
  by_cases h : n.val < 8
  · rw [dif_pos h]
    exact hA h k
  · rw [dif_neg h]
    by_cases h' : n.val < 264
    · rw [dif_pos (by omega)]
      exact hH (by omega) (by omega) k
    · rw [dif_neg (by omega)]
      refine Eq.trans ?_ (hB (by omega) (by omega) k)
      blk_ext

/-- The middle rows of `P` between `a` and `b`. -/
def MID (a : FVec Ideal S8x1536 .f32) (P : FVec Ideal S272x1536 .f32) (b : FVec Ideal S8x1536 .f32) : FVec Ideal S272x1536 .f32 :=
  concatenate S272x1536 0 [⟨S8x1536, a⟩, ⟨S256x1536, extractStridedSlice S256x1536 ![8, 0] P slices_S272x1536_o8_0_S256x1536⟩, ⟨S8x1536, b⟩] concatenates_S8x1536_S256x1536_S8x1536_S272x1536_d0

theorem mid_at (a : FVec Ideal S8x1536 .f32) (P : FVec Ideal S272x1536 .f32) (b : FVec Ideal S8x1536 .f32) (n : Fin 272) (j : Fin 1536) :
    MID a P b (ix2 n j) = if h : n.val < 8 then a (ix2 ⟨n, h⟩ j) else if h' : n.val < 264 then P (ix2 n j) else b (ix2 ⟨n - 264, by omega⟩ j) := by
  unfold MID
  pointwise
  have hn := n.isLt
  rcases (by omega : n.val < 8 ∨ (8 ≤ n.val ∧ n.val < 264) ∨ 264 ≤ n.val) with h | h | h
  · rw [dif_pos h, dif_pos h]
  · rw [dif_neg (by omega), dif_pos (by omega), dif_neg (by omega), dif_pos h.2]
    exact congrArg (fun a => P (ix2 a j)) (Fin.ext (by show 8 + (n.val - 8) = n.val; omega))
  · rw [dif_neg (by omega), dif_neg (by omega), dif_neg (by omega), dif_neg (by omega)]
    exact congrArg (fun a => b (ix2 a j)) (Fin.ext (by show n.val - 8 - 256 = n.val - 264; omega))

/-- The rows before and after the sub-tile, zero where there is no neighbour. -/
def EDGE (c d : BitVec 1) (P : FVec Ideal S272x1536 .f32) : FVec Ideal S272x1536 .f32 :=
  MID (Scalar.select c (extractStridedSlice S8x1536 ![0, 0] P slices_S272x1536_o0_0_S8x1536) (k0_pay8 (F := Ideal))) P
    (Scalar.select d (extractStridedSlice S8x1536 ![264, 0] P slices_S272x1536_o264_0_S8x1536) (k0_pay8 (F := Ideal)))

theorem zero_at (i : Fin 8) (j : Fin 1536) : k0_pay8 (F := Ideal) (ix2 i j) = 0 := by
  unfold k0_pay8
  pointwise

theorem edge_at (c d : BitVec 1) (P : FVec Ideal S272x1536 .f32) (n : Fin 272) (j : Fin 1536) :
    EDGE c d P (ix2 n j) = if (n.val < 8 → c = 1#1) ∧ (264 ≤ n.val → d = 1#1) then P (ix2 n j) else 0 := by
  unfold EDGE
  rw [mid_at]
  rcases (by omega : n.val < 8 ∨ (8 ≤ n.val ∧ n.val < 264) ∨ 264 ≤ n.val) with h | h | h
  · rw [dif_pos h]
    rcases bit_cases c with rfl | rfl
    · rw [select_zero, zero_at, if_neg fun g => absurd (g.1 h) (by decide)]
    · rw [select_one, if_pos ⟨fun _ => rfl, fun _ => by omega⟩]
      pointwise
      blk_ext
  · rw [dif_neg (by omega), dif_pos h.2, if_pos ⟨fun _ => by omega, fun _ => by omega⟩]
  · rw [dif_neg (by omega), dif_neg (by omega)]
    rcases bit_cases d with rfl | rfl
    · rw [select_zero, zero_at, if_neg fun g => absurd (g.2 h) (by decide)]
    · rw [select_one, if_pos ⟨fun _ => by omega, fun _ => rfl⟩]
      pointwise
      exact congrArg (fun a => P (ix2 a j)) (Fin.ext (by show 264 + (n.val - 264) = n.val; omega))

/-- The sub-tile's place in its sequence, as the host's remainder gives it. -/
def place (a o : BitVec 32) : BitVec 32 :=
  Scalar.select
    (Scalar.andi
      (Scalar.xori (Scalar.cmpi .slt (Scalar.remsi (Scalar.addi (Scalar.muli a 2#32) o) (Scalar.select (Scalar.cmpi .eq 4#32 0#32) 1#32 4#32)) 0#32)
        (Scalar.cmpi .slt (Scalar.select (Scalar.cmpi .eq 4#32 0#32) 1#32 4#32) 0#32))
      (Scalar.cmpi .ne (Scalar.remsi (Scalar.addi (Scalar.muli a 2#32) o) (Scalar.select (Scalar.cmpi .eq 4#32 0#32) 1#32 4#32)) 0#32))
    (Scalar.addi (Scalar.remsi (Scalar.addi (Scalar.muli a 2#32) o) (Scalar.select (Scalar.cmpi .eq 4#32 0#32) 1#32 4#32)) (Scalar.select (Scalar.cmpi .eq 4#32 0#32) 1#32 4#32))
    (Scalar.remsi (Scalar.addi (Scalar.muli a 2#32) o) (Scalar.select (Scalar.cmpi .eq 4#32 0#32) 1#32 4#32))

theorem place_first : ∀ (a : Fin 8) (s : Fin 2), Scalar.cmpi .sgt (place (BitVec.ofNat 32 a.val) (BitVec.ofNat 32 s.val)) 0#32 = 1#1 ↔ 0 < 2 * (a.val % 2) + s.val := by
  decide +kernel

theorem place_last : ∀ (a : Fin 8) (s : Fin 2), Scalar.cmpi .slt (place (BitVec.ofNat 32 a.val) (BitVec.ofNat 32 s.val)) 3#32 = 1#1 ↔ 2 * (a.val % 2) + s.val < 3 := by
  decide +kernel

/-- The input rows of a tile of 512 with eight before and eight after. -/
def xat (x0 : Vec Ideal S512x1024 .f32) (x6 x7 : Vec Ideal S8x1024 .f32) (n : ℕ) (j : Fin 1024) : EReal :=
  if h : n < 8 then x6 (ix2 ⟨n, h⟩ j) else if h' : n - 8 < 512 then x0 (ix2 ⟨n - 8, h'⟩ j) else if h' : n - 520 < 8 then x7 (ix2 ⟨n - 520, h'⟩ j) else 0

/-- Those rows, projected. -/
def srow (x0 : Vec Ideal S512x1024 .f32) (x1 : Vec Ideal S1x6x1024 .f32) (x2 : Vec Ideal S1x1024 .f32) (x3 : Vec Ideal S1024x5632 .bf16) (x4 : Vec Ideal S1024x128 .bf16) (x6 x7 : Vec Ideal S8x1024 .f32) (n : ℕ) : Fin 5664 → EReal :=
  proj (pre (xat x0 x6 x7 n) (fun j => x2 (ix2 (0 : Fin 1) j)) (fun j => x1 (ix3 (0 : Fin 1) (1 : Fin 6) j)) (fun j => x1 (ix3 (0 : Fin 1) (0 : Fin 6) j))) (wcol x3 x4)

/-- Row `r` of the convolved columns before the norm; `u` is the tile's place in its sequence. -/
def crow (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (x6 x7 : Vec Ideal S8x1024 .f32) (u : ℕ) (r : Fin 512) (j : Fin 1536) : EReal :=
  silu (taps (fun n => if 2 ≤ 512 * u + n ∧ 512 * u + n < 1026 then srow x0 x1 x2 x3 x4 x6 x7 (6 + n) ⟨1536 + j.val, by omega⟩ else 0) (fun s => x5 (ix2 ⟨s.val, by omega⟩ j)) r.val)

/-- The block of convolved, normed rows. -/
def cblk (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (x6 x7 : Vec Ideal S8x1024 .f32) (u : ℕ) (y : S512x1536.Idx) : EReal :=
  normed (crow x0 x1 x2 x3 x4 x5 x6 x7 u (y 0)) (y 1)

/-- The sub-tile's rows and their neighbours, projected. -/
def haloB (s : BitVec 32) (v : FVec Ideal S6x1024 .f32) (xA : FVec Ideal S8x1024 .f32) (x : FVec Ideal S256x1024 .f32) (xB : FVec Ideal S8x1024 .f32) (w : FVec Ideal S1x1024 .f32)
    (W : FVec Ideal S1024x1536 .bf16) : FVec Ideal S272x1536 .f32 :=
  EDGE (Scalar.cmpi .sgt s 0#32) (Scalar.cmpi .slt s 3#32) (PROD (k0_pay10 v xA w) (normB v x w) (k0_pay10 v xB w) W)

def convQ (Q : FVec Ideal S272x1536 .f32) (c2 c1 c3 c0 c4 : FVec Ideal S1x1536 .f32) : FVec Ideal S256x1536 .f32 :=
  Cert.Kernel4Ideal.Gen.k0_pay11 Q (extractStridedSlice S256x1536 ![8, 0] Q slices_S272x1536_o8_0_S256x1536) c2 c1 c3 c0 c4

theorem seq_first (s : BitVec 32) (v : FVec Ideal S6x1024 .f32) (xA : FVec Ideal S8x1024 .f32) (x : FVec Ideal S256x1024 .f32) (xB : FVec Ideal S8x1024 .f32) (w : FVec Ideal S1x1024 .f32)
    (W : FVec Ideal S1024x1536 .bf16) (c2 c1 c3 c0 c4 : FVec Ideal S1x1536 .f32) :
    k0_pay16 (k0_pay13 v (normB v x w) (k0_pay7 W) (k0_pay8 (F := Ideal)) s (k0_pay9 xB) (k0_pay10 v xA w) (k0_pay11 w) (k0_pay12 xB))
        (k0_pay14 v (normB v x w) (k0_pay7 W) (k0_pay8 (F := Ideal)) s (k0_pay9 xB) (k0_pay10 v xA w) (k0_pay11 w) (k0_pay12 xB) c2 c1 c3)
        (k0_pay15 v (normB v x w) (k0_pay7 W) (k0_pay8 (F := Ideal)) s (k0_pay9 xB) (k0_pay10 v xA w) (k0_pay11 w) (k0_pay12 xB)) c0 c4
      = convQ (haloB s v xA x xB w W) c2 c1 c3 c0 c4 := rfl

theorem seq_second (s : BitVec 32) (v : FVec Ideal S6x1024 .f32) (xA : FVec Ideal S8x1024 .f32) (x : FVec Ideal S256x1024 .f32) (xB : FVec Ideal S8x1024 .f32) (w : FVec Ideal S1x1024 .f32)
    (W : FVec Ideal S1024x1536 .bf16) (c2 c1 c3 c0 c4 : FVec Ideal S1x1536 .f32) :
    k0_pay55 (k0_pay53 v (normB v x w) (k0_pay48 W) (k0_pay49 (F := Ideal)) s (k0_pay50 v xA w) (k0_pay51 xB w) (k0_pay52 v) c2 c1 c3 c0 c4) (k0_pay54 (F := Ideal))
      = convQ (haloB s v xA x xB w W) c2 c1 c3 c0 c4 := rfl

/-- The convolved rows of the sub-tile that begins at row `o`. -/
def seqB (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (xA xB : FVec Ideal S8x1024 .f32) (s : BitVec 32) (o : ℕ)
    (inb : ∀ e, (![o, 0] : Fin 2 → ℕ) e + (![256, 1024] : Fin 2 → ℕ) e ≤ (![512, 1024] : Fin 2 → ℕ) e) : FVec Ideal S256x1536 .f32 :=
  convQ (haloB s (Cert.Kernel4Ideal.Gen.k0_pay3 x1) xA (View.ld x0 (Rect.unit (s := S512x1024) ![o, 0] ![256, 1024] inb)) xB x2
      (View.ld x3 (Rect.unit ![0, 1536] ![1024, 1536] inb_S1024x5632_S1024x1536_0_1536)))
    (View.ld x5 (Rect.unit ![2, 0] ![1, 1536] inb_S8x1536_S1x1536_2_0)) (View.ld x5 (Rect.unit ![1, 0] ![1, 1536] inb_S8x1536_S1x1536_1_0))
    (View.ld x5 (Rect.unit ![3, 0] ![1, 1536] inb_S8x1536_S1x1536_3_0)) (View.ld x5 (Rect.unit ![0, 0] ![1, 1536] inb_S8x1536_S1x1536_0_0))
    (View.ld x5 (Rect.unit ![4, 0] ![1, 1536] inb_S8x1536_S1x1536_4_0))

/-- What is asked of a sub-tile's neighbours and of its place. -/
structure Sides (x0 : Vec Ideal S512x1024 .f32) (x6 x7 xA xB : Vec Ideal S8x1024 .f32) (s : BitVec 32) (u o : ℕ) : Prop where
  start : o = 0 ∨ o = 256
  before : ∀ (n : Fin 8) (j : Fin 1024), xA (ix2 n j) = xat x0 x6 x7 (o + n) j
  after : ∀ (n : Fin 8) (j : Fin 1024), xB (ix2 n j) = xat x0 x6 x7 (o + (264 + n)) j
  place : u < 2
  first : Scalar.cmpi .sgt s 0#32 = 1#1 ↔ 0 < 2 * u + o / 256
  last : Scalar.cmpi .slt s 3#32 = 1#1 ↔ 2 * u + o / 256 < 3

section
variable (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (x6 x7 xA xB : Vec Ideal S8x1024 .f32) (s : BitVec 32) (u o : ℕ)
  (inb : ∀ e, (![o, 0] : Fin 2 → ℕ) e + (![256, 1024] : Fin 2 → ℕ) e ≤ (![512, 1024] : Fin 2 → ℕ) e) (hS : Sides x0 x6 x7 xA xB s u o)
include hS

theorem halo_at (n : Fin 272) (j : Fin 1536) :
    haloB s (Cert.Kernel4Ideal.Gen.k0_pay3 x1) xA (View.ld x0 (Rect.unit (s := S512x1024) ![o, 0] ![256, 1024] inb)) xB x2
        (View.ld x3 (Rect.unit ![0, 1536] ![1024, 1536] inb_S1024x5632_S1024x1536_0_1536)) (ix2 n j)
      = if 8 ≤ 512 * u + (o + n) ∧ 512 * u + (o + n) < 1032 then srow x0 x1 x2 x3 x4 x6 x7 (o + n) ⟨1536 + j.val, by omega⟩ else 0 := by
  have hn := n.isLt
  have ho := hS.start
  have hu := hS.place
  have hx0 : ∀ h : n.val - 8 < 256, 8 ≤ n.val → ∀ r : Fin 512, r.val = o + (n.val - 8) → (fun j => x0 (ix2 r j)) = xat x0 x6 x7 (o + n) := by
    intro h h8 r hr
    funext j
    unfold xat
    rw [dif_neg (by omega), dif_pos (show o + n.val - 8 < 512 by omega)]
    exact congrArg (fun a => x0 (ix2 a j)) (Fin.ext (by show r.val = o + n.val - 8; omega))
  unfold haloB
  rw [edge_at, prod_at _ _ _ _ n j (pre (xat x0 x6 x7 (o + n)) (fun j => x2 (ix2 (0 : Fin 1) j)) (fun j => x1 (ix3 (0 : Fin 1) (1 : Fin 6) j)) (fun j => x1 (ix3 (0 : Fin 1) (0 : Fin 6) j)))]
  · have hc : ((n.val < 8 → Scalar.cmpi .sgt s 0#32 = 1#1) ∧ (264 ≤ n.val → Scalar.cmpi .slt s 3#32 = 1#1)) ↔ (8 ≤ 512 * u + (o + n) ∧ 512 * u + (o + n) < 1032) := by
      rw [hS.first, hS.last]
      omega
    simp only [hc]
    refine if_congr Iff.rfl ?_ rfl
    unfold srow proj
    refine Finset.sum_congr rfl fun k _ => congrArg _ ?_
    unfold wcol
    rw [dif_pos (by show 1536 + j.val < 5632; omega)]
    exact ld_at x3 0 1536 inb_S1024x5632_S1024x1536_0_1536 k j k _ (Nat.zero_add _).symm rfl
  · intro h k
    rw [edge_row]
    congr 1
    · exact funext fun j => hS.before ⟨n, h⟩ j
    · exact funext fun j => Cert.Kernel2Ideal.Sub.mods_at x1 1 j
    · exact funext fun j => Cert.Kernel2Ideal.Sub.mods_at x1 0 j
  · intro h h8 k
    have := congrFun (norm_row x0 x1 x2 o inb ⟨n - 8, h⟩ ⟨o + (n.val - 8), by omega⟩ rfl) k
    rw [hx0 h h8 _ rfl] at this
    exact this
  · intro h h8 k
    rw [edge_row]
    congr 1
    · funext j
      refine (hS.after ⟨n - 264, h⟩ j).trans (congrArg (fun a => xat x0 x6 x7 a j) ?_)
      show o + (264 + (n.val - 264)) = o + n.val
      omega
    · exact funext fun j => Cert.Kernel2Ideal.Sub.mods_at x1 1 j
    · exact funext fun j => Cert.Kernel2Ideal.Sub.mods_at x1 0 j

theorem seq_at (i : Fin 256) (j : Fin 1536) (r : Fin 512) (hr : (r : ℕ) = o + i) :
    seqB x0 x1 x2 x3 x4 x5 xA xB s o inb (ix2 i j) = crow x0 x1 x2 x3 x4 x5 x6 x7 u r j := by
  unfold seqB convQ crow
  have hi := i.isLt
  rw [act_at, ← taps_centre]
  have hq : ∀ k : ℕ, k < 5 → ∀ h : 6 + (i.val + k) < 272,
      haloB s (Cert.Kernel4Ideal.Gen.k0_pay3 x1) xA (View.ld x0 (Rect.unit (s := S512x1024) ![o, 0] ![256, 1024] inb)) xB x2
        (View.ld x3 (Rect.unit ![0, 1536] ![1024, 1536] inb_S1024x5632_S1024x1536_0_1536)) (ix2 ⟨6 + (i.val + k), h⟩ j)
      = if 2 ≤ 512 * u + (r.val + k) ∧ 512 * u + (r.val + k) < 1026 then srow x0 x1 x2 x3 x4 x6 x7 (6 + (r.val + k)) ⟨1536 + j.val, by omega⟩ else 0 := by
    intro k hk h
    rw [halo_at x0 x1 x2 x3 x4 x6 x7 xA xB s u o inb hS]
    dsimp only
    refine if_congr (by omega) ?_ rfl
    exact congrArg (fun a => srow x0 x1 x2 x3 x4 x6 x7 a _) (by omega)
  have h0 := hq 0 (by omega) (by omega)
  simp only [Nat.add_zero] at h0
  rw [hq 2 (by omega), hq 1 (by omega), hq 3 (by omega), h0, hq 4 (by omega),
    ld_at x5 0 0 inb_S8x1536_S1x1536_0_0 0 j ⟨0, by omega⟩ j rfl (Nat.zero_add _).symm, ld_at x5 1 0 inb_S8x1536_S1x1536_1_0 0 j ⟨1, by omega⟩ j rfl (Nat.zero_add _).symm,
    ld_at x5 2 0 inb_S8x1536_S1x1536_2_0 0 j ⟨2, by omega⟩ j rfl (Nat.zero_add _).symm, ld_at x5 3 0 inb_S8x1536_S1x1536_3_0 0 j ⟨3, by omega⟩ j rfl (Nat.zero_add _).symm,
    ld_at x5 4 0 inb_S8x1536_S1x1536_4_0 0 j ⟨4, by omega⟩ j rfl (Nat.zero_add _).symm]
  rfl

theorem norm_piece (p : ℕ) (hp : 128 * (p / 128) = p) (hq : p + 128 ≤ 1024) (hs : S256x1536.Slices ![0, p] S256x128)
    (inb' : ∀ e, (![o, p] : Fin 2 → ℕ) e + (![256, 128] : Fin 2 → ℕ) e ≤ (![512, 1536] : Fin 2 → ℕ) e)
    (f : Fin 512 → Fin 1536 → ℝ) (hf : ∀ r j, crow x0 x1 x2 x3 x4 x5 x6 x7 u r j = (f r j : EReal)) (y : S256x128.Idx) :
    normC ones (seqB x0 x1 x2 x3 x4 x5 xA xB s o inb) p hs y = cblk x0 x1 x2 x3 x4 x5 x6 x7 u ((Rect.unit (s := S512x1536) ![o, p] ![256, 128] inb').emb y) := by
  have ho := hS.start
  have h0 : (y 0).val < 256 := (y 0).isLt
  have h1 : (y 1).val < 128 := (y 1).isLt
  have hr : ∀ j, seqB x0 x1 x2 x3 x4 x5 xA xB s o inb (ix2 (y 0) j) = crow x0 x1 x2 x3 x4 x5 x6 x7 u ⟨o + (y 0).val, by omega⟩ j := fun j => seq_at x0 x1 x2 x3 x4 x5 x6 x7 xA xB s u o inb hS (y 0) j _ rfl
  refine (congrArg _ (eq_ix2 (n0 := 256) (n1 := 128) y)).trans ((normC_at _ p (by omega) hs (y 0) (y 1) (f ⟨o + (y 0).val, by omega⟩) fun j => (hr j).trans (hf _ j)).trans ?_)
  have e0 : (Rect.unit (s := S512x1536) ![o, p] ![256, 128] inb').emb y 0 = (⟨o + (y 0).val, by omega⟩ : Fin 512) := Fin.ext (by show o + 1 * (y 0).val = o + (y 0).val; omega)
  have e1 : (Rect.unit (s := S512x1536) ![o, p] ![256, 128] inb').emb y 1 = (⟨p + (y 1).val, by omega⟩ : Fin 1536) := Fin.ext (by show p + 1 * (y 1).val = p + (y 1).val; omega)
  unfold cblk normed
  rw [e0, e1, if_pos (by show p + (y 1).val < 1024; omega)]
  simp only [hr]
  refine congrArg (fun v => _ * unit v) (funext fun e => congrArg (crow x0 x1 x2 x3 x4 x5 x6 x7 u _) (Fin.ext ?_))
  show p + (64 * ((y 1).val / 64) + e.val) = 64 * ((p + (y 1).val) / 64) + e.val
  omega

theorem value_piece (p : ℕ) (hp : 1024 ≤ p) (hq : p + 128 ≤ 1536) (hs : S256x1536.Slices ![0, p] S256x128)
    (inb' : ∀ e, (![o, p] : Fin 2 → ℕ) e + (![256, 128] : Fin 2 → ℕ) e ≤ (![512, 1536] : Fin 2 → ℕ) e) (y : S256x128.Idx) :
    truncf (F := Ideal) .bf16 (extractStridedSlice S256x128 ![0, p] (seqB x0 x1 x2 x3 x4 x5 xA xB s o inb) hs) bitsLt_bf16_f32 y
      = cblk x0 x1 x2 x3 x4 x5 x6 x7 u ((Rect.unit (s := S512x1536) ![o, p] ![256, 128] inb').emb y) := by
  have ho := hS.start
  have h0 : (y 0).val < 256 := (y 0).isLt
  have h1 : (y 1).val < 128 := (y 1).isLt
  have e0 : (Rect.unit (s := S512x1536) ![o, p] ![256, 128] inb').emb y 0 = (⟨o + (y 0).val, by omega⟩ : Fin 512) := Fin.ext (by show o + 1 * (y 0).val = o + (y 0).val; omega)
  have e1 : (Rect.unit (s := S512x1536) ![o, p] ![256, 128] inb').emb y 1 = (⟨p + (y 1).val, by omega⟩ : Fin 1536) := Fin.ext (by show p + 1 * (y 1).val = p + (y 1).val; omega)
  unfold cblk normed
  rw [e0, e1, if_neg (by show ¬ p + (y 1).val < 1024; omega)]
  refine Eq.trans ?_ (seq_at x0 x1 x2 x3 x4 x5 x6 x7 xA xB s u o inb hS (y 0) ⟨p + (y 1).val, by omega⟩ _ rfl)
  pointwise
  blk_ext

end

end Cert.Kernel7Ideal.Taps

end
-- ==== Proof.SampTapsOut.lean ====
module

public import proofs.«01_k».proof.Proof.SampTaps

@[expose] public section

set_option maxRecDepth 16384

noncomputable section

namespace Cert.Kernel7Ideal.Taps

open Cert.Kernel7Ideal Cert.Kernel7Ideal.Gen Cert.Merge Cert.Conv Idealize.ShloMosaic Idealize.ShloMosaic.TcCoe Idealize.SL.Sem
open Cert.Kernel2Ideal.Sub (ld_at whole2 whole3)
open Cert.Kernel7Ideal.Samp (p6 p47)

/-! The block of convolved columns is a function of the block of tokens and of the eight tokens on either side. -/

section
variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x5632 .bf16) (harg4 : arg4.IsWhole)
  (arg5 : Memref sig .tc .vmem S1024x128 .bf16) (harg5 : arg5.IsWhole) (arg6 : Memref sig .tc .vmem S8x1536 .f32) (harg6 : arg6.IsWhole) (arg7 : Memref sig .tc .vmem S8x1024 .f32) (harg7 : arg7.IsWhole) (arg8 : Memref sig .tc .vmem S8x1024 .f32) (harg8 : arg8.IsWhole)
  (arg9 : Memref sig .tc .vmem S512x1024 .f32) (harg9 : arg9.IsWhole) (arg10 : Memref sig .tc .vmem S512x1024 .f32) (harg10 : arg10.IsWhole) (arg11 : Memref sig .tc .vmem S512x1536 .bf16) (harg11 : arg11.IsWhole) (arg12 : Memref sig .tc .vmem S512x1536 .bf16) (harg12 : arg12.IsWhole)
  (arg13 : Memref sig .tc .vmem S512x2560 .bf16) (harg13 : arg13.IsWhole) (arg14 : Memref sig .tc .vmem S512x128 .f32) (harg14 : arg14.IsWhole)

  (x0 : Vec Ideal S512x1024 .f32) (x1 : Vec Ideal S1x6x1024 .f32) (x2 : Vec Ideal S1x1024 .f32) (x3 : Vec Ideal S1024x5632 .bf16) (x4 : Vec Ideal S1024x128 .bf16) (x5 : Vec Ideal S8x1536 .f32) (x6 x7 : Vec Ideal S8x1024 .f32) (x8 x9 : Vec Ideal S512x1024 .f32) (u : ℕ)

theorem out_dq (h1 : Sides x0 x6 x7 x6 (View.ld x0 (Rect.unit (s := S512x1024) ![256, 0] ![8, 1024] inb_S512x1024_S8x1024_256_0)) (place (BitVec.ofNat 32 (i 0).val) 0#32) u 0)
    (h2 : Sides x0 x6 x7 (View.ld x0 (Rect.unit (s := S512x1024) ![248, 0] ![8, 1024] inb_S512x1024_S8x1024_248_0)) x7 (place (BitVec.ofNat 32 (i 0).val) 1#32) u 256)
    (f : Fin 512 → Fin 1536 → ℝ) (hf : ∀ r j, crow x0 x1 x2 x3 x4 x5 x6 x7 u r j = (f r j : EReal)) : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = cblk x0 x1 x2 x3 x4 x5 x6 x7 u := by
  funext y
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces (cblk x0 x1 x2 x3 x4 x5 x6 x7 u) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg6.read_unread, harg7.read_unread, harg8.read_unread, whole2, whole3, p6, p47, seq_first, seq_second]
  rintro p hp j
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl
  · exact value_piece x0 x1 x2 x3 x4 x5 x6 x7 _ _ _ u 256 inb_S512x1024_S256x1024_256_0 h2 1408 (by omega) (by omega) slices_S256x1536_o0_1408_S256x128 inb_S512x1536_S256x128_256_1408 j
  · exact value_piece x0 x1 x2 x3 x4 x5 x6 x7 _ _ _ u 256 inb_S512x1024_S256x1024_256_0 h2 1280 (by omega) (by omega) slices_S256x1536_o0_1280_S256x128 inb_S512x1536_S256x128_256_1280 j
  · exact value_piece x0 x1 x2 x3 x4 x5 x6 x7 _ _ _ u 256 inb_S512x1024_S256x1024_256_0 h2 1152 (by omega) (by omega) slices_S256x1536_o0_1152_S256x128 inb_S512x1536_S256x128_256_1152 j
  · exact value_piece x0 x1 x2 x3 x4 x5 x6 x7 _ _ _ u 256 inb_S512x1024_S256x1024_256_0 h2 1024 (by omega) (by omega) slices_S256x1536_o0_1024_S256x128 inb_S512x1536_S256x128_256_1024 j
  · exact norm_piece x0 x1 x2 x3 x4 x5 x6 x7 _ _ _ u 256 inb_S512x1024_S256x1024_256_0 h2 896 (by omega) (by omega) slices_S256x1536_o0_896_S256x128 inb_S512x1536_S256x128_256_896 f hf j
  · exact norm_piece x0 x1 x2 x3 x4 x5 x6 x7 _ _ _ u 256 inb_S512x1024_S256x1024_256_0 h2 768 (by omega) (by omega) slices_S256x1536_o0_768_S256x128 inb_S512x1536_S256x128_256_768 f hf j
  · exact norm_piece x0 x1 x2 x3 x4 x5 x6 x7 _ _ _ u 256 inb_S512x1024_S256x1024_256_0 h2 640 (by omega) (by omega) slices_S256x1536_o0_640_S256x128 inb_S512x1536_S256x128_256_640 f hf j
  · exact norm_piece x0 x1 x2 x3 x4 x5 x6 x7 _ _ _ u 256 inb_S512x1024_S256x1024_256_0 h2 512 (by omega) (by omega) slices_S256x1536_o0_512_S256x128 inb_S512x1536_S256x128_256_512 f hf j
  · exact norm_piece x0 x1 x2 x3 x4 x5 x6 x7 _ _ _ u 256 inb_S512x1024_S256x1024_256_0 h2 384 (by omega) (by omega) slices_S256x1536_o0_384_S256x128 inb_S512x1536_S256x128_256_384 f hf j
  · exact norm_piece x0 x1 x2 x3 x4 x5 x6 x7 _ _ _ u 256 inb_S512x1024_S256x1024_256_0 h2 256 (by omega) (by omega) slices_S256x1536_o0_256_S256x128 inb_S512x1536_S256x128_256_256 f hf j
  · exact norm_piece x0 x1 x2 x3 x4 x5 x6 x7 _ _ _ u 256 inb_S512x1024_S256x1024_256_0 h2 128 (by omega) (by omega) slices_S256x1536_o0_128_S256x128 inb_S512x1536_S256x128_256_128 f hf j
  · exact norm_piece x0 x1 x2 x3 x4 x5 x6 x7 _ _ _ u 256 inb_S512x1024_S256x1024_256_0 h2 0 (by omega) (by omega) slices_S256x1536_o0_0_S256x128 inb_S512x1536_S256x128_256_0 f hf j
  · exact value_piece x0 x1 x2 x3 x4 x5 x6 x7 _ _ _ u 0 inb_S512x1024_S256x1024_0_0 h1 1408 (by omega) (by omega) slices_S256x1536_o0_1408_S256x128 inb_S512x1536_S256x128_0_1408 j
  · exact value_piece x0 x1 x2 x3 x4 x5 x6 x7 _ _ _ u 0 inb_S512x1024_S256x1024_0_0 h1 1280 (by omega) (by omega) slices_S256x1536_o0_1280_S256x128 inb_S512x1536_S256x128_0_1280 j
  · exact value_piece x0 x1 x2 x3 x4 x5 x6 x7 _ _ _ u 0 inb_S512x1024_S256x1024_0_0 h1 1152 (by omega) (by omega) slices_S256x1536_o0_1152_S256x128 inb_S512x1536_S256x128_0_1152 j
  · exact value_piece x0 x1 x2 x3 x4 x5 x6 x7 _ _ _ u 0 inb_S512x1024_S256x1024_0_0 h1 1024 (by omega) (by omega) slices_S256x1536_o0_1024_S256x128 inb_S512x1536_S256x128_0_1024 j
  · exact norm_piece x0 x1 x2 x3 x4 x5 x6 x7 _ _ _ u 0 inb_S512x1024_S256x1024_0_0 h1 896 (by omega) (by omega) slices_S256x1536_o0_896_S256x128 inb_S512x1536_S256x128_0_896 f hf j
  · exact norm_piece x0 x1 x2 x3 x4 x5 x6 x7 _ _ _ u 0 inb_S512x1024_S256x1024_0_0 h1 768 (by omega) (by omega) slices_S256x1536_o0_768_S256x128 inb_S512x1536_S256x128_0_768 f hf j
  · exact norm_piece x0 x1 x2 x3 x4 x5 x6 x7 _ _ _ u 0 inb_S512x1024_S256x1024_0_0 h1 640 (by omega) (by omega) slices_S256x1536_o0_640_S256x128 inb_S512x1536_S256x128_0_640 f hf j
  · exact norm_piece x0 x1 x2 x3 x4 x5 x6 x7 _ _ _ u 0 inb_S512x1024_S256x1024_0_0 h1 512 (by omega) (by omega) slices_S256x1536_o0_512_S256x128 inb_S512x1536_S256x128_0_512 f hf j
  · exact norm_piece x0 x1 x2 x3 x4 x5 x6 x7 _ _ _ u 0 inb_S512x1024_S256x1024_0_0 h1 384 (by omega) (by omega) slices_S256x1536_o0_384_S256x128 inb_S512x1536_S256x128_0_384 f hf j
  · exact norm_piece x0 x1 x2 x3 x4 x5 x6 x7 _ _ _ u 0 inb_S512x1024_S256x1024_0_0 h1 256 (by omega) (by omega) slices_S256x1536_o0_256_S256x128 inb_S512x1536_S256x128_0_256 f hf j
  · exact norm_piece x0 x1 x2 x3 x4 x5 x6 x7 _ _ _ u 0 inb_S512x1024_S256x1024_0_0 h1 128 (by omega) (by omega) slices_S256x1536_o0_128_S256x128 inb_S512x1536_S256x128_0_128 f hf j
  · exact norm_piece x0 x1 x2 x3 x4 x5 x6 x7 _ _ _ u 0 inb_S512x1024_S256x1024_0_0 h1 0 (by omega) (by omega) slices_S256x1536_o0_0_S256x128 inb_S512x1536_S256x128_0_0 f hf j

end

end Cert.Kernel7Ideal.Taps

end
-- ==== Proof.SampConvVal.lean ====
module

public import proofs.«01_k».proof.Proof.Gen.Pre_finite_tokens
public import proofs.«01_k».proof.Proof.SampTapsOut
public import proofs.«01_k».proof.Proof.SampVal
public import proofs.«01_k».proof.Proof.ConvVal

@[expose] public section

set_option maxRecDepth 16384

noncomputable section

namespace Cert.Conv.IsReal

theorem around {P : Fin 1024 → EReal} (h : ∀ t, IsReal (P t)) (n : ℕ) : IsReal (around P n) := by
  unfold Conv.around
  split
  · exact h _
  · exact zero

theorem taps {q : ℕ → EReal} {w : Fin 5 → EReal} (h : ∀ n, IsReal (q n)) (hw : ∀ s, IsReal (w s)) (t : ℕ) : IsReal (taps q w t) :=
  (((((h _).mul (hw _)).add ((h _).mul (hw _))).add ((h _).mul (hw _))).add ((h _).mul (hw _))).add ((h _).mul (hw _))

end Cert.Conv.IsReal

namespace Cert.Pre_finite_tokens.Reals

open Cert.Pre_finite_tokens Cert.Pre_finite_tokens.Gen Cert.Conv Idealize.ShloMosaic Idealize.ShloMosaic.TcCoe Idealize.SL.Sem
open Cert.Pre_finite_in.Reals (all_real)

theorem reals (x : FVec Ideal S4x1024x1024 .f32) (m : FVec Ideal S8x6x1024 .f32) (n : FVec Ideal S1024 .f32) (w : FVec Ideal S1024x5664 .f32) (k : FVec Ideal S5x1536 .f32)
    (h : Cert.Pre_finite_tokens.fn (F := Ideal) x m n w k = fun _ => 1#1) :
    (∀ j, IsReal (x j)) ∧ (∀ j, IsReal (m j)) ∧ (∀ j, IsReal (n j)) ∧ (∀ j, IsReal (w j)) ∧ ∀ j, IsReal (k j) := by
  have h2 : ∀ p q : BitVec 1, IntOp.andi p q = 1#1 → p = 1#1 ∧ q = 1#1 := by decide
  have a := h2 _ _ (congrFun h ix0)
  have b := h2 _ _ a.1
  have c := h2 _ _ b.1
  have d := h2 _ _ c.1
  exact ⟨all_real x bcast_S_S4x1024x1024 reducesTo_S4x1024x1024_S_d0_1_2 h_S_ d.1, all_real m bcast_S_S8x6x1024 reducesTo_S8x6x1024_S_d0_1_2 h_S_ d.2,
    all_real n bcast_S_S1024 reducesTo_S1024_S_d0 h_S_ c.2, all_real w bcast_S_S1024x5664 reducesTo_S1024x5664_S_d0_1 h_S_ b.2, all_real k bcast_S_S5x1536 reducesTo_S5x1536_S_d0_1 h_S_ a.2⟩

end Cert.Pre_finite_tokens.Reals

namespace Cert.Kernel7Ideal.Taps

open Cert.Kernel7Ideal Cert.Kernel7Ideal.Gen Cert.Merge Cert.Conv Cert.Kernel7Ideal.Samp Idealize.ShloMosaic Idealize.ShloMosaic.TcCoe Idealize.SL.Sem
open Idealize.ShloMosaic.Pipeline (Dat)
open Cert.Kernel2Ideal.Sub (ld_at)
open Cert.Kernel3Ideal.Sub (rows rows_val)
open Cert.Kernel4Ideal.Conv (wrows wrows_val)
open Cert.Kernel4Ideal.In (wcol)
open Cert.Reference7Ideal.Samp (PROJ proj_val)
open Cert.Reference8Ideal.Conv (DQKV dqkv_val crowR)

/-- The neighbours and the place of the first sub-tile. -/
theorem sides_first (x0 : Vec Ideal S512x1024 .f32) (x6 x7 : Vec Ideal S8x1024 .f32) (a : ℕ) (ha : a < 8) :
    Sides x0 x6 x7 x6 (View.ld x0 (Rect.unit (s := S512x1024) ![256, 0] ![8, 1024] inb_S512x1024_S8x1024_256_0)) (place (BitVec.ofNat 32 a) 0#32) (a % 2) 0 where
  start := Or.inl rfl
  before n j := by
    unfold xat
    rw [dif_pos (show 0 + n.val < 8 by omega)]
    exact congrArg (fun b => x6 (ix2 b j)) (Fin.ext (Nat.zero_add _).symm)
  after n j := by
    unfold xat
    rw [dif_neg (show ¬ 0 + (264 + n.val) < 8 by omega), dif_pos (show 0 + (264 + n.val) - 8 < 512 by omega)]
    exact ld_at x0 256 0 inb_S512x1024_S8x1024_256_0 n j _ j (by show 0 + (264 + n.val) - 8 = 256 + n.val; omega) (Nat.zero_add _).symm
  place := by omega
  first := place_first ⟨a, ha⟩ 0
  last := place_last ⟨a, ha⟩ 0

/-- The neighbours and the place of the second sub-tile. -/
theorem sides_second (x0 : Vec Ideal S512x1024 .f32) (x6 x7 : Vec Ideal S8x1024 .f32) (a : ℕ) (ha : a < 8) :
    Sides x0 x6 x7 (View.ld x0 (Rect.unit (s := S512x1024) ![248, 0] ![8, 1024] inb_S512x1024_S8x1024_248_0)) x7 (place (BitVec.ofNat 32 a) 1#32) (a % 2) 256 where
  start := Or.inr rfl
  before n j := by
    unfold xat
    rw [dif_neg (show ¬ 256 + n.val < 8 by omega), dif_pos (show 256 + n.val - 8 < 512 by omega)]
    exact ld_at x0 248 0 inb_S512x1024_S8x1024_248_0 n j _ j (by show 256 + n.val - 8 = 248 + n.val; omega) (Nat.zero_add _).symm
  after n j := by
    unfold xat
    rw [dif_neg (show ¬ 256 + (264 + n.val) < 8 by omega), dif_neg (show ¬ 256 + (264 + n.val) - 8 < 512 by omega), dif_pos (show 256 + (264 + n.val) - 520 < 8 by omega)]
    exact congrArg (fun b => x7 (ix2 b j)) (Fin.ext (by show n.val = 256 + (264 + n.val) - 520; omega))
  place := by omega
  first := place_first ⟨a, ha⟩ 1
  last := place_last ⟨a, ha⟩ 1

variable (m : (ℓ : Loc nD τ sig) → Buf (Elt Ideal) ℓ)

theorem staged_k (c : Dev nD) : ∃ v, V m c main_v0 = wrows (m ((c.tc : Thread nD τ).loc main_arg4)) v := ⟨_, rfl⟩

theorem idk : ∀ t : Fin cfg0.N, win0_5.index t = ![0, 0] ∧ win0_6.index t = ![64 * t.val - 1, 0] ∧ win0_7.index t = ![min (64 * (t.val + 1)) 511, 0] ∧ win0_11.index t = ![t.val, 0] :=
  (by decide +kernel : ∀ t : Fin grid0.N, _)

theorem coord : ∀ t : Fin cfg0.N, (grid0.coords t 0).val = t.val :=
  (by decide +kernel : ∀ t : Fin grid0.N, _)

theorem k_at (c : Dev nD) (t : Fin cfg0.N) (s : Fin 5) (j : Fin 1536) : iblk m c 5 t (ix2 ⟨s, by omega⟩ j) = m ((c.tc : Thread nD τ).loc main_arg4) (ix2 s j) := by
  obtain ⟨v, hv⟩ := staged_k m c
  refine Eq.trans ?_ (wrows_val (m ((c.tc : Thread nD τ).loc main_arg4)) v s j)
  rw [← hv]
  blk_ext [iblk, idk t]

theorem before_at (c : Dev nD) (t : Fin cfg0.N) (r : Fin 8) (j : Fin 1024) (n : Fin 4096) (hn : n.val + 8 = 512 * t + r) :
    iblk m c 6 t (ix2 r j) = m ((c.tc : Thread nD τ).loc main_arg0) (ix3 ⟨n / 1024, by omega⟩ ⟨n % 1024, by omega⟩ j) := by
  refine Eq.trans ?_ (rows_val (m ((c.tc : Thread nD τ).loc main_arg0)) n j)
  rw [← staged_x m c]
  blk_ext [iblk, idk t]

theorem after_at (c : Dev nD) (t : Fin cfg0.N) (r : Fin 8) (j : Fin 1024) (n : Fin 4096) (hn : n.val = 512 * t + (512 + r)) :
    iblk m c 7 t (ix2 r j) = m ((c.tc : Thread nD τ).loc main_arg0) (ix3 ⟨n / 1024, by omega⟩ ⟨n % 1024, by omega⟩ j) := by
  refine Eq.trans ?_ (rows_val (m ((c.tc : Thread nD τ).loc main_arg0)) n j)
  rw [← staged_x m c]
  have hm : min (64 * (t.val + 1)) 511 = 64 * (t.val + 1) := by omega
  blk_ext [iblk, idk t, hm]

theorem xat_at (c : Dev nD) (t : Fin cfg0.N) (k : ℕ) (hk : k < 528) (j : Fin 1024) (n : Fin 4096) (hn : n.val + 8 = 512 * t + k) :
    xat (iblk m c 0 t) (iblk m c 6 t) (iblk m c 7 t) k j = m ((c.tc : Thread nD τ).loc main_arg0) (ix3 ⟨n / 1024, by omega⟩ ⟨n % 1024, by omega⟩ j) := by
  unfold xat
  rcases (by omega : k < 8 ∨ (8 ≤ k ∧ k < 520) ∨ 520 ≤ k) with h | h | h
  · rw [dif_pos h]
    exact before_at m c t ⟨k, h⟩ j n hn
  · rw [dif_neg (by omega), dif_pos (show k - 8 < 512 by omega)]
    exact x_at m c t ⟨k - 8, by omega⟩ j n (by show n.val = 512 * t.val + (k - 8); omega)
  · rw [dif_neg (by omega), dif_neg (by omega), dif_pos (show k - 520 < 8 by omega)]
    exact after_at m c t ⟨k - 520, by omega⟩ j n (by show n.val = 512 * t.val + (512 + (k - 520)); omega)

theorem srow_at (c : Dev nD) (t : Fin cfg0.N) (ht : t.val < 8) (k : ℕ) (hk : k < 528) (h1 : 8 ≤ 512 * (t.val % 2) + k) (h2 : 512 * (t.val % 2) + k < 1032) (j : Fin 5664) :
    srow (iblk m c 0 t) (iblk m c 1 t) (iblk m c 2 t) (X0_3 m c t) (iblk m c 4 t) (iblk m c 6 t) (iblk m c 7 t) k j
      = tok m c (ix3 ⟨t.val / 2, by omega⟩ ⟨512 * (t.val % 2) + k - 8, by omega⟩ j) := by
  unfold srow tok
  rw [proj_val, wcol_eq]
  have hx : xat (iblk m c 0 t) (iblk m c 6 t) (iblk m c 7 t) k = fun j => m ((c.tc : Thread nD τ).loc main_arg0) (ix3 ⟨t.val / 2, by omega⟩ ⟨512 * (t.val % 2) + k - 8, by omega⟩ j) := by
    funext j
    refine (xat_at m c t k hk j ⟨512 * t.val + k - 8, by omega⟩ (by show 512 * t.val + k - 8 + 8 = _; omega)).trans ?_
    exact congrArg₂ (fun a b => m ((c.tc : Thread nD τ).loc main_arg0) (ix3 a b j)) (Fin.ext (by show (512 * t.val + k - 8) / 1024 = t.val / 2; omega))
      (Fin.ext (by show (512 * t.val + k - 8) % 1024 = 512 * (t.val % 2) + k - 8; omega))
  rw [hx]
  simp only [fun k j => m_at m c t k j ⟨t.val / 2, by omega⟩ rfl, n_at]

theorem crow_at (c : Dev nD) (t : Fin cfg0.N) (ht : t.val < 8) (r : Fin 512) (j : Fin 1536) (n : Fin 4096) (hn : n.val = 512 * t + r) :
    crow (iblk m c 0 t) (iblk m c 1 t) (iblk m c 2 t) (X0_3 m c t) (iblk m c 4 t) (iblk m c 5 t) (iblk m c 6 t) (iblk m c 7 t) (t.val % 2) r j
      = crowR (tok m c) (m ((c.tc : Thread nD τ).loc main_arg4)) ⟨n / 1024, by omega⟩ ⟨n % 1024, by omega⟩ j := by
  unfold crow crowR
  have hr := r.isLt
  simp only [k_at]
  rw [show (⟨n.val / 1024, by omega⟩ : Fin 4) = ⟨t.val / 2, by omega⟩ from Fin.ext (by show n.val / 1024 = t.val / 2; omega), show n.val % 1024 = 512 * (t.val % 2) + r.val by omega]
  have hq : ∀ k : ℕ, k < 516 → (if 2 ≤ 512 * (t.val % 2) + k ∧ 512 * (t.val % 2) + k < 1026
      then srow (iblk m c 0 t) (iblk m c 1 t) (iblk m c 2 t) (X0_3 m c t) (iblk m c 4 t) (iblk m c 6 t) (iblk m c 7 t) (6 + k) ⟨1536 + j.val, by omega⟩ else 0)
      = around (fun u => tok m c (ix3 ⟨t.val / 2, by omega⟩ u ⟨1536 + j.val, by omega⟩)) (512 * (t.val % 2) + k) := by
    intro k hk
    unfold around
    by_cases h : 2 ≤ 512 * (t.val % 2) + k ∧ 512 * (t.val % 2) + k < 1026
    · rw [if_pos h, dif_pos h, srow_at m c t ht (6 + k) (by omega) (by omega) (by omega)]
      exact congrArg (fun a => tok m c (ix3 _ a _)) (Fin.ext (by show 512 * (t.val % 2) + (6 + k) - 8 = 512 * (t.val % 2) + k - 2; omega))
    · rw [if_neg h, dif_neg h]
  refine congrArg silu ?_
  unfold taps
  dsimp only
  rw [hq r (by omega), hq (r + 1) (by omega), hq (r + 2) (by omega), hq (r + 3) (by omega), hq (r + 4) (by omega)]
  rfl

/-- Every argument is a real, entry by entry. -/
def Real8 (c : Dev nD) : Prop :=
  (∀ j, IsReal (m ((c.tc : Thread nD τ).loc main_arg0) j)) ∧ (∀ j, IsReal (m ((c.tc : Thread nD τ).loc main_arg1) j)) ∧ (∀ j, IsReal (m ((c.tc : Thread nD τ).loc main_arg2) j))
    ∧ (∀ j, IsReal (m ((c.tc : Thread nD τ).loc main_arg3) j)) ∧ ∀ j, IsReal (m ((c.tc : Thread nD τ).loc main_arg4) j)

theorem real_row (c : Dev nD) (h : Real8 m c) (b : Fin 4) (t : Fin 1024) (j : Fin 1536) : IsReal (crowR (tok m c) (m ((c.tc : Thread nD τ).loc main_arg4)) b t j) := by
  obtain ⟨h0, h1, h2, h3, h4⟩ := h
  refine IsReal.silu (IsReal.taps (fun n => IsReal.around (fun u => ?_) n) (fun s => h4 _) _)
  unfold tok
  rw [proj_val]
  exact IsReal.proj (fun x => IsReal.pre (fun _ => h0 _) (fun _ => h2 _) (fun _ => h1 _) (fun _ => h1 _) x) (fun _ _ => h3 _) _

theorem outs_dq (c : Dev nD) (t : Fin cfg0.N) (ht : t.val < 8) (h : Real8 m c) :
    (outsAt0 m c t).2.1 = cblk (iblk m c 0 t) (iblk m c 1 t) (iblk m c 2 t) (X0_3 m c t) (iblk m c 4 t) (iblk m c 5 t) (iblk m c 6 t) (iblk m c 7 t) (t.val % 2) := by
  have hf : ∀ r j, ∃ f : ℝ, crow (iblk m c 0 t) (iblk m c 1 t) (iblk m c 2 t) (X0_3 m c t) (iblk m c 4 t) (iblk m c 5 t) (iblk m c 6 t) (iblk m c 7 t) (t.val % 2) r j = (f : EReal) := fun r j => by
    rw [crow_at m c t ht r j ⟨512 * t + r, by omega⟩ rfl]
    exact real_row m c h _ _ j
  choose f hf using hf
  unfold outsAt0
  dsimp only
  exact out_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (X0_3 m c t) (iblk m c 4 t) (iblk m c 5 t) (iblk m c 6 t) (iblk m c 7 t) (iblk m c 8 t) (iblk m c 9 t) (t.val % 2)
    (by rw [coord t]; exact sides_first _ _ _ t.val ht) (by rw [coord t]; exact sides_second _ _ _ t.val ht) f hf

theorem point_dq (c : Dev nD) (t : Fin cfg0.N) (ht : t.val < 8) (h : Real8 m c) (r : Fin 512) (j : Fin 1536) :
    (outsAt0 m c t).2.1 (ix2 r j) = DQKV (tok m c) (m ((c.tc : Thread nD τ).loc main_arg4)) (ix2 ⟨512 * t + r, by omega⟩ j) := by
  rw [outs_dq m c t ht h, dqkv_val]
  exact congrArg (fun y => normed y j) (funext fun j => crow_at m c t ht r j _ rfl)

/-- The convolved array, whenever every argument is finite. -/
theorem final_dq (c : Dev nD) (h : Real8 m c) : (dats m 0 c).arrAt 11 cfg0.N = DQKV (tok m c) (m ((c.tc : Thread nD τ).loc main_arg4)) := by
  refine (dats m 0 c).arrAt_eq_of_covers 11 _ (by decide +kernel) fun t _ y => ?_
  have ht : t.val < 8 := lt_of_lt_of_eq t.isLt (by decide +kernel)
  blk_simp
  rw [after0_11]
  have ey : y = ix2 (n0 := 512) (n1 := 1536) (y 0) (y 1) := by
    blk_ext
  have ez : (win0_11.blk t).view.emb y = ix2 (n0 := 4096) (n1 := 1536) ⟨512 * t + (y 0 : ℕ), by have : (y 0 : ℕ) < 512 := (y 0).isLt; clear * - this ht; omega⟩ (y 1) := by
    blk_ext [idk t]
  rw [ez]
  exact (congrArg _ ey).trans (point_dq m c t ht h (y 0) (y 1))

end Cert.Kernel7Ideal.Taps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference3Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.ReferenceIdeal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_in
public import proofs.«01_k».proof.Proof.Gen.Pre_finite_tokens
public import proofs.«01_k».proof.Proof.CtxVal
public import proofs.«01_k».proof.Proof.Finite
public import proofs.«01_k».proof.Proof.MergeVal
public import proofs.«01_k».proof.Proof.MergeVal3
public import proofs.«01_k».proof.Proof.InVal
public import proofs.«01_k».proof.Proof.ConvVal
public import proofs.«01_k».proof.Proof.AdaVal
public import proofs.«01_k».proof.Proof.SampVal
public import proofs.«01_k».proof.Proof.SampConvVal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run leaves its arguments and every counter as they were. -/
theorem reference_frame : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The prompt attention's array is the reference's, whenever queries and keys are finite. -/
theorem attention : Cert.algebraic_KernelIdeal_ReferenceIdeal_pre_finite_qk := by
  pair_intro
  · run_from Cert.KernelIdeal.Gen.run_main m g
  · run_from Cert.ReferenceIdeal.Value.run m' g'
    obtain ⟨hq, hk⟩ := Cert.Pre_finite_qk.Reals.reals _ _ _ (hpre c)
    choose Qr hQ using hq
    choose Kr hK using hk
    exact (Cert.KernelIdeal.Attn.final m c Qr Kr hQ hK).symm

theorem prompt_frame : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

theorem sample_frame : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The prompt's merge and feed-forward call gives the reference's array, whatever the arguments. -/
theorem prompt_out : Cert.algebraic_Kernel2Ideal_Reference2Ideal := by
  pair_intro
  · run_from Cert.Kernel2Ideal.Gen.run_main m g
  · run_from Cert.Reference2Ideal.Merge.run m' g'
    exact (Cert.Kernel2Ideal.Sub.final m c).symm

/-- So does the samples' call. -/
theorem sample_out : Cert.algebraic_Kernel3Ideal_Reference3Ideal := by
  pair_intro
  · run_from Cert.Kernel3Ideal.Gen.run_main m g
  · run_from Cert.Reference3Ideal.Merge.run m' g'
    exact (Cert.Kernel3Ideal.Sub.final m c).symm

theorem input_frame : Cert.quiescent_Reference4Ideal := fun m ρ _ =>
  (θ_run Cert.Reference4Ideal.defs _ _).mono (fun r h => ⟨fun c => (h c).2.2.2.2.2, sem_eq_zero_of_no_sems (by decide) r.2⟩) (Cert.Reference4Ideal.Value.run m ρ)

/-- The prompt's input projection gives the reference's five arrays, whatever the arguments. -/
theorem input_out : Cert.algebraic_Kernel4Ideal_Reference4Ideal := by
  pair_intro
  · run_from Cert.Kernel4Ideal.Value.run_blocks m g
  · run_from Cert.Reference4Ideal.In.run m' g'
    · exact (Cert.Kernel4Ideal.In.final_qkv m c).symm
    · exact (Cert.Kernel4Ideal.In.final_gz m c).symm
    · exact (Cert.Kernel4Ideal.In.final_ba m c).symm
    · exact (Cert.Kernel4Ideal.In.final_kc m c).symm
    · exact (Cert.Kernel4Ideal.In.final_vc m c).symm

theorem conv_frame : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The convolved and normed columns are the reference's, whenever the arguments are finite. -/
theorem conv_out : Cert.algebraic_Kernel5Ideal_Reference5Ideal_pre_finite_in := by
  pair_intro
  · run_from Cert.Kernel5Ideal.Value.run_blocks m g
  · run_from Cert.Reference5Ideal.Conv.run m' g'
    exact (Cert.Kernel4Ideal.Conv.final_dq m c (Cert.Pre_finite_in.Reals.reals _ _ _ _ _ (hpre c))).symm

theorem mods_frame : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The modulation vectors are the reference's, whatever the arguments. -/
theorem mods_out : Cert.algebraic_Kernel6Ideal_Reference6Ideal := by
  pair_intro
  · run_from Cert.Kernel6Ideal.Value.run_blocks m g
  · run_from Cert.Reference6Ideal.Ada.run m' g'
    exact (Cert.Kernel6Ideal.Ada.final m c).symm

theorem tokens_frame : Cert.quiescent_Reference7Ideal := fun m ρ _ =>
  (θ_run Cert.Reference7Ideal.defs _ _).mono (fun r h => ⟨fun c => (h c).2.2.2, sem_eq_zero_of_no_sems (by decide) r.2⟩) (Cert.Reference7Ideal.Value.run m ρ)

/-- The samples' input projection gives three of the reference's arrays, whatever the arguments. -/
theorem tokens_out : Cert.algebraic_Kernel7Ideal_Reference7Ideal := by
  pair_intro
  · run_from Cert.Kernel7Ideal.Value.run_blocks m g
  · run_from Cert.Reference7Ideal.Samp.run m' g'
    · exact (Cert.Kernel7Ideal.Samp.final_qkv m _ c).symm
    · exact (Cert.Kernel7Ideal.Samp.final_gz m c).symm
    · exact (Cert.Kernel7Ideal.Samp.final_ba m c).symm

theorem taps_frame : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

set_option maxHeartbeats 4000000 in
/-- The samples' convolved and normed columns are the reference's, whenever the arguments are finite. -/
theorem taps_out : Cert.algebraic_Kernel8Ideal_Reference8Ideal_pre_finite_tokens := by
  pair_intro
  · run_from Cert.Kernel8Ideal.Value.run_blocks m g
  · run_from Cert.Reference8Ideal.Conv.run m' g'
    exact (Cert.Kernel7Ideal.Taps.final_dq m c (Cert.Pre_finite_tokens.Reals.reals _ _ _ _ _ (hpre c))).symm

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite_qk.Gen.facts, Cert.Pre_finite_in.Gen.facts, Cert.Pre_finite_tokens.Gen.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial,
  fun m ρ _ => Cert.Kernel2.Gen.frame m ρ, fun m ρ _ => Cert.Kernel2Ideal.Gen.frame m ρ, fun m ρ _ => prompt_frame m ρ trivial,
  fun m ρ _ => Cert.Kernel3.Gen.frame m ρ, fun m ρ _ => Cert.Kernel3Ideal.Gen.frame m ρ, fun m ρ _ => sample_frame m ρ trivial,
  fun m ρ _ => Cert.Kernel4.Gen.frame m ρ, fun m ρ _ => Cert.Kernel4Ideal.Gen.frame m ρ, fun m ρ _ => input_frame m ρ trivial,
  fun m ρ _ => Cert.Kernel5.Gen.frame m ρ, fun m ρ _ => Cert.Kernel5Ideal.Gen.frame m ρ, fun m ρ _ => Cert.Kernel5Ideal.Gen.frame m ρ,
  fun m ρ _ => conv_frame m ρ trivial, fun m ρ _ => conv_frame m ρ trivial,
  fun m ρ _ => Cert.Kernel6.Gen.frame m ρ, fun m ρ _ => Cert.Kernel6Ideal.Gen.frame m ρ, fun m ρ _ => mods_frame m ρ trivial,
  fun m ρ _ => Cert.Kernel7.Gen.frame m ρ, fun m ρ _ => Cert.Kernel7Ideal.Gen.frame m ρ, fun m ρ _ => tokens_frame m ρ trivial,
  fun m ρ _ => Cert.Kernel8.Gen.frame m ρ, fun m ρ _ => Cert.Kernel8Ideal.Gen.frame m ρ, fun m ρ _ => Cert.Kernel8Ideal.Gen.frame m ρ,
  fun m ρ _ => taps_frame m ρ trivial, fun m ρ _ => taps_frame m ρ trivial,
  trivial, attention, trivial, prompt_out, trivial, sample_out, trivial, input_out, trivial, conv_out, trivial, mods_out, trivial, tokens_out, trivial, taps_out⟩

end Cert.Proof

end
